-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v66) = v1 c
          ∧ r.2.mem ((c.tc : Thread Cert.Reference3Ideal.nD Cert.Reference3Ideal.τ).loc Cert.Reference3Ideal.main_v131) = v2 c
          ∧ r.2.mem ((c.tc : Thread Cert.Reference3Ideal.nD Cert.Reference3Ideal.τ).loc Cert.Reference3Ideal.main_v132) = v3 c
          ∧ r.2.mem ((c.tc : Thread Cert.Reference3Ideal.nD Cert.Reference3Ideal.τ).loc Cert.Reference3Ideal.main_v197) = v4 c
          ∧ r.2.mem ((c.tc : Thread Cert.Reference3Ideal.nD Cert.Reference3Ideal.τ).loc Cert.Reference3Ideal.main_v198) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x8x128 : Shape := ⟨3, ![4, 8, 128]⟩
abbrev S4x4x8x128 : Shape := ⟨4, ![4, 4, 8, 128]⟩
abbrev S1x8x128 : Shape := ⟨3, ![1, 8, 128]⟩
abbrev S1x4x8x128 : Shape := ⟨4, ![1, 4, 8, 128]⟩
abbrev S1024x1024 : Shape := ⟨2, ![1024, 1024]⟩
abbrev S1024x128 : Shape := ⟨2, ![1024, 128]⟩
abbrev S8x128 : Shape := ⟨2, ![8, 128]⟩
abbrev S1x1x8x128 : Shape := ⟨4, ![1, 1, 8, 128]⟩
abbrev S1x128 : Shape := ⟨2, ![1, 128]⟩
abbrev S128x128 : Shape := ⟨2, ![128, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S256x128 : Shape := ⟨2, ![256, 128]⟩
abbrev S384x128 : Shape := ⟨2, ![384, 128]⟩
abbrev S512x128 : Shape := ⟨2, ![512, 128]⟩
abbrev S640x128 : Shape := ⟨2, ![640, 128]⟩
abbrev S768x128 : Shape := ⟨2, ![768, 128]⟩
abbrev S896x128 : Shape := ⟨2, ![896, 128]⟩

abbrev nBuf : Space → Nat
  | .hbm => 3
  | .vmem => 8
  | .smem => 0
  | _ => 0

abbrev bufTy : (tb : Table) → Fin (tcTables nBuf tb) → BufTy
  | .hbm, ⟨0, _⟩ => ⟨S4x8x128, .f32⟩
  | .hbm, ⟨1, _⟩ => ⟨S4x4x8x128, .f32⟩
  | .hbm, ⟨2, _⟩ => ⟨S4x8x128, .f32⟩
  | .local _ .vmem, ⟨0, _⟩ => ⟨S1x8x128, .f32⟩
  | .local _ .vmem, ⟨1, _⟩ => ⟨S1x8x128, .f32⟩
  | .local _ .vmem, ⟨2, _⟩ => ⟨S1x4x8x128, .f32⟩
  | .local _ .vmem, ⟨3, _⟩ => ⟨S1x4x8x128, .f32⟩
  | .local _ .vmem, ⟨4, _⟩ => ⟨S1x8x128, .f32⟩
  | .local _ .vmem, ⟨5, _⟩ => ⟨S1x8x128, .f32⟩
  | .local _ .vmem, ⟨6, _⟩ => ⟨S1024x1024, .f32⟩
  | .local _ .vmem, ⟨7, _⟩ => ⟨S1024x128, .f32⟩
  | _, _ => ⟨S4x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c128_i32_275 : BitVec 32 := 128#32
  let v1574 : BitVec 32 := Scalar.addi c0_i32 c128_i32_275
  let c1_i32 : BitVec 32 := 1#32
  ⟨c0_i32, v1574, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off1 (k0_t1 : Fin k0_t1_loop.trips) : Fin 2 → Nat :=
  let c0_i32_394 : BitVec 32 := 0#32
  let c0_i32 : BitVec 32 := 0#32
  let c1_i32 : BitVec 32 := 1#32
  let arg6 : BitVec 32 := Scf.iv c0_i32 c1_i32 k0_t1
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c0_i32_394 v1756
  let v1758 : Index := Scalar.indexCast v1757
  let c0_395 : Index := 0#32
  ![v1758.toNat, 0]
@[reducible] def k0_t2_loop : Scf.Loop 32 :=
  let c0_i32_288 : BitVec 32 := 0#32
  let c128_i32_289 : BitVec 32 := 128#32
  let v1596 : BitVec 32 := Scalar.addi c0_i32_288 c128_i32_289
  let c1_i32_290 : BitVec 32 := 1#32
  ⟨c0_i32_288, v1596, c1_i32_290⟩
def k0_mult2 (k0_t2 : Fin k0_t2_loop.trips) : BitVec 32 :=
  let c0_i32_288 : BitVec 32 := 0#32
  let c1_i32_290 : BitVec 32 := 1#32
  let arg6 : BitVec 32 := Scf.iv c0_i32_288 c1_i32_290 k0_t2
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off2 (k0_t2 : Fin k0_t2_loop.trips) : Fin 2 → Nat :=
  let c128_i32_394 : BitVec 32 := 128#32
  let c0_i32_288 : BitVec 32 := 0#32
  let c1_i32_290 : BitVec 32 := 1#32
  let arg6 : BitVec 32 := Scf.iv c0_i32_288 c1_i32_290 k0_t2
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c128_i32_394 v1756
  let v1758 : Index := Scalar.indexCast v1757
  let c128_395 : Index := 128#32
  ![v1758.toNat, 128]
@[reducible] def k0_t3_loop : Scf.Loop 32 :=
  let c0_i32_303 : BitVec 32 := 0#32
  let c128_i32_304 : BitVec 32 := 128#32
  let v1618 : BitVec 32 := Scalar.addi c0_i32_303 c128_i32_304
  let c1_i32_305 : BitVec 32 := 1#32
  ⟨c0_i32_303, v1618, c1_i32_305⟩
def k0_mult3 (k0_t3 : Fin k0_t3_loop.trips) : BitVec 32 :=
  let c0_i32_303 : BitVec 32 := 0#32
  let c1_i32_305 : BitVec 32 := 1#32
  let arg6 : BitVec 32 := Scf.iv c0_i32_303 c1_i32_305 k0_t3
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off3 (k0_t3 : Fin k0_t3_loop.trips) : Fin 2 → Nat :=
  let c256_i32 : BitVec 32 := 256#32
  let c0_i32_303 : BitVec 32 := 0#32
  let c1_i32_305 : BitVec 32 := 1#32
  let arg6 : BitVec 32 := Scf.iv c0_i32_303 c1_i32_305 k0_t3
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c256_i32 v1756
  let v1758 : Index := Scalar.indexCast v1757
  let c256_394 : Index := 256#32
  ![v1758.toNat, 256]
@[reducible] def k0_t4_loop : Scf.Loop 32 :=
  let c0_i32_318 : BitVec 32 := 0#32
  let c128_i32_319 : BitVec 32 := 128#32
  let v1640 : BitVec 32 := Scalar.addi c0_i32_318 c128_i32_319
  let c1_i32_320 : BitVec 32 := 1#32
  ⟨c0_i32_318, v1640, c1_i32_320⟩
def k0_mult4 (k0_t4 : Fin k0_t4_loop.trips) : BitVec 32 :=
  let c0_i32_318 : BitVec 32 := 0#32
  let c1_i32_320 : BitVec 32 := 1#32
  let arg6 : BitVec 32 := Scf.iv c0_i32_318 c1_i32_320 k0_t4
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off4 (k0_t4 : Fin k0_t4_loop.trips) : Fin 2 → Nat :=
  let c384_i32 : BitVec 32 := 384#32
  let c0_i32_318 : BitVec 32 := 0#32
  let c1_i32_320 : BitVec 32 := 1#32
  let arg6 : BitVec 32 := Scf.iv c0_i32_318 c1_i32_320 k0_t4
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c384_i32 v1756
  let v1758 : Index := Scalar.indexCast v1757
  let c384_394 : Index := 384#32
  ![v1758.toNat, 384]
@[reducible] def k0_t5_loop : Scf.Loop 32 :=
  let c0_i32_333 : BitVec 32 := 0#32
  let c128_i32_334 : BitVec 32 := 128#32
  let v1662 : BitVec 32 := Scalar.addi c0_i32_333 c128_i32_334
  let c1_i32_335 : BitVec 32 := 1#32
  ⟨c0_i32_333, v1662, c1_i32_335⟩
def k0_mult5 (k0_t5 : Fin k0_t5_loop.trips) : BitVec 32 :=
  let c0_i32_333 : BitVec 32 := 0#32
  let c1_i32_335 : BitVec 32 := 1#32
  let arg6 : BitVec 32 := Scf.iv c0_i32_333 c1_i32_335 k0_t5
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off5 (k0_t5 : Fin k0_t5_loop.trips) : Fin 2 → Nat :=
  let c512_i32 : BitVec 32 := 512#32
  let c0_i32_333 : BitVec 32 := 0#32
  let c1_i32_335 : BitVec 32 := 1#32
  let arg6 : BitVec 32 := Scf.iv c0_i32_333 c1_i32_335 k0_t5
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c512_i32 v1756
  let v1758 : Index := Scalar.indexCast v1757
  let c512_394 : Index := 512#32
  ![v1758.toNat, 512]
@[reducible] def k0_t6_loop : Scf.Loop 32 :=
  let c0_i32_348 : BitVec 32 := 0#32
  let c128_i32_349 : BitVec 32 := 128#32
  let v1684 : BitVec 32 := Scalar.addi c0_i32_348 c128_i32_349
  let c1_i32_350 : BitVec 32 := 1#32
  ⟨c0_i32_348, v1684, c1_i32_350⟩
def k0_mult6 (k0_t6 : Fin k0_t6_loop.trips) : BitVec 32 :=
  let c0_i32_348 : BitVec 32 := 0#32
  let c1_i32_350 : BitVec 32 := 1#32
  let arg6 : BitVec 32 := Scf.iv c0_i32_348 c1_i32_350 k0_t6
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off6 (k0_t6 : Fin k0_t6_loop.trips) : Fin 2 → Nat :=
  let c640_i32 : BitVec 32 := 640#32
  let c0_i32_348 : BitVec 32 := 0#32
  let c1_i32_350 : BitVec 32 := 1#32
  let arg6 : BitVec 32 := Scf.iv c0_i32_348 c1_i32_350 k0_t6
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c640_i32 v1756
  let v1758 : Index := Scalar.indexCast v1757
  let c640_394 : Index := 640#32
  ![v1758.toNat, 640]
@[reducible] def k0_t7_loop : Scf.Loop 32 :=
  let c0_i32_363 : BitVec 32 := 0#32
  let c128_i32_364 : BitVec 32 := 128#32
  let v1706 : BitVec 32 := Scalar.addi c0_i32_363 c128_i32_364
  let c1_i32_365 : BitVec 32 := 1#32
  ⟨c0_i32_363, v1706, c1_i32_365⟩
def k0_mult7 (k0_t7 : Fin k0_t7_loop.trips) : BitVec 32 :=
  let c0_i32_363 : BitVec 32 := 0#32
  let c1_i32_365 : BitVec 32 := 1#32
  let arg6 : BitVec 32 := Scf.iv c0_i32_363 c1_i32_365 k0_t7
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off7 (k0_t7 : Fin k0_t7_loop.trips) : Fin 2 → Nat :=
  let c768_i32 : BitVec 32 := 768#32
  let c0_i32_363 : BitVec 32 := 0#32
  let c1_i32_365 : BitVec 32 := 1#32
  let arg6 : BitVec 32 := Scf.iv c0_i32_363 c1_i32_365 k0_t7
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c768_i32 v1756
  let v1758 : Index := Scalar.indexCast v1757
  let c768_394 : Index := 768#32
  ![v1758.toNat, 768]
@[reducible] def k0_t8_loop : Scf.Loop 32 :=
  let c0_i32_378 : BitVec 32 := 0#32
  let c128_i32_379 : BitVec 32 := 128#32
  let v1728 : BitVec 32 := Scalar.addi c0_i32_378 c128_i32_379
  let c1_i32_380 : BitVec 32 := 1#32
  ⟨c0_i32_378, v1728, c1_i32_380⟩
def k0_mult8 (k0_t8 : Fin k0_t8_loop.trips) : BitVec 32 :=
  let c0_i32_378 : BitVec 32 := 0#32
  let c1_i32_380 : BitVec 32 := 1#32
  let arg6 : BitVec 32 := Scf.iv c0_i32_378 c1_i32_380 k0_t8
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off8 (k0_t8 : Fin k0_t8_loop.trips) : Fin 2 → Nat :=
  let c896_i32 : BitVec 32 := 896#32
  let c0_i32_378 : BitVec 32 := 0#32
  let c1_i32_380 : BitVec 32 := 1#32
  let arg6 : BitVec 32 := Scf.iv c0_i32_378 c1_i32_380 k0_t8
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c896_i32 v1756
  let v1758 : Index := Scalar.indexCast v1757
  let c896_394 : Index := 896#32
  ![v1758.toNat, 896]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
  let c768_i32 : BitVec 32 := 768#32
  let v1757 : BitVec 32 := Scalar.addi c768_i32 v1756
  let c768_394 : Index := 768#32
-- ==== ReferenceIdeal.lean ====
abbrev S4x8x128 : Shape := ⟨3, ![4, 8, 128]⟩
abbrev S4x4x8x128 : Shape := ⟨4, ![4, 4, 8, 128]⟩
abbrev S4x4x1024 : Shape := ⟨3, ![4, 4, 1024]⟩
abbrev S4x1024x4 : Shape := ⟨3, ![4, 1024, 4]⟩
abbrev S4x1000x4 : Shape := ⟨3, ![4, 1000, 4]⟩
abbrev S4x1000x1 : Shape := ⟨3, ![4, 1000, 1]⟩
abbrev S4x1000 : Shape := ⟨2, ![4, 1000]⟩
abbrev S_ : Shape := ⟨0, ![]⟩
abbrev S4x1x1000 : Shape := ⟨3, ![4, 1, 1000]⟩
abbrev S4x1000x1000 : Shape := ⟨3, ![4, 1000, 1000]⟩
abbrev S1000 : Shape := ⟨1, ![1000]⟩
abbrev S1 : Shape := ⟨1, ![1]⟩
abbrev S4x1 : Shape := ⟨2, ![4, 1]⟩
abbrev S4 : Shape := ⟨1, ![4]⟩
abbrev S1x1000 : Shape := ⟨2, ![1, 1000]⟩
abbrev S4x1024 : Shape := ⟨2, ![4, 1024]⟩

abbrev nBuf : Space → Nat
  | .hbm => 137
  | .vmem => 0
  | .smem => 0
  | _ => 0

abbrev hbmTy0_0 (i : Nat) : BufTy := match i % 128 with
  | 0 => ⟨S4x8x128, .f32⟩
  | 1 => ⟨S4x4x8x128, .f32⟩
  | 2 => ⟨S4x4x1024, .f32⟩
  | 3 => ⟨S4x1024x4, .f32⟩
  | 4 => ⟨S4x1000x4, .f32⟩
  | 5 => ⟨S4x1000x1, .f32⟩
  | 6 => ⟨S4x1000, .f32⟩
  | 7 => ⟨S4x1000x1, .f32⟩
  | 8 => ⟨S4x1000, .f32⟩
  | 9 => ⟨S4x1000x1, .f32⟩
  | 10 => ⟨S4x1000, .f32⟩
  | 11 => ⟨S4x1000x1, .f32⟩
  | 12 => ⟨S4x1000, .f32⟩
  | 13 => ⟨S4x1000, .f32⟩
  | 14 => ⟨S_, .f32⟩
  | 15 => ⟨S4x1000, .f32⟩
  | 16 => ⟨S4x1000, .f32⟩
  | 17 => ⟨S4x1000, .f32⟩
  | 18 => ⟨S_, .f32⟩
  | 19 => ⟨S4x1000, .f32⟩
  | 20 => ⟨S4x1000, .f32⟩
  | 21 => ⟨S4x1000, .f32⟩
  | 22 => ⟨S4x1000x1, .f32⟩
  | 23 => ⟨S4x1x1000, .f32⟩
  | 24 => ⟨S4x1000x1000, .f32⟩
  | 25 => ⟨S4x1000x1000, .f32⟩
  | 26 => ⟨S4x1000x1000, .f32⟩
  | 27 => ⟨S4x1000x1, .f32⟩
  | 28 => ⟨S4x1x1000, .f32⟩
  | 29 => ⟨S4x1000x1000, .f32⟩
  | 30 => ⟨S4x1000x1000, .f32⟩
  | 31 => ⟨S4x1000x1000, .f32⟩
  | 32 => ⟨S4x1000x1, .f32⟩
  | 33 => ⟨S4x1x1000, .f32⟩
  | 34 => ⟨S4x1000x1000, .f32⟩
  | 35 => ⟨S4x1000x1000, .f32⟩
  | 36 => ⟨S4x1000x1000, .f32⟩
  | 37 => ⟨S4x1000x1, .f32⟩
  | 38 => ⟨S4x1x1000, .f32⟩
  | 39 => ⟨S4x1000x1000, .f32⟩
  | 40 => ⟨S4x1000x1000, .f32⟩
  | 41 => ⟨S4x1000x1000, .f32⟩
  | 42 => ⟨S4x1000x1000, .f32⟩
  | 43 => ⟨S_, .f32⟩
  | 44 => ⟨S4x1000x1000, .f32⟩
  | 45 => ⟨S4x1000x1000, .f32⟩
  | 46 => ⟨S4x1000x1000, .f32⟩
  | 47 => ⟨S_, .f32⟩
  | 48 => ⟨S4x1000x1000, .f32⟩
  | 49 => ⟨S4x1000x1000, .f32⟩
  | 50 => ⟨S4x1000x1000, .f32⟩
  | 51 => ⟨S4x1000x1, .f32⟩
  | 52 => ⟨S4x1x1000, .f32⟩
  | 53 => ⟨S4x1000x1000, .f32⟩
  | 54 => ⟨S4x1000x1000, .f32⟩
  | 55 => ⟨S4x1000x1000, .f32⟩
  | 56 => ⟨S4x1000x1000, .f32⟩
  | 57 => ⟨S_, .f32⟩
  | 58 => ⟨S4x1000x1000, .f32⟩
  | 59 => ⟨S4x1000x1000, .f32⟩
  | 60 => ⟨S4x1000x1000, .f32⟩
  | 61 => ⟨S1000, .i32⟩
  | 62 => ⟨S_, .i1⟩
  | 63 => ⟨S4x1000, .i1⟩
  | 64 => ⟨S_, .i32⟩
  | 65 => ⟨S1000, .i32⟩
  | 66 => ⟨S4x1000x1000, .f32⟩
  | 67 => ⟨S1000, .i32⟩
  | 68 => ⟨S_, .i32⟩
  | 69 => ⟨S4x1000, .i1⟩
  | 70 => ⟨S_, .i32⟩
  | 71 => ⟨S_, .i1⟩
  | 72 => ⟨S1, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S4x1, .i1⟩
  | 88 => ⟨S4, .i1⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S4x1x1000, .f32⟩
  | 111 => ⟨S4x1000, .f32⟩
  | 112 => ⟨S_, .f32⟩
  | 113 => ⟨S4x1000, .f32⟩
  | 114 => ⟨S4x1000, .i1⟩
  | 115 => ⟨S4x1, .i1⟩
  | 116 => ⟨S4x1000, .i1⟩
  | 117 => ⟨S4x1000, .i1⟩
  | 118 => ⟨S1x1000, .i32⟩
  | 119 => ⟨S1x1000, .i32⟩
  | 120 => ⟨S1x1000, .i1⟩
  | 121 => ⟨S4x1000, .i1⟩
  | 122 => ⟨S4x1000, .i1⟩
  | 123 => ⟨S4x1000, .i1⟩
  | 124 => ⟨S4x1000, .i1⟩
  | 125 => ⟨S_, .i32⟩
  | 126 => ⟨S_, .i32⟩
  | 127 => ⟨S4x1024, .f32⟩
  | _ => ⟨S4x8x128, .f32⟩

abbrev hbmTy0_1 (i : Nat) : BufTy := match i % 128 with
  | 0 => ⟨S4x1000, .f32⟩
  | 1 => ⟨S_, .f32⟩
  | 2 => ⟨S_, .f32⟩
  | 3 => ⟨S4x1000, .f32⟩
  | 4 => ⟨S4x1000, .f32⟩
  | 5 => ⟨S_, .f32⟩
  | 6 => ⟨S_, .f32⟩
  | 7 => ⟨S4x1024, .f32⟩
  | 8 => ⟨S4x8x128, .f32⟩
  | _ => ⟨S4x8x128, .f32⟩

abbrev hbmTy (i : Nat) : BufTy := match i / 128 with
  | 0 => hbmTy0_0 i
  | 1 => hbmTy0_1 i
  | _ => ⟨S4x8x128, .f32⟩

abbrev bufTy : (tb : Table) → Fin (tcTables nBuf tb) → BufTy
  | .hbm, ⟨i, _⟩ => hbmTy i
  | _, _ => ⟨S4x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_1 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_2 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_3 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_c : Ref sig .tc := ⟨.hbm, 62, rfl⟩
abbrev main_v55 : Ref sig .tc := ⟨.hbm, 63, rfl⟩
abbrev main_c_4 : Ref sig .tc := ⟨.hbm, 64, rfl⟩
abbrev main_v56_0 : Ref sig .tc := ⟨.hbm, 65, rfl⟩
abbrev main_v56_1 : Ref sig .tc := ⟨.hbm, 66, rfl⟩
abbrev main_v56_2 : Ref sig .tc := ⟨.hbm, 67, rfl⟩
abbrev main_v56_3 : Ref sig .tc := ⟨.hbm, 68, rfl⟩
abbrev main_v56_4 : Ref sig .tc := ⟨.hbm, 69, rfl⟩
abbrev main_while0c_c_11 : Ref sig .tc := ⟨.hbm, 70, rfl⟩
abbrev main_while0c_v62 : Ref sig .tc := ⟨.hbm, 71, rfl⟩
abbrev main_while0b_call0_v0 : Ref sig .tc := ⟨.hbm, 72, rfl⟩
abbrev main_while0b_v62 : Ref sig .tc := ⟨.hbm, 73, rfl⟩
abbrev main_while0b_c_11 : Ref sig .tc := ⟨.hbm, 74, rfl⟩
abbrev main_while0b_c_12 : Ref sig .tc := ⟨.hbm, 75, rfl⟩
abbrev main_while0b_v63 : Ref sig .tc := ⟨.hbm, 76, rfl⟩
abbrev main_while0b_c_13 : Ref sig .tc := ⟨.hbm, 77, rfl⟩
abbrev main_while0b_c_14 : Ref sig .tc := ⟨.hbm, 78, rfl⟩
abbrev main_while0b_v64 : Ref sig .tc := ⟨.hbm, 79, rfl⟩
abbrev main_while0b_c_15 : Ref sig .tc := ⟨.hbm, 80, rfl⟩
abbrev main_while0b_v65 : Ref sig .tc := ⟨.hbm, 81, rfl⟩
abbrev main_while0b_c_16 : Ref sig .tc := ⟨.hbm, 82, rfl⟩
abbrev main_while0b_v66 : Ref sig .tc := ⟨.hbm, 83, rfl⟩
abbrev main_while0b_c_17 : Ref sig .tc := ⟨.hbm, 84, rfl⟩
abbrev main_while0b_v67 : Ref sig .tc := ⟨.hbm, 85, rfl⟩
abbrev main_while0b_v68 : Ref sig .tc := ⟨.hbm, 86, rfl⟩
abbrev main_while0b_v69 : Ref sig .tc := ⟨.hbm, 87, rfl⟩
abbrev main_while0b_v70 : Ref sig .tc := ⟨.hbm, 88, rfl⟩
abbrev main_while0b_c_18 : Ref sig .tc := ⟨.hbm, 89, rfl⟩
abbrev main_while0b_c_19 : Ref sig .tc := ⟨.hbm, 90, rfl⟩
abbrev main_while0b_v71 : Ref sig .tc := ⟨.hbm, 91, rfl⟩
abbrev main_while0b_c_20 : Ref sig .tc := ⟨.hbm, 92, rfl⟩
abbrev main_while0b_c_21 : Ref sig .tc := ⟨.hbm, 93, rfl⟩
abbrev main_while0b_v72 : Ref sig .tc := ⟨.hbm, 94, rfl⟩
abbrev main_while0b_c_22 : Ref sig .tc := ⟨.hbm, 95, rfl⟩
abbrev main_while0b_v73 : Ref sig .tc := ⟨.hbm, 96, rfl⟩
abbrev main_while0b_c_23 : Ref sig .tc := ⟨.hbm, 97, rfl⟩
abbrev main_while0b_v74 : Ref sig .tc := ⟨.hbm, 98, rfl⟩
abbrev main_while0b_c_24 : Ref sig .tc := ⟨.hbm, 99, rfl⟩
abbrev main_while0b_v75 : Ref sig .tc := ⟨.hbm, 100, rfl⟩
abbrev main_while0b_v76 : Ref sig .tc := ⟨.hbm, 101, rfl⟩
abbrev main_while0b_c_25 : Ref sig .tc := ⟨.hbm, 102, rfl⟩
abbrev main_while0b_c_26 : Ref sig .tc := ⟨.hbm, 103, rfl⟩
abbrev main_while0b_v77 : Ref sig .tc := ⟨.hbm, 104, rfl⟩
abbrev main_while0b_c_27 : Ref sig .tc := ⟨.hbm, 105, rfl⟩
abbrev main_while0b_c_28 : Ref sig .tc := ⟨.hbm, 106, rfl⟩
abbrev main_while0b_v78 : Ref sig .tc := ⟨.hbm, 107, rfl⟩
abbrev main_while0b_c_29 : Ref sig .tc := ⟨.hbm, 108, rfl⟩
abbrev main_while0b_v79 : Ref sig .tc := ⟨.hbm, 109, rfl⟩
abbrev main_while0b_v80 : Ref sig .tc := ⟨.hbm, 110, rfl⟩
abbrev main_while0b_v81 : Ref sig .tc := ⟨.hbm, 111, rfl⟩
abbrev main_while0b_cst_30 : Ref sig .tc := ⟨.hbm, 112, rfl⟩
abbrev main_while0b_v82 : Ref sig .tc := ⟨.hbm, 113, rfl⟩
abbrev main_while0b_v83 : Ref sig .tc := ⟨.hbm, 114, rfl⟩
abbrev main_while0b_v84 : Ref sig .tc := ⟨.hbm, 115, rfl⟩
abbrev main_while0b_v85 : Ref sig .tc := ⟨.hbm, 116, rfl⟩
abbrev main_while0b_v86 : Ref sig .tc := ⟨.hbm, 117, rfl⟩
abbrev main_while0b_v87 : Ref sig .tc := ⟨.hbm, 118, rfl⟩
abbrev main_while0b_v88 : Ref sig .tc := ⟨.hbm, 119, rfl⟩
abbrev main_while0b_v89 : Ref sig .tc := ⟨.hbm, 120, rfl⟩
abbrev main_while0b_v90 : Ref sig .tc := ⟨.hbm, 121, rfl⟩
abbrev main_while0b_v91 : Ref sig .tc := ⟨.hbm, 122, rfl⟩
abbrev main_while0b_v92 : Ref sig .tc := ⟨.hbm, 123, rfl⟩
abbrev main_while0b_v93 : Ref sig .tc := ⟨.hbm, 124, rfl⟩
abbrev main_while0b_c_31 : Ref sig .tc := ⟨.hbm, 125, rfl⟩
abbrev main_while0b_v94 : Ref sig .tc := ⟨.hbm, 126, rfl⟩
abbrev main_v57 : Ref sig .tc := ⟨.hbm, 127, rfl⟩
abbrev main_v58 : Ref sig .tc := ⟨.hbm, 128, rfl⟩
abbrev main_cst_5 : Ref sig .tc := ⟨.hbm, 129, rfl⟩
abbrev main_call1_v0 : Ref sig .tc := ⟨.hbm, 130, rfl⟩
abbrev main_call1_v1 : Ref sig .tc := ⟨.hbm, 131, rfl⟩
abbrev main_v59 : Ref sig .tc := ⟨.hbm, 132, rfl⟩
abbrev main_cst_6 : Ref sig .tc := ⟨.hbm, 133, rfl⟩
abbrev main_call2_v0 : Ref sig .tc := ⟨.hbm, 134, rfl⟩
abbrev main_v60 : Ref sig .tc := ⟨.hbm, 135, rfl⟩
abbrev main_v61 : Ref sig .tc := ⟨.hbm, 136, rfl⟩

abbrev nD : Nat := 1
abbrev τ : Topo := Topo.v7x

variable {F : FTy → Type} [FloatOps F]

abbrev main_while0_count : Scf.Loop 32 := ⟨0#32, 1000#32, 1#32⟩
-- ==== Kernel2.lean ====
abbrev S4x8x128 : Shape := ⟨3, ![4, 8, 128]⟩
abbrev S4x4x8x128 : Shape := ⟨4, ![4, 4, 8, 128]⟩
abbrev S1x8x128 : Shape := ⟨3, ![1, 8, 128]⟩
abbrev S1x4x8x128 : Shape := ⟨4, ![1, 4, 8, 128]⟩
abbrev S1024x1024 : Shape := ⟨2, ![1024, 1024]⟩
abbrev S1024x128 : Shape := ⟨2, ![1024, 128]⟩
abbrev S8x128 : Shape := ⟨2, ![8, 128]⟩
abbrev S1x1x8x128 : Shape := ⟨4, ![1, 1, 8, 128]⟩
abbrev S1x128 : Shape := ⟨2, ![1, 128]⟩
abbrev S128x128 : Shape := ⟨2, ![128, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S256x128 : Shape := ⟨2, ![256, 128]⟩
abbrev S384x128 : Shape := ⟨2, ![384, 128]⟩
abbrev S512x128 : Shape := ⟨2, ![512, 128]⟩
abbrev S640x128 : Shape := ⟨2, ![640, 128]⟩
abbrev S768x128 : Shape := ⟨2, ![768, 128]⟩
abbrev S896x128 : Shape := ⟨2, ![896, 128]⟩

abbrev nBuf : Space → Nat
  | .hbm => 3
  | .vmem => 8
  | .smem => 0
  | _ => 0

abbrev bufTy : (tb : Table) → Fin (tcTables nBuf tb) → BufTy
  | .hbm, ⟨0, _⟩ => ⟨S4x8x128, .f32⟩
  | .hbm, ⟨1, _⟩ => ⟨S4x4x8x128, .f32⟩
  | .hbm, ⟨2, _⟩ => ⟨S4x8x128, .f32⟩
  | .local _ .vmem, ⟨0, _⟩ => ⟨S1x8x128, .f32⟩
  | .local _ .vmem, ⟨1, _⟩ => ⟨S1x8x128, .f32⟩
  | .local _ .vmem, ⟨2, _⟩ => ⟨S1x4x8x128, .f32⟩
  | .local _ .vmem, ⟨3, _⟩ => ⟨S1x4x8x128, .f32⟩
  | .local _ .vmem, ⟨4, _⟩ => ⟨S1x8x128, .f32⟩
  | .local _ .vmem, ⟨5, _⟩ => ⟨S1x8x128, .f32⟩
  | .local _ .vmem, ⟨6, _⟩ => ⟨S1024x1024, .f32⟩
  | .local _ .vmem, ⟨7, _⟩ => ⟨S1024x128, .f32⟩
  | _, _ => ⟨S4x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c128_i32_275 : BitVec 32 := 128#32
  let v1574 : BitVec 32 := Scalar.addi c0_i32 c128_i32_275
  let c1_i32 : BitVec 32 := 1#32
  ⟨c0_i32, v1574, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off1 (k0_t1 : Fin k0_t1_loop.trips) : Fin 2 → Nat :=
  let c0_i32_394 : BitVec 32 := 0#32
  let c0_i32 : BitVec 32 := 0#32
  let c1_i32 : BitVec 32 := 1#32
  let arg6 : BitVec 32 := Scf.iv c0_i32 c1_i32 k0_t1
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c0_i32_394 v1756
  let v1758 : Index := Scalar.indexCast v1757
  let c0_395 : Index := 0#32
  ![v1758.toNat, 0]
@[reducible] def k0_t2_loop : Scf.Loop 32 :=
  let c0_i32_288 : BitVec 32 := 0#32
  let c128_i32_289 : BitVec 32 := 128#32
  let v1596 : BitVec 32 := Scalar.addi c0_i32_288 c128_i32_289
  let c1_i32_290 : BitVec 32 := 1#32
  ⟨c0_i32_288, v1596, c1_i32_290⟩
def k0_mult2 (k0_t2 : Fin k0_t2_loop.trips) : BitVec 32 :=
  let c0_i32_288 : BitVec 32 := 0#32
  let c1_i32_290 : BitVec 32 := 1#32
  let arg6 : BitVec 32 := Scf.iv c0_i32_288 c1_i32_290 k0_t2
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off2 (k0_t2 : Fin k0_t2_loop.trips) : Fin 2 → Nat :=
  let c128_i32_394 : BitVec 32 := 128#32
  let c0_i32_288 : BitVec 32 := 0#32
  let c1_i32_290 : BitVec 32 := 1#32
  let arg6 : BitVec 32 := Scf.iv c0_i32_288 c1_i32_290 k0_t2
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c128_i32_394 v1756
  let v1758 : Index := Scalar.indexCast v1757
  let c128_395 : Index := 128#32
  ![v1758.toNat, 128]
@[reducible] def k0_t3_loop : Scf.Loop 32 :=
  let c0_i32_303 : BitVec 32 := 0#32
  let c128_i32_304 : BitVec 32 := 128#32
  let v1618 : BitVec 32 := Scalar.addi c0_i32_303 c128_i32_304
  let c1_i32_305 : BitVec 32 := 1#32
  ⟨c0_i32_303, v1618, c1_i32_305⟩
def k0_mult3 (k0_t3 : Fin k0_t3_loop.trips) : BitVec 32 :=
  let c0_i32_303 : BitVec 32 := 0#32
  let c1_i32_305 : BitVec 32 := 1#32
  let arg6 : BitVec 32 := Scf.iv c0_i32_303 c1_i32_305 k0_t3
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off3 (k0_t3 : Fin k0_t3_loop.trips) : Fin 2 → Nat :=
  let c256_i32 : BitVec 32 := 256#32
  let c0_i32_303 : BitVec 32 := 0#32
  let c1_i32_305 : BitVec 32 := 1#32
  let arg6 : BitVec 32 := Scf.iv c0_i32_303 c1_i32_305 k0_t3
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c256_i32 v1756
  let v1758 : Index := Scalar.indexCast v1757
  let c256_394 : Index := 256#32
  ![v1758.toNat, 256]
@[reducible] def k0_t4_loop : Scf.Loop 32 :=
  let c0_i32_318 : BitVec 32 := 0#32
  let c128_i32_319 : BitVec 32 := 128#32
  let v1640 : BitVec 32 := Scalar.addi c0_i32_318 c128_i32_319
  let c1_i32_320 : BitVec 32 := 1#32
  ⟨c0_i32_318, v1640, c1_i32_320⟩
def k0_mult4 (k0_t4 : Fin k0_t4_loop.trips) : BitVec 32 :=
  let c0_i32_318 : BitVec 32 := 0#32
  let c1_i32_320 : BitVec 32 := 1#32
  let arg6 : BitVec 32 := Scf.iv c0_i32_318 c1_i32_320 k0_t4
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off4 (k0_t4 : Fin k0_t4_loop.trips) : Fin 2 → Nat :=
  let c384_i32 : BitVec 32 := 384#32
  let c0_i32_318 : BitVec 32 := 0#32
  let c1_i32_320 : BitVec 32 := 1#32
  let arg6 : BitVec 32 := Scf.iv c0_i32_318 c1_i32_320 k0_t4
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c384_i32 v1756
  let v1758 : Index := Scalar.indexCast v1757
  let c384_394 : Index := 384#32
  ![v1758.toNat, 384]
@[reducible] def k0_t5_loop : Scf.Loop 32 :=
  let c0_i32_333 : BitVec 32 := 0#32
  let c128_i32_334 : BitVec 32 := 128#32
  let v1662 : BitVec 32 := Scalar.addi c0_i32_333 c128_i32_334
  let c1_i32_335 : BitVec 32 := 1#32
  ⟨c0_i32_333, v1662, c1_i32_335⟩
def k0_mult5 (k0_t5 : Fin k0_t5_loop.trips) : BitVec 32 :=
  let c0_i32_333 : BitVec 32 := 0#32
  let c1_i32_335 : BitVec 32 := 1#32
  let arg6 : BitVec 32 := Scf.iv c0_i32_333 c1_i32_335 k0_t5
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off5 (k0_t5 : Fin k0_t5_loop.trips) : Fin 2 → Nat :=
  let c512_i32 : BitVec 32 := 512#32
  let c0_i32_333 : BitVec 32 := 0#32
  let c1_i32_335 : BitVec 32 := 1#32
  let arg6 : BitVec 32 := Scf.iv c0_i32_333 c1_i32_335 k0_t5
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c512_i32 v1756
  let v1758 : Index := Scalar.indexCast v1757
  let c512_394 : Index := 512#32
  ![v1758.toNat, 512]
@[reducible] def k0_t6_loop : Scf.Loop 32 :=
  let c0_i32_348 : BitVec 32 := 0#32
  let c128_i32_349 : BitVec 32 := 128#32
  let v1684 : BitVec 32 := Scalar.addi c0_i32_348 c128_i32_349
  let c1_i32_350 : BitVec 32 := 1#32
  ⟨c0_i32_348, v1684, c1_i32_350⟩
def k0_mult6 (k0_t6 : Fin k0_t6_loop.trips) : BitVec 32 :=
  let c0_i32_348 : BitVec 32 := 0#32
  let c1_i32_350 : BitVec 32 := 1#32
  let arg6 : BitVec 32 := Scf.iv c0_i32_348 c1_i32_350 k0_t6
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off6 (k0_t6 : Fin k0_t6_loop.trips) : Fin 2 → Nat :=
  let c640_i32 : BitVec 32 := 640#32
  let c0_i32_348 : BitVec 32 := 0#32
  let c1_i32_350 : BitVec 32 := 1#32
  let arg6 : BitVec 32 := Scf.iv c0_i32_348 c1_i32_350 k0_t6
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c640_i32 v1756
  let v1758 : Index := Scalar.indexCast v1757
  let c640_394 : Index := 640#32
  ![v1758.toNat, 640]
@[reducible] def k0_t7_loop : Scf.Loop 32 :=
  let c0_i32_363 : BitVec 32 := 0#32
  let c128_i32_364 : BitVec 32 := 128#32
  let v1706 : BitVec 32 := Scalar.addi c0_i32_363 c128_i32_364
  let c1_i32_365 : BitVec 32 := 1#32
  ⟨c0_i32_363, v1706, c1_i32_365⟩
def k0_mult7 (k0_t7 : Fin k0_t7_loop.trips) : BitVec 32 :=
  let c0_i32_363 : BitVec 32 := 0#32
  let c1_i32_365 : BitVec 32 := 1#32
  let arg6 : BitVec 32 := Scf.iv c0_i32_363 c1_i32_365 k0_t7
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off7 (k0_t7 : Fin k0_t7_loop.trips) : Fin 2 → Nat :=
  let c768_i32_394 : BitVec 32 := 768#32
  let c0_i32_363 : BitVec 32 := 0#32
  let c1_i32_365 : BitVec 32 := 1#32
  let arg6 : BitVec 32 := Scf.iv c0_i32_363 c1_i32_365 k0_t7
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c768_i32_394 v1756
  let v1758 : Index := Scalar.indexCast v1757
  let c768_395 : Index := 768#32
  ![v1758.toNat, 768]
@[reducible] def k0_t8_loop : Scf.Loop 32 :=
  let c0_i32_378 : BitVec 32 := 0#32
  let c128_i32_379 : BitVec 32 := 128#32
  let v1728 : BitVec 32 := Scalar.addi c0_i32_378 c128_i32_379
  let c1_i32_380 : BitVec 32 := 1#32
  ⟨c0_i32_378, v1728, c1_i32_380⟩
def k0_mult8 (k0_t8 : Fin k0_t8_loop.trips) : BitVec 32 :=
  let c0_i32_378 : BitVec 32 := 0#32
  let c1_i32_380 : BitVec 32 := 1#32
  let arg6 : BitVec 32 := Scf.iv c0_i32_378 c1_i32_380 k0_t8
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  v1755
def k0_off8 (k0_t8 : Fin k0_t8_loop.trips) : Fin 2 → Nat :=
  let c896_i32 : BitVec 32 := 896#32
  let c0_i32_378 : BitVec 32 := 0#32
  let c1_i32_380 : BitVec 32 := 1#32
  let arg6 : BitVec 32 := Scf.iv c0_i32_378 c1_i32_380 k0_t8
  let c0_i32_387 : BitVec 32 := 0#32
  let v1739 : BitVec 1 := Scalar.cmpi .sgt arg6 c0_i32_387
  let v1740 : BitVec 32 := Scalar.extui v1739
  let c0_i32_388 : BitVec 32 := 0#32
  let v1741 : BitVec 1 := Scalar.cmpi .slt arg6 c0_i32_388
  let v1742 : BitVec 32 := Scalar.extui v1741
  let v1743 : BitVec 32 := Scalar.subi v1740 v1742
  let c8_i32 : BitVec 32 := 8#32
  let c0_i32_389 : BitVec 32 := 0#32
  let v1744 : BitVec 1 := Scalar.cmpi .sgt c8_i32 c0_i32_389
  let v1745 : BitVec 32 := Scalar.extui v1744
  let c0_i32_390 : BitVec 32 := 0#32
  let v1746 : BitVec 1 := Scalar.cmpi .slt c8_i32 c0_i32_390
  let v1747 : BitVec 32 := Scalar.extui v1746
  let v1748 : BitVec 32 := Scalar.subi v1745 v1747
  let v1749 : BitVec 1 := Scalar.cmpi .ne v1743 v1748
  let v1750 : BitVec 32 := Scalar.remsi arg6 c8_i32
  let c0_i32_391 : BitVec 32 := 0#32
  let v1751 : BitVec 1 := Scalar.cmpi .ne v1750 c0_i32_391
  let v1752 : BitVec 1 := Scalar.andi v1749 v1751
  let v1738 : BitVec 32 := Scalar.divsi arg6 c8_i32
  let c1_i32_392 : BitVec 32 := 1#32
  let v1753 : BitVec 32 := Scalar.subi v1738 c1_i32_392
  let v1754 : BitVec 32 := Scalar.select v1752 v1753 v1738
  let c8_i32_393 : BitVec 32 := 8#32
  let v1755 : BitVec 32 := Scalar.muli v1754 c8_i32_393
  let v1756 : BitVec 32 := v1755
  let v1757 : BitVec 32 := Scalar.addi c896_i32 v1756
  let v1758 : Index := Scalar.indexCast v1757
  let c896_394 : Index := 896#32
  ![v1758.toNat, 896]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4x8x128 : Shape := ⟨3, ![4, 8, 128]⟩
abbrev S4x4x8x128 : Shape := ⟨4, ![4, 4, 8, 128]⟩
abbrev S4x4x1024 : Shape := ⟨3, ![4, 4, 1024]⟩
abbrev S4x1024x4 : Shape := ⟨3, ![4, 1024, 4]⟩
abbrev S4x768x4 : Shape := ⟨3, ![4, 768, 4]⟩
abbrev S4x768x1 : Shape := ⟨3, ![4, 768, 1]⟩
abbrev S4x768 : Shape := ⟨2, ![4, 768]⟩
abbrev S_ : Shape := ⟨0, ![]⟩
abbrev S4x1x768 : Shape := ⟨3, ![4, 1, 768]⟩
abbrev S4x768x768 : Shape := ⟨3, ![4, 768, 768]⟩
abbrev S768 : Shape := ⟨1, ![768]⟩
abbrev S1 : Shape := ⟨1, ![1]⟩
abbrev S4x1 : Shape := ⟨2, ![4, 1]⟩
abbrev S4 : Shape := ⟨1, ![4]⟩
abbrev S1x768 : Shape := ⟨2, ![1, 768]⟩
abbrev S4x1024 : Shape := ⟨2, ![4, 1024]⟩

abbrev nBuf : Space → Nat
  | .hbm => 137
  | .vmem => 0
  | .smem => 0
  | _ => 0

abbrev hbmTy0_0 (i : Nat) : BufTy := match i % 128 with
  | 0 => ⟨S4x8x128, .f32⟩
  | 1 => ⟨S4x4x8x128, .f32⟩
  | 2 => ⟨S4x4x1024, .f32⟩
  | 3 => ⟨S4x1024x4, .f32⟩
  | 4 => ⟨S4x768x4, .f32⟩
  | 5 => ⟨S4x768x1, .f32⟩
  | 6 => ⟨S4x768, .f32⟩
  | 7 => ⟨S4x768x1, .f32⟩
  | 8 => ⟨S4x768, .f32⟩
  | 9 => ⟨S4x768x1, .f32⟩
  | 10 => ⟨S4x768, .f32⟩
  | 11 => ⟨S4x768x1, .f32⟩
  | 12 => ⟨S4x768, .f32⟩
  | 13 => ⟨S4x768, .f32⟩
  | 14 => ⟨S_, .f32⟩
  | 15 => ⟨S4x768, .f32⟩
  | 16 => ⟨S4x768, .f32⟩
  | 17 => ⟨S4x768, .f32⟩
  | 18 => ⟨S_, .f32⟩
  | 19 => ⟨S4x768, .f32⟩
  | 20 => ⟨S4x768, .f32⟩
  | 21 => ⟨S4x768, .f32⟩
  | 22 => ⟨S4x768x1, .f32⟩
  | 23 => ⟨S4x1x768, .f32⟩
  | 24 => ⟨S4x768x768, .f32⟩
  | 25 => ⟨S4x768x768, .f32⟩
  | 26 => ⟨S4x768x768, .f32⟩
  | 27 => ⟨S4x768x1, .f32⟩
  | 28 => ⟨S4x1x768, .f32⟩
  | 29 => ⟨S4x768x768, .f32⟩
  | 30 => ⟨S4x768x768, .f32⟩
  | 31 => ⟨S4x768x768, .f32⟩
  | 32 => ⟨S4x768x1, .f32⟩
  | 33 => ⟨S4x1x768, .f32⟩
  | 34 => ⟨S4x768x768, .f32⟩
  | 35 => ⟨S4x768x768, .f32⟩
  | 36 => ⟨S4x768x768, .f32⟩
  | 37 => ⟨S4x768x1, .f32⟩
  | 38 => ⟨S4x1x768, .f32⟩
  | 39 => ⟨S4x768x768, .f32⟩
  | 40 => ⟨S4x768x768, .f32⟩
  | 41 => ⟨S4x768x768, .f32⟩
  | 42 => ⟨S4x768x768, .f32⟩
  | 43 => ⟨S_, .f32⟩
  | 44 => ⟨S4x768x768, .f32⟩
  | 45 => ⟨S4x768x768, .f32⟩
  | 46 => ⟨S4x768x768, .f32⟩
  | 47 => ⟨S_, .f32⟩
  | 48 => ⟨S4x768x768, .f32⟩
  | 49 => ⟨S4x768x768, .f32⟩
  | 50 => ⟨S4x768x768, .f32⟩
  | 51 => ⟨S4x768x1, .f32⟩
  | 52 => ⟨S4x1x768, .f32⟩
  | 53 => ⟨S4x768x768, .f32⟩
  | 54 => ⟨S4x768x768, .f32⟩
  | 55 => ⟨S4x768x768, .f32⟩
  | 56 => ⟨S4x768x768, .f32⟩
  | 57 => ⟨S_, .f32⟩
  | 58 => ⟨S4x768x768, .f32⟩
  | 59 => ⟨S4x768x768, .f32⟩
  | 60 => ⟨S4x768x768, .f32⟩
  | 61 => ⟨S768, .i32⟩
  | 62 => ⟨S_, .i1⟩
  | 63 => ⟨S4x768, .i1⟩
  | 64 => ⟨S_, .i32⟩
  | 65 => ⟨S768, .i32⟩
  | 66 => ⟨S4x768x768, .f32⟩
  | 67 => ⟨S768, .i32⟩
  | 68 => ⟨S_, .i32⟩
  | 69 => ⟨S4x768, .i1⟩
  | 70 => ⟨S_, .i32⟩
  | 71 => ⟨S_, .i1⟩
  | 72 => ⟨S1, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S4x1, .i1⟩
  | 88 => ⟨S4, .i1⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S4x1x768, .f32⟩
  | 111 => ⟨S4x768, .f32⟩
  | 112 => ⟨S_, .f32⟩
  | 113 => ⟨S4x768, .f32⟩
  | 114 => ⟨S4x768, .i1⟩
  | 115 => ⟨S4x1, .i1⟩
  | 116 => ⟨S4x768, .i1⟩
  | 117 => ⟨S4x768, .i1⟩
  | 118 => ⟨S1x768, .i32⟩
  | 119 => ⟨S1x768, .i32⟩
  | 120 => ⟨S1x768, .i1⟩
  | 121 => ⟨S4x768, .i1⟩
  | 122 => ⟨S4x768, .i1⟩
  | 123 => ⟨S4x768, .i1⟩
  | 124 => ⟨S4x768, .i1⟩
  | 125 => ⟨S_, .i32⟩
  | 126 => ⟨S_, .i32⟩
  | 127 => ⟨S4x1024, .f32⟩
  | _ => ⟨S4x8x128, .f32⟩

abbrev hbmTy0_1 (i : Nat) : BufTy := match i % 128 with
  | 0 => ⟨S4x768, .f32⟩
  | 1 => ⟨S_, .f32⟩
  | 2 => ⟨S_, .f32⟩
  | 3 => ⟨S4x768, .f32⟩
  | 4 => ⟨S4x768, .f32⟩
  | 5 => ⟨S_, .f32⟩
  | 6 => ⟨S_, .f32⟩
  | 7 => ⟨S4x1024, .f32⟩
  | 8 => ⟨S4x8x128, .f32⟩
  | _ => ⟨S4x8x128, .f32⟩

abbrev hbmTy (i : Nat) : BufTy := match i / 128 with
  | 0 => hbmTy0_0 i
  | 1 => hbmTy0_1 i
  | _ => ⟨S4x8x128, .f32⟩

abbrev bufTy : (tb : Table) → Fin (tcTables nBuf tb) → BufTy
  | .hbm, ⟨i, _⟩ => hbmTy i
  | _, _ => ⟨S4x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_1 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_2 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_3 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_c : Ref sig .tc := ⟨.hbm, 62, rfl⟩
abbrev main_v55 : Ref sig .tc := ⟨.hbm, 63, rfl⟩
abbrev main_c_4 : Ref sig .tc := ⟨.hbm, 64, rfl⟩
abbrev main_v56_0 : Ref sig .tc := ⟨.hbm, 65, rfl⟩
abbrev main_v56_1 : Ref sig .tc := ⟨.hbm, 66, rfl⟩
abbrev main_v56_2 : Ref sig .tc := ⟨.hbm, 67, rfl⟩
abbrev main_v56_3 : Ref sig .tc := ⟨.hbm, 68, rfl⟩
abbrev main_v56_4 : Ref sig .tc := ⟨.hbm, 69, rfl⟩
abbrev main_while0c_c_11 : Ref sig .tc := ⟨.hbm, 70, rfl⟩
abbrev main_while0c_v62 : Ref sig .tc := ⟨.hbm, 71, rfl⟩
abbrev main_while0b_call0_v0 : Ref sig .tc := ⟨.hbm, 72, rfl⟩
abbrev main_while0b_v62 : Ref sig .tc := ⟨.hbm, 73, rfl⟩
abbrev main_while0b_c_11 : Ref sig .tc := ⟨.hbm, 74, rfl⟩
abbrev main_while0b_c_12 : Ref sig .tc := ⟨.hbm, 75, rfl⟩
abbrev main_while0b_v63 : Ref sig .tc := ⟨.hbm, 76, rfl⟩
abbrev main_while0b_c_13 : Ref sig .tc := ⟨.hbm, 77, rfl⟩
abbrev main_while0b_c_14 : Ref sig .tc := ⟨.hbm, 78, rfl⟩
abbrev main_while0b_v64 : Ref sig .tc := ⟨.hbm, 79, rfl⟩
abbrev main_while0b_c_15 : Ref sig .tc := ⟨.hbm, 80, rfl⟩
abbrev main_while0b_v65 : Ref sig .tc := ⟨.hbm, 81, rfl⟩
abbrev main_while0b_c_16 : Ref sig .tc := ⟨.hbm, 82, rfl⟩
abbrev main_while0b_v66 : Ref sig .tc := ⟨.hbm, 83, rfl⟩
abbrev main_while0b_c_17 : Ref sig .tc := ⟨.hbm, 84, rfl⟩
abbrev main_while0b_v67 : Ref sig .tc := ⟨.hbm, 85, rfl⟩
abbrev main_while0b_v68 : Ref sig .tc := ⟨.hbm, 86, rfl⟩
abbrev main_while0b_v69 : Ref sig .tc := ⟨.hbm, 87, rfl⟩
abbrev main_while0b_v70 : Ref sig .tc := ⟨.hbm, 88, rfl⟩
abbrev main_while0b_c_18 : Ref sig .tc := ⟨.hbm, 89, rfl⟩
abbrev main_while0b_c_19 : Ref sig .tc := ⟨.hbm, 90, rfl⟩
abbrev main_while0b_v71 : Ref sig .tc := ⟨.hbm, 91, rfl⟩
abbrev main_while0b_c_20 : Ref sig .tc := ⟨.hbm, 92, rfl⟩
abbrev main_while0b_c_21 : Ref sig .tc := ⟨.hbm, 93, rfl⟩
abbrev main_while0b_v72 : Ref sig .tc := ⟨.hbm, 94, rfl⟩
abbrev main_while0b_c_22 : Ref sig .tc := ⟨.hbm, 95, rfl⟩
abbrev main_while0b_v73 : Ref sig .tc := ⟨.hbm, 96, rfl⟩
abbrev main_while0b_c_23 : Ref sig .tc := ⟨.hbm, 97, rfl⟩
abbrev main_while0b_v74 : Ref sig .tc := ⟨.hbm, 98, rfl⟩
abbrev main_while0b_c_24 : Ref sig .tc := ⟨.hbm, 99, rfl⟩
abbrev main_while0b_v75 : Ref sig .tc := ⟨.hbm, 100, rfl⟩
abbrev main_while0b_v76 : Ref sig .tc := ⟨.hbm, 101, rfl⟩
abbrev main_while0b_c_25 : Ref sig .tc := ⟨.hbm, 102, rfl⟩
abbrev main_while0b_c_26 : Ref sig .tc := ⟨.hbm, 103, rfl⟩
abbrev main_while0b_v77 : Ref sig .tc := ⟨.hbm, 104, rfl⟩
abbrev main_while0b_c_27 : Ref sig .tc := ⟨.hbm, 105, rfl⟩
abbrev main_while0b_c_28 : Ref sig .tc := ⟨.hbm, 106, rfl⟩
abbrev main_while0b_v78 : Ref sig .tc := ⟨.hbm, 107, rfl⟩
abbrev main_while0b_c_29 : Ref sig .tc := ⟨.hbm, 108, rfl⟩
abbrev main_while0b_v79 : Ref sig .tc := ⟨.hbm, 109, rfl⟩
abbrev main_while0b_v80 : Ref sig .tc := ⟨.hbm, 110, rfl⟩
abbrev main_while0b_v81 : Ref sig .tc := ⟨.hbm, 111, rfl⟩
abbrev main_while0b_cst_30 : Ref sig .tc := ⟨.hbm, 112, rfl⟩
abbrev main_while0b_v82 : Ref sig .tc := ⟨.hbm, 113, rfl⟩
abbrev main_while0b_v83 : Ref sig .tc := ⟨.hbm, 114, rfl⟩
abbrev main_while0b_v84 : Ref sig .tc := ⟨.hbm, 115, rfl⟩
abbrev main_while0b_v85 : Ref sig .tc := ⟨.hbm, 116, rfl⟩
abbrev main_while0b_v86 : Ref sig .tc := ⟨.hbm, 117, rfl⟩
abbrev main_while0b_v87 : Ref sig .tc := ⟨.hbm, 118, rfl⟩
abbrev main_while0b_v88 : Ref sig .tc := ⟨.hbm, 119, rfl⟩
abbrev main_while0b_v89 : Ref sig .tc := ⟨.hbm, 120, rfl⟩
abbrev main_while0b_v90 : Ref sig .tc := ⟨.hbm, 121, rfl⟩
abbrev main_while0b_v91 : Ref sig .tc := ⟨.hbm, 122, rfl⟩
abbrev main_while0b_v92 : Ref sig .tc := ⟨.hbm, 123, rfl⟩
abbrev main_while0b_v93 : Ref sig .tc := ⟨.hbm, 124, rfl⟩
abbrev main_while0b_c_31 : Ref sig .tc := ⟨.hbm, 125, rfl⟩
abbrev main_while0b_v94 : Ref sig .tc := ⟨.hbm, 126, rfl⟩
abbrev main_v57 : Ref sig .tc := ⟨.hbm, 127, rfl⟩
abbrev main_v58 : Ref sig .tc := ⟨.hbm, 128, rfl⟩
abbrev main_cst_5 : Ref sig .tc := ⟨.hbm, 129, rfl⟩
abbrev main_call1_v0 : Ref sig .tc := ⟨.hbm, 130, rfl⟩
abbrev main_call1_v1 : Ref sig .tc := ⟨.hbm, 131, rfl⟩
abbrev main_v59 : Ref sig .tc := ⟨.hbm, 132, rfl⟩
abbrev main_cst_6 : Ref sig .tc := ⟨.hbm, 133, rfl⟩
abbrev main_call2_v0 : Ref sig .tc := ⟨.hbm, 134, rfl⟩
abbrev main_v60 : Ref sig .tc := ⟨.hbm, 135, rfl⟩
abbrev main_v61 : Ref sig .tc := ⟨.hbm, 136, rfl⟩

abbrev nD : Nat := 1
abbrev τ : Topo := Topo.v7x

variable {F : FTy → Type} [FloatOps F]

abbrev main_while0_count : Scf.Loop 32 := ⟨0#32, 768#32, 1#32⟩
-- ==== Kernel3.lean ====
abbrev S4x128x128 : Shape := ⟨3, ![4, 128, 128]⟩
abbrev S4x4x128x128 : Shape := ⟨4, ![4, 4, 128, 128]⟩
abbrev S4x32x128 : Shape := ⟨3, ![4, 32, 128]⟩
abbrev S4x4x32x128 : Shape := ⟨4, ![4, 4, 32, 128]⟩
abbrev S4x8x128 : Shape := ⟨3, ![4, 8, 128]⟩
abbrev S4x4x8x128 : Shape := ⟨4, ![4, 4, 8, 128]⟩
abbrev S4x2 : Shape := ⟨2, ![4, 2]⟩
abbrev S1x128x128 : Shape := ⟨3, ![1, 128, 128]⟩
abbrev S1x4x128x128 : Shape := ⟨4, ![1, 4, 128, 128]⟩
abbrev S1x32x128 : Shape := ⟨3, ![1, 32, 128]⟩
abbrev S1x4x32x128 : Shape := ⟨4, ![1, 4, 32, 128]⟩
abbrev S1x8x128 : Shape := ⟨3, ![1, 8, 128]⟩
abbrev S1x4x8x128 : Shape := ⟨4, ![1, 4, 8, 128]⟩
abbrev S1x1 : Shape := ⟨2, ![1, 1]⟩
abbrev S128x128 : Shape := ⟨2, ![128, 128]⟩
abbrev S1x1x128x128 : Shape := ⟨4, ![1, 1, 128, 128]⟩
abbrev S32x128 : Shape := ⟨2, ![32, 128]⟩
abbrev S1x1x32x128 : Shape := ⟨4, ![1, 1, 32, 128]⟩
abbrev S8x128 : Shape := ⟨2, ![8, 128]⟩
abbrev S1x1x8x128 : Shape := ⟨4, ![1, 1, 8, 128]⟩

abbrev nBuf : Space → Nat
  | .hbm => 16
  | .vmem => 30
  | .smem => 1
  | _ => 0

abbrev bufTy : (tb : Table) → Fin (tcTables nBuf tb) → BufTy
  | .hbm, ⟨0, _⟩ => ⟨S4x128x128, .f32⟩
  | .hbm, ⟨1, _⟩ => ⟨S4x4x128x128, .f32⟩
  | .hbm, ⟨2, _⟩ => ⟨S4x4x128x128, .f32⟩
  | .hbm, ⟨3, _⟩ => ⟨S4x32x128, .f32⟩
  | .hbm, ⟨4, _⟩ => ⟨S4x4x32x128, .f32⟩
  | .hbm, ⟨5, _⟩ => ⟨S4x4x32x128, .f32⟩
  | .hbm, ⟨6, _⟩ => ⟨S4x8x128, .f32⟩
  | .hbm, ⟨7, _⟩ => ⟨S4x4x8x128, .f32⟩
  | .hbm, ⟨8, _⟩ => ⟨S4x4x8x128, .f32⟩
  | .hbm, ⟨9, _⟩ => ⟨S4x2, .f32⟩
  | .hbm, ⟨10, _⟩ => ⟨S4x128x128, .f32⟩
  | .hbm, ⟨11, _⟩ => ⟨S4x4x128x128, .f32⟩
  | .hbm, ⟨12, _⟩ => ⟨S4x32x128, .f32⟩
  | .hbm, ⟨13, _⟩ => ⟨S4x4x32x128, .f32⟩
  | .hbm, ⟨14, _⟩ => ⟨S4x8x128, .f32⟩
  | .hbm, ⟨15, _⟩ => ⟨S4x4x8x128, .f32⟩
  | .local _ .vmem, ⟨0, _⟩ => ⟨S1x128x128, .f32⟩
  | .local _ .vmem, ⟨1, _⟩ => ⟨S1x128x128, .f32⟩
  | .local _ .vmem, ⟨2, _⟩ => ⟨S1x4x128x128, .f32⟩
  | .local _ .vmem, ⟨3, _⟩ => ⟨S1x4x128x128, .f32⟩
  | .local _ .vmem, ⟨4, _⟩ => ⟨S1x4x128x128, .f32⟩
  | .local _ .vmem, ⟨5, _⟩ => ⟨S1x4x128x128, .f32⟩
  | .local _ .vmem, ⟨6, _⟩ => ⟨S1x32x128, .f32⟩
  | .local _ .vmem, ⟨7, _⟩ => ⟨S1x32x128, .f32⟩
  | .local _ .vmem, ⟨8, _⟩ => ⟨S1x4x32x128, .f32⟩
  | .local _ .vmem, ⟨9, _⟩ => ⟨S1x4x32x128, .f32⟩
  | .local _ .vmem, ⟨10, _⟩ => ⟨S1x4x32x128, .f32⟩
  | .local _ .vmem, ⟨11, _⟩ => ⟨S1x4x32x128, .f32⟩
  | .local _ .vmem, ⟨12, _⟩ => ⟨S1x8x128, .f32⟩
  | .local _ .vmem, ⟨13, _⟩ => ⟨S1x8x128, .f32⟩
  | .local _ .vmem, ⟨14, _⟩ => ⟨S1x4x8x128, .f32⟩
  | .local _ .vmem, ⟨15, _⟩ => ⟨S1x4x8x128, .f32⟩
  | .local _ .vmem, ⟨16, _⟩ => ⟨S1x4x8x128, .f32⟩
  | .local _ .vmem, ⟨17, _⟩ => ⟨S1x4x8x128, .f32⟩
  | .local _ .vmem, ⟨18, _⟩ => ⟨S1x128x128, .f32⟩
  | .local _ .vmem, ⟨19, _⟩ => ⟨S1x128x128, .f32⟩
  | .local _ .vmem, ⟨20, _⟩ => ⟨S1x4x128x128, .f32⟩
  | .local _ .vmem, ⟨21, _⟩ => ⟨S1x4x128x128, .f32⟩
  | .local _ .vmem, ⟨22, _⟩ => ⟨S1x32x128, .f32⟩
  | .local _ .vmem, ⟨23, _⟩ => ⟨S1x32x128, .f32⟩
  | .local _ .vmem, ⟨24, _⟩ => ⟨S1x4x32x128, .f32⟩
  | .local _ .vmem, ⟨25, _⟩ => ⟨S1x4x32x128, .f32⟩
  | .local _ .vmem, ⟨26, _⟩ => ⟨S1x8x128, .f32⟩
  | .local _ .vmem, ⟨27, _⟩ => ⟨S1x8x128, .f32⟩
  | .local _ .vmem, ⟨28, _⟩ => ⟨S1x4x8x128, .f32⟩
  | .local _ .vmem, ⟨29, _⟩ => ⟨S1x4x8x128, .f32⟩
  | .local _ .smem, ⟨0, _⟩ => ⟨S4x2, .f32⟩
  | _, _ => ⟨S4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v2 : Index := Scalar.indexCast arg0
  let c1 : Index := 1#32
  ![v2.toNat, 1]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S4x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S4x128x128 : Shape := ⟨3, ![4, 128, 128]⟩
abbrev S4x4x128x128 : Shape := ⟨4, ![4, 4, 128, 128]⟩
abbrev S4x32x128 : Shape := ⟨3, ![4, 32, 128]⟩
abbrev S4x4x32x128 : Shape := ⟨4, ![4, 4, 32, 128]⟩
abbrev S4x8x128 : Shape := ⟨3, ![4, 8, 128]⟩
abbrev S4x4x8x128 : Shape := ⟨4, ![4, 4, 8, 128]⟩
abbrev S4x2 : Shape := ⟨2, ![4, 2]⟩
abbrev S4x1x1x2 : Shape := ⟨4, ![4, 1, 1, 2]⟩
abbrev S4x128x128x4 : Shape := ⟨4, ![4, 128, 128, 4]⟩
abbrev S4x128x128x1 : Shape := ⟨4, ![4, 128, 128, 1]⟩
abbrev S_ : Shape := ⟨0, ![]⟩
abbrev S4x1x1x1 : Shape := ⟨4, ![4, 1, 1, 1]⟩
abbrev S4x1x1x4 : Shape := ⟨4, ![4, 1, 1, 4]⟩
abbrev S4x32x128x4 : Shape := ⟨4, ![4, 32, 128, 4]⟩
abbrev S4x32x128x1 : Shape := ⟨4, ![4, 32, 128, 1]⟩
abbrev S4x8x128x4 : Shape := ⟨4, ![4, 8, 128, 4]⟩
abbrev S4x8x128x1 : Shape := ⟨4, ![4, 8, 128, 1]⟩

abbrev nBuf : Space → Nat
  | .hbm => 254
  | .vmem => 0
  | .smem => 0
  | _ => 0

abbrev hbmTy0_0 (i : Nat) : BufTy := match i % 128 with
  | 0 => ⟨S4x128x128, .f32⟩
  | 1 => ⟨S4x4x128x128, .f32⟩
  | 2 => ⟨S4x4x128x128, .f32⟩
  | 3 => ⟨S4x32x128, .f32⟩
  | 4 => ⟨S4x4x32x128, .f32⟩
  | 5 => ⟨S4x4x32x128, .f32⟩
  | 6 => ⟨S4x8x128, .f32⟩
  | 7 => ⟨S4x4x8x128, .f32⟩
  | 8 => ⟨S4x4x8x128, .f32⟩
  | 9 => ⟨S4x2, .f32⟩
  | 10 => ⟨S4x1x1x2, .f32⟩
  | 11 => ⟨S4x128x128x4, .f32⟩
  | 12 => ⟨S4x128x128x4, .f32⟩
  | 13 => ⟨S4x128x128x1, .f32⟩
  | 14 => ⟨S4x128x128, .f32⟩
  | 15 => ⟨S4x128x128x1, .f32⟩
  | 16 => ⟨S4x128x128, .f32⟩
  | 17 => ⟨S4x128x128x1, .f32⟩
  | 18 => ⟨S4x128x128, .f32⟩
  | 19 => ⟨S4x128x128x1, .f32⟩
  | 20 => ⟨S4x128x128, .f32⟩
  | 21 => ⟨S4x128x128, .f32⟩
  | 22 => ⟨S4x128x128, .f32⟩
  | 23 => ⟨S_, .f32⟩
  | 24 => ⟨S4x128x128, .f32⟩
  | 25 => ⟨S4x128x128, .f32⟩
  | 26 => ⟨S4x128x128, .f32⟩
  | 27 => ⟨S_, .f32⟩
  | 28 => ⟨S4x128x128, .f32⟩
  | 29 => ⟨S4x128x128, .f32⟩
  | 30 => ⟨S4x128x128, .f32⟩
  | 31 => ⟨S4x128x128x1, .f32⟩
  | 32 => ⟨S4x128x128, .f32⟩
  | 33 => ⟨S4x128x128x1, .f32⟩
  | 34 => ⟨S4x128x128, .f32⟩
  | 35 => ⟨S4x128x128x1, .f32⟩
  | 36 => ⟨S4x128x128, .f32⟩
  | 37 => ⟨S_, .f32⟩
  | 38 => ⟨S4x128x128, .f32⟩
  | 39 => ⟨S4x128x128, .f32⟩
  | 40 => ⟨S4x128x128x1, .f32⟩
  | 41 => ⟨S4x128x128, .f32⟩
  | 42 => ⟨S_, .f32⟩
  | 43 => ⟨S4x128x128, .f32⟩
  | 44 => ⟨S4x128x128, .f32⟩
  | 45 => ⟨S4x128x128, .f32⟩
  | 46 => ⟨S4x128x128, .f32⟩
  | 47 => ⟨S4x128x128, .f32⟩
  | 48 => ⟨S4x128x128, .f32⟩
  | 49 => ⟨S4x128x128, .f32⟩
  | 50 => ⟨S4x128x128, .f32⟩
  | 51 => ⟨S4x128x128, .f32⟩
  | 52 => ⟨S4x128x128, .f32⟩
  | 53 => ⟨S_, .f32⟩
  | 54 => ⟨S4x128x128, .f32⟩
  | 55 => ⟨S4x128x128, .f32⟩
  | 56 => ⟨S4x128x128, .f32⟩
  | 57 => ⟨S_, .f32⟩
  | 58 => ⟨S4x128x128, .f32⟩
  | 59 => ⟨S4x128x128, .f32⟩
  | 60 => ⟨S4x128x128, .f32⟩
  | 61 => ⟨S_, .f32⟩
  | 62 => ⟨S4x128x128, .f32⟩
  | 63 => ⟨S4x128x128, .f32⟩
  | 64 => ⟨S4x128x128, .f32⟩
  | 65 => ⟨S_, .f32⟩
  | 66 => ⟨S4x128x128, .f32⟩
  | 67 => ⟨S4x128x128, .f32⟩
  | 68 => ⟨S4x128x128, .f32⟩
  | 69 => ⟨S4x128x128x1, .f32⟩
  | 70 => ⟨S4x128x128x1, .f32⟩
  | 71 => ⟨S4x128x128x1, .f32⟩
  | 72 => ⟨S4x128x128x1, .f32⟩
  | 73 => ⟨S4x128x128x4, .f32⟩
  | 74 => ⟨S4x1x1x1, .f32⟩
  | 75 => ⟨S4x1x1x1, .f32⟩
  | 76 => ⟨S4x1x1x4, .f32⟩
  | 77 => ⟨S_, .f32⟩
  | 78 => ⟨S_, .f32⟩
  | 79 => ⟨S4x128x128x4, .f32⟩
  | 80 => ⟨S4x128x128x4, .f32⟩
  | 81 => ⟨S4x128x128x4, .f32⟩
  | 82 => ⟨S4x128x128x4, .f32⟩
  | 83 => ⟨S4x128x128, .f32⟩
  | 84 => ⟨S4x128x128, .f32⟩
  | 85 => ⟨S_, .f32⟩
  | 86 => ⟨S4x128x128, .f32⟩
  | 87 => ⟨S4x128x128, .f32⟩
  | 88 => ⟨S_, .f32⟩
  | 89 => ⟨S4x128x128, .f32⟩
  | 90 => ⟨S4x128x128, .f32⟩
  | 91 => ⟨S4x4x128x128, .f32⟩
  | 92 => ⟨S4x32x128x4, .f32⟩
  | 93 => ⟨S4x32x128x4, .f32⟩
  | 94 => ⟨S4x32x128x1, .f32⟩
  | 95 => ⟨S4x32x128, .f32⟩
  | 96 => ⟨S4x32x128x1, .f32⟩
  | 97 => ⟨S4x32x128, .f32⟩
  | 98 => ⟨S4x32x128x1, .f32⟩
  | 99 => ⟨S4x32x128, .f32⟩
  | 100 => ⟨S4x32x128x1, .f32⟩
  | 101 => ⟨S4x32x128, .f32⟩
  | 102 => ⟨S4x32x128, .f32⟩
  | 103 => ⟨S4x32x128, .f32⟩
  | 104 => ⟨S_, .f32⟩
  | 105 => ⟨S4x32x128, .f32⟩
  | 106 => ⟨S4x32x128, .f32⟩
  | 107 => ⟨S4x32x128, .f32⟩
  | 108 => ⟨S_, .f32⟩
  | 109 => ⟨S4x32x128, .f32⟩
  | 110 => ⟨S4x32x128, .f32⟩
  | 111 => ⟨S4x32x128, .f32⟩
  | 112 => ⟨S4x32x128x1, .f32⟩
  | 113 => ⟨S4x32x128, .f32⟩
  | 114 => ⟨S4x32x128x1, .f32⟩
  | 115 => ⟨S4x32x128, .f32⟩
  | 116 => ⟨S4x32x128x1, .f32⟩
  | 117 => ⟨S4x32x128, .f32⟩
  | 118 => ⟨S_, .f32⟩
  | 119 => ⟨S4x32x128, .f32⟩
  | 120 => ⟨S4x32x128, .f32⟩
  | 121 => ⟨S4x32x128x1, .f32⟩
  | 122 => ⟨S4x32x128, .f32⟩
  | 123 => ⟨S_, .f32⟩
  | 124 => ⟨S4x32x128, .f32⟩
  | 125 => ⟨S4x32x128, .f32⟩
  | 126 => ⟨S4x32x128, .f32⟩
  | 127 => ⟨S4x32x128, .f32⟩
  | _ => ⟨S4x128x128, .f32⟩

abbrev hbmTy0_1 (i : Nat) : BufTy := match i % 128 with
  | 0 => ⟨S4x32x128, .f32⟩
  | 1 => ⟨S4x32x128, .f32⟩
  | 2 => ⟨S4x32x128, .f32⟩
  | 3 => ⟨S4x32x128, .f32⟩
  | 4 => ⟨S4x32x128, .f32⟩
  | 5 => ⟨S4x32x128, .f32⟩
  | 6 => ⟨S_, .f32⟩
  | 7 => ⟨S4x32x128, .f32⟩
  | 8 => ⟨S4x32x128, .f32⟩
  | 9 => ⟨S4x32x128, .f32⟩
  | 10 => ⟨S_, .f32⟩
  | 11 => ⟨S4x32x128, .f32⟩
  | 12 => ⟨S4x32x128, .f32⟩
  | 13 => ⟨S4x32x128, .f32⟩
  | 14 => ⟨S_, .f32⟩
  | 15 => ⟨S4x32x128, .f32⟩
  | 16 => ⟨S4x32x128, .f32⟩
  | 17 => ⟨S4x32x128, .f32⟩
  | 18 => ⟨S_, .f32⟩
  | 19 => ⟨S4x32x128, .f32⟩
  | 20 => ⟨S4x32x128, .f32⟩
  | 21 => ⟨S4x32x128, .f32⟩
  | 22 => ⟨S4x32x128x1, .f32⟩
  | 23 => ⟨S4x32x128x1, .f32⟩
  | 24 => ⟨S4x32x128x1, .f32⟩
  | 25 => ⟨S4x32x128x1, .f32⟩
  | 26 => ⟨S4x32x128x4, .f32⟩
  | 27 => ⟨S4x1x1x1, .f32⟩
  | 28 => ⟨S4x1x1x1, .f32⟩
  | 29 => ⟨S4x1x1x4, .f32⟩
  | 30 => ⟨S_, .f32⟩
  | 31 => ⟨S_, .f32⟩
  | 32 => ⟨S4x32x128x4, .f32⟩
  | 33 => ⟨S4x32x128x4, .f32⟩
  | 34 => ⟨S4x32x128x4, .f32⟩
  | 35 => ⟨S4x32x128x4, .f32⟩
  | 36 => ⟨S4x32x128, .f32⟩
  | 37 => ⟨S4x32x128, .f32⟩
  | 38 => ⟨S_, .f32⟩
  | 39 => ⟨S4x32x128, .f32⟩
  | 40 => ⟨S4x32x128, .f32⟩
  | 41 => ⟨S_, .f32⟩
  | 42 => ⟨S4x32x128, .f32⟩
  | 43 => ⟨S4x32x128, .f32⟩
  | 44 => ⟨S4x4x32x128, .f32⟩
  | 45 => ⟨S4x8x128x4, .f32⟩
  | 46 => ⟨S4x8x128x4, .f32⟩
  | 47 => ⟨S4x8x128x1, .f32⟩
  | 48 => ⟨S4x8x128, .f32⟩
  | 49 => ⟨S4x8x128x1, .f32⟩
  | 50 => ⟨S4x8x128, .f32⟩
  | 51 => ⟨S4x8x128x1, .f32⟩
  | 52 => ⟨S4x8x128, .f32⟩
  | 53 => ⟨S4x8x128x1, .f32⟩
  | 54 => ⟨S4x8x128, .f32⟩
  | 55 => ⟨S4x8x128, .f32⟩
  | 56 => ⟨S4x8x128, .f32⟩
  | 57 => ⟨S_, .f32⟩
  | 58 => ⟨S4x8x128, .f32⟩
  | 59 => ⟨S4x8x128, .f32⟩
  | 60 => ⟨S4x8x128, .f32⟩
  | 61 => ⟨S_, .f32⟩
  | 62 => ⟨S4x8x128, .f32⟩
  | 63 => ⟨S4x8x128, .f32⟩
  | 64 => ⟨S4x8x128, .f32⟩
  | 65 => ⟨S4x8x128x1, .f32⟩
  | 66 => ⟨S4x8x128, .f32⟩
  | 67 => ⟨S4x8x128x1, .f32⟩
  | 68 => ⟨S4x8x128, .f32⟩
  | 69 => ⟨S4x8x128x1, .f32⟩
  | 70 => ⟨S4x8x128, .f32⟩
  | 71 => ⟨S_, .f32⟩
  | 72 => ⟨S4x8x128, .f32⟩
  | 73 => ⟨S4x8x128, .f32⟩
  | 74 => ⟨S4x8x128x1, .f32⟩
  | 75 => ⟨S4x8x128, .f32⟩
  | 76 => ⟨S_, .f32⟩
  | 77 => ⟨S4x8x128, .f32⟩
  | 78 => ⟨S4x8x128, .f32⟩
  | 79 => ⟨S4x8x128, .f32⟩
  | 80 => ⟨S4x8x128, .f32⟩
  | 81 => ⟨S4x8x128, .f32⟩
  | 82 => ⟨S4x8x128, .f32⟩
  | 83 => ⟨S4x8x128, .f32⟩
  | 84 => ⟨S4x8x128, .f32⟩
  | 85 => ⟨S4x8x128, .f32⟩
  | 86 => ⟨S4x8x128, .f32⟩
  | 87 => ⟨S_, .f32⟩
  | 88 => ⟨S4x8x128, .f32⟩
  | 89 => ⟨S4x8x128, .f32⟩
  | 90 => ⟨S4x8x128, .f32⟩
  | 91 => ⟨S_, .f32⟩
  | 92 => ⟨S4x8x128, .f32⟩
  | 93 => ⟨S4x8x128, .f32⟩
  | 94 => ⟨S4x8x128, .f32⟩
  | 95 => ⟨S_, .f32⟩
  | 96 => ⟨S4x8x128, .f32⟩
  | 97 => ⟨S4x8x128, .f32⟩
  | 98 => ⟨S4x8x128, .f32⟩
  | 99 => ⟨S_, .f32⟩
  | 100 => ⟨S4x8x128, .f32⟩
  | 101 => ⟨S4x8x128, .f32⟩
  | 102 => ⟨S4x8x128, .f32⟩
  | 103 => ⟨S4x8x128x1, .f32⟩
  | 104 => ⟨S4x8x128x1, .f32⟩
  | 105 => ⟨S4x8x128x1, .f32⟩
  | 106 => ⟨S4x8x128x1, .f32⟩
  | 107 => ⟨S4x8x128x4, .f32⟩
  | 108 => ⟨S4x1x1x1, .f32⟩
  | 109 => ⟨S4x1x1x1, .f32⟩
  | 110 => ⟨S4x1x1x4, .f32⟩
  | 111 => ⟨S_, .f32⟩
  | 112 => ⟨S_, .f32⟩
  | 113 => ⟨S4x8x128x4, .f32⟩
  | 114 => ⟨S4x8x128x4, .f32⟩
  | 115 => ⟨S4x8x128x4, .f32⟩
  | 116 => ⟨S4x8x128x4, .f32⟩
  | 117 => ⟨S4x8x128, .f32⟩
  | 118 => ⟨S4x8x128, .f32⟩
  | 119 => ⟨S_, .f32⟩
  | 120 => ⟨S4x8x128, .f32⟩
  | 121 => ⟨S4x8x128, .f32⟩
  | 122 => ⟨S_, .f32⟩
  | 123 => ⟨S4x8x128, .f32⟩
  | 124 => ⟨S4x8x128, .f32⟩
  | 125 => ⟨S4x4x8x128, .f32⟩
  | _ => ⟨S4x128x128, .f32⟩

abbrev hbmTy (i : Nat) : BufTy := match i / 128 with
  | 0 => hbmTy0_0 i
  | 1 => hbmTy0_1 i
  | _ => ⟨S4x128x128, .f32⟩

abbrev bufTy : (tb : Table) → Fin (tcTables nBuf tb) → BufTy
  | .hbm, ⟨i, _⟩ => hbmTy i
  | _, _ => ⟨S4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_8 : Ref sig .tc := ⟨.hbm, 85, rfl⟩
abbrev main_v62 : Ref sig .tc := ⟨.hbm, 86, rfl⟩
abbrev main_v63 : Ref sig .tc := ⟨.hbm, 87, rfl⟩
abbrev main_cst_9 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_10 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_11 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_12 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_13 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_14 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_15 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_16 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_17 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_18 : Ref sig .tc := ⟨.hbm, 158, rfl⟩
abbrev main_call1_v0 : Ref sig .tc := ⟨.hbm, 159, rfl⟩
abbrev main_call1_v1 : Ref sig .tc := ⟨.hbm, 160, rfl⟩
abbrev main_call1_v2 : Ref sig .tc := ⟨.hbm, 161, rfl⟩
abbrev main_call1_v3 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_19 : Ref sig .tc := ⟨.hbm, 166, rfl⟩
abbrev main_v128 : Ref sig .tc := ⟨.hbm, 167, rfl⟩
abbrev main_v129 : Ref sig .tc := ⟨.hbm, 168, rfl⟩
abbrev main_cst_20 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_cst_21 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_22 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_23 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_24 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_25 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_cst_26 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_cst_27 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_28 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_cst_29 : Ref sig .tc := ⟨.hbm, 239, rfl⟩
abbrev main_call2_v0 : Ref sig .tc := ⟨.hbm, 240, rfl⟩
abbrev main_call2_v1 : Ref sig .tc := ⟨.hbm, 241, rfl⟩
abbrev main_call2_v2 : Ref sig .tc := ⟨.hbm, 242, rfl⟩
abbrev main_call2_v3 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_cst_30 : Ref sig .tc := ⟨.hbm, 247, rfl⟩
abbrev main_v194 : Ref sig .tc := ⟨.hbm, 248, rfl⟩
abbrev main_v195 : Ref sig .tc := ⟨.hbm, 249, rfl⟩
abbrev main_cst_31 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩

abbrev nD : Nat := 1
abbrev τ : Topo := Topo.v7x

variable {F : FTy → Type} [FloatOps F]
-- ==== Kernel4.lean ====
abbrev S4x8x128 : Shape := ⟨3, ![4, 8, 128]⟩
abbrev S4x4x8x128 : Shape := ⟨4, ![4, 4, 8, 128]⟩
abbrev S1x8x128 : Shape := ⟨3, ![1, 8, 128]⟩
abbrev S1x4x8x128 : Shape := ⟨4, ![1, 4, 8, 128]⟩
abbrev S1024x1024 : Shape := ⟨2, ![1024, 1024]⟩
abbrev S1024x128 : Shape := ⟨2, ![1024, 128]⟩
abbrev S8x128 : Shape := ⟨2, ![8, 128]⟩
abbrev S1x1x8x128 : Shape := ⟨4, ![1, 1, 8, 128]⟩
abbrev S1x128 : Shape := ⟨2, ![1, 128]⟩
abbrev S8x1 : Shape := ⟨2, ![8, 1]⟩

abbrev nBuf : Space → Nat
  | .hbm => 4
  | .vmem => 10
  | .smem => 0
  | _ => 0

abbrev bufTy : (tb : Table) → Fin (tcTables nBuf tb) → BufTy
  | .hbm, ⟨0, _⟩ => ⟨S4x8x128, .f32⟩
  | .hbm, ⟨1, _⟩ => ⟨S4x4x8x128, .f32⟩
  | .hbm, ⟨2, _⟩ => ⟨S4x8x128, .f32⟩
  | .hbm, ⟨3, _⟩ => ⟨S4x4x8x128, .f32⟩
  | .local _ .vmem, ⟨0, _⟩ => ⟨S1x8x128, .f32⟩
  | .local _ .vmem, ⟨1, _⟩ => ⟨S1x8x128, .f32⟩
  | .local _ .vmem, ⟨2, _⟩ => ⟨S1x4x8x128, .f32⟩
  | .local _ .vmem, ⟨3, _⟩ => ⟨S1x4x8x128, .f32⟩
  | .local _ .vmem, ⟨4, _⟩ => ⟨S1x8x128, .f32⟩
  | .local _ .vmem, ⟨5, _⟩ => ⟨S1x8x128, .f32⟩
  | .local _ .vmem, ⟨6, _⟩ => ⟨S1x4x8x128, .f32⟩
  | .local _ .vmem, ⟨7, _⟩ => ⟨S1x4x8x128, .f32⟩
  | .local _ .vmem, ⟨8, _⟩ => ⟨S1024x1024, .f32⟩
  | .local _ .vmem, ⟨9, _⟩ => ⟨S1024x128, .f32⟩
  | _, _ => ⟨S4x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x8x128 : Shape := ⟨3, ![4, 8, 128]⟩
abbrev S4x4x8x128 : Shape := ⟨4, ![4, 4, 8, 128]⟩
abbrev S4x4x1024 : Shape := ⟨3, ![4, 4, 1024]⟩
abbrev S4x1024x4 : Shape := ⟨3, ![4, 1024, 4]⟩
abbrev S4x1024 : Shape := ⟨2, ![4, 1024]⟩
abbrev S4x1024x1 : Shape := ⟨3, ![4, 1024, 1]⟩
abbrev S_ : Shape := ⟨0, ![]⟩
abbrev S1 : Shape := ⟨1, ![1]⟩
abbrev S1x1x1 : Shape := ⟨3, ![1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x8x128, .f32⟩
  | .hbm, ⟨1, _⟩ => ⟨S4x4x8x128, .f32⟩
  | .hbm, ⟨2, _⟩ => ⟨S4x4x1024, .f32⟩
  | .hbm, ⟨3, _⟩ => ⟨S4x1024x4, .f32⟩
  | .hbm, ⟨4, _⟩ => ⟨S4x1024, .f32⟩
  | .hbm, ⟨5, _⟩ => ⟨S4x1024, .f32⟩
  | .hbm, ⟨6, _⟩ => ⟨S4x1024, .i32⟩
  | .hbm, ⟨7, _⟩ => ⟨S4x1024x1, .i32⟩
  | .hbm, ⟨8, _⟩ => ⟨S_, .i32⟩
  | .hbm, ⟨9, _⟩ => ⟨S4x1024x1, .i32⟩
  | .hbm, ⟨10, _⟩ => ⟨S4x1024x1, .i1⟩
  | .hbm, ⟨11, _⟩ => ⟨S_, .i32⟩
  | .hbm, ⟨12, _⟩ => ⟨S4x1024x1, .i32⟩
  | .hbm, ⟨13, _⟩ => ⟨S4x1024x1, .i32⟩
  | .hbm, ⟨14, _⟩ => ⟨S4x1024x1, .i32⟩
  | .hbm, ⟨15, _⟩ => ⟨S1, .i32⟩
  | .hbm, ⟨16, _⟩ => ⟨S_, .i32⟩
  | .hbm, ⟨17, _⟩ => ⟨S4x1024x1, .i32⟩
  | .hbm, ⟨18, _⟩ => ⟨S4x1024x1, .i1⟩
  | .hbm, ⟨19, _⟩ => ⟨S1x1x1, .i32⟩
  | .hbm, ⟨20, _⟩ => ⟨S4x1024x1, .i32⟩
  | .hbm, ⟨21, _⟩ => ⟨S4x1024x1, .i1⟩
  | .hbm, ⟨22, _⟩ => ⟨S4x1024x1, .i1⟩
  | .hbm, ⟨23, _⟩ => ⟨S_, .i1⟩
  | .hbm, ⟨24, _⟩ => ⟨S4x1024, .i1⟩
  | .hbm, ⟨25, _⟩ => ⟨S4x1024x4, .f32⟩
  | .hbm, ⟨26, _⟩ => ⟨S4x1024x4, .i1⟩
  | .hbm, ⟨27, _⟩ => ⟨S_, .f32⟩
  | .hbm, ⟨28, _⟩ => ⟨S4x1024x4, .f32⟩
  | .hbm, ⟨29, _⟩ => ⟨S4x1024x4, .f32⟩
  | .hbm, ⟨30, _⟩ => ⟨S4x8x128, .f32⟩
  | .hbm, ⟨31, _⟩ => ⟨S4x4x1024, .f32⟩
  | .hbm, ⟨32, _⟩ => ⟨S4x4x8x128, .f32⟩
  | _, _ => ⟨S4x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩

abbrev nD : Nat := 1
abbrev τ : Topo := Topo.v7x

variable {F : FTy → Type} [FloatOps F]
-- ==== Proof.Bits.Frame.lean ====
/- The launch around the body: every argument array ends unchanged. Nothing is said of the result here. -/
module

public import proofs.«01_k».proof.Proof.Bits.Body
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch buffers, whole. -/
abbrev pairs : Memref sig .tc .vmem S1024x1024 .f32 := Memref.whole cc0_scratch0
abbrev cols : Memref sig .tc .vmem S1024x128 .f32 := Memref.whole cc0_scratch1

/-- What the grid carries between points beside the windows: the scratch buffers at any contents and the generator
    register. -/
theorem carried_eq (c : Dev nD) : (Pipeline.ΦA spec0 c : sProp 𝕄) =
    iprop(iprop((∃ d, owns (c : Thread nD τ) pairs fullShare d) ∗ (∃ d, owns (c : Thread nD τ) cols fullShare d))
      ∗ (∃ r, prngReg c r)) := by
  unfold Pipeline.ΦA; rw [scopedRest0_eq]; simp only [pairs, cols, owns_whole]; try rfl

/-- The windows whose contents are left unsaid: the result's. -/
def forgets : Fin 3 → Bool := fun w => w.val == 2

/-- The pipeline's data: the arrays as launched, each input's buffer at its block after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is entered with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d))

/-- What it is left with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d))

set_option maxHeartbeats 1600000 in
/-- The body's triple at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, carried_eq]
  iintro ⟨⟨⟨⟨%e4, HS4⟩, ⟨%e5, HS5⟩⟩, Hg⟩, Ho, ⟨%d0, H0⟩, ⟨%d1, H1⟩, ⟨%d2, H2⟩⟩
  unfold owns
  icases HS4 with ⟨%f4, %hf4, HS4⟩
  icases HS5 with ⟨%f5, %hf5, HS5⟩
  icases H2 with ⟨%f3, %hf3, H2⟩
  iapply ((run c _ _ _ _ _ _ _ _ _ _ _ (iblk m c 0 t) (iblk m c 1 t) f3 f4 f5).2.2.2 Set.univ _)
  unfold owns
  isplitl [H0]; · iexact H0
  isplitl [H1]; · iexact H1
  isplitl [H2]; · iexact H2
  isplitl [HS4]; · iexact HS4
  isplitl [HS5]; · iexact HS5
  iintro ⟨H0, H1, H2, HS4, HS5⟩
  isplitl [HS4 HS5 Hg]
  · isplitl [HS4 HS5]
    · isplitl [HS4]
      · iexists _; iexists _; isplitr
        swap; · iexact HS4
        ipureintro; rfl
      iexists _; iexists _; isplitr
      swap; · iexact HS5
      ipureintro; rfl
    iexact Hg
  isplitl [Ho]; · iexact Ho
  isplitl [H0]; · iexact H0
  isplitl [H1]; · iexact H1
  iexists _; iexists _; isplitr
  swap; · iexact H2
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch, and every semaphore at zero at the end. -/
theorem launch : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Pipeline.RDat.FramePost.arr_in h.1 c 0 rfl).trans ((A_eq m c 0).trans (V_main_arg0 m c)),
      (Pipeline.RDat.FramePost.arr_in h.1 c 1 rfl).trans ((A_eq m c 1).trans (V_main_arg1 m c))⟩) (launch m ρ)

/-- The frame claim: the program ends, the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (launch m ρ))

end Cert.Kernel.Body

end
-- ==== Proof.Ideal.Body.lean ====
/- One run of the kernel's body on whole buffers. -/
module

public import proofs.«01_k».proof.Proof.Gen.KernelIdeal.Frame
public import proofs.«01_k».proof.Proof.Gen.KernelIdeal.Loops

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body run from buffers holding `x0`, `x1` (the inputs), `f3` (the output) and `f4`, `f5` (the two scratch
    buffers): the inputs end as they were and the three others at the contents of the witness. -/
def run (c : Dev nD) (i : grid0.Coords)
    (arg1 : Memref sig .tc .vmem S1x8x128 .f32) (harg1 : arg1.IsWhole)
    (arg2 : Memref sig .tc .vmem S1x4x8x128 .f32) (harg2 : arg2.IsWhole)
    (arg3 : Memref sig .tc .vmem S1x8x128 .f32) (harg3 : arg3.IsWhole)
    (arg4 : Memref sig .tc .vmem S1024x1024 .f32) (harg4 : arg4.IsWhole)
    (arg5 : Memref sig .tc .vmem S1024x128 .f32) (harg5 : arg5.IsWhole)
    (x0 : Vec F S1x8x128 .f32) (x1 : Vec F S1x4x8x128 .f32)
    (f3 : BufTy.Contents (Elt F) arg3.view.ty) (f4 : BufTy.Contents (Elt F) arg4.view.ty)
    (f5 : BufTy.Contents (Elt F) arg5.view.ty) :
    Σ' (g4 : BufTy.Contents (Elt F) arg4.view.ty) (g5 : BufTy.Contents (Elt F) arg5.view.ty),
    { g3 : BufTy.Contents (Elt F) arg3.view.ty //
      ∀ (E : Set ℕ) (K : PUnit → sProp 𝕄),
        iprop(owns (c : Thread nD τ) arg1 fullShare x0 ∗ owns (c : Thread nD τ) arg2 fullShare x1
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (iprop(owns (c : Thread nD τ) arg1 fullShare x0 ∗ owns (c : Thread nD τ) arg2 fullShare x1
                ∗ (arg3.view.loc (c : Thread nD τ) ↦[arg3.view.set]{fullShare} g3)
                ∗ (arg4.view.loc (c : Thread nD τ) ↦[arg4.view.set]{fullShare} g4)
                ∗ (arg5.view.loc (c : Thread nD τ) ↦[arg5.view.set]{fullShare} g5)) -∗ K ⟨⟩))
          ⊢ wp frame (wpE (defs₀ (F := F)) Variants.none c none) E
              (cc0__nms_kernel i arg1 harg1 arg2 harg2 arg3 harg3 arg4 harg4 arg5 harg5) K } := by
  refine ⟨?_, ?_, ?_, fun E K => ?run⟩
  case run =>
    simp only [cc0__nms_kernel_eq_skeleton]; unfold cc0__nms_kernel_skel
    unfold owns
    iintro ⟨⟨%f0, %hf0, H0⟩, ⟨%f1, %hf1, H1⟩, H3, H4, H5, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H3]; · iexact H3
    isplitl [H4]; · iexact H4
    iexact H5

end Cert.KernelIdeal.Body

end
-- ==== Proof.Nms.Spec.lean ====
/- Greedy suppression on natural numbers, and the overlap of two boxes read off coordinate planes. -/
module

public import Idealize.ShloMosaic.Lib.Pointwise
public import Idealize.ShloMosaic.Lib.WordArith
public import Idealize.ShloMosaic.PureOps.Ideal.Laws

@[expose] public section

noncomputable section

namespace Cert.Nms

open Idealize.ShloMosaic Idealize.ShloMosaic.TcCoe

/-! ## The rounded constants -/

theorem half_eq : Ideal.ofBits .f32 0x3F000000#32 = (((1 : ℝ) / 2 : ℝ) : EReal) := by
  simp [Ideal.ofBits, Ideal.ieee, -EReal.coe_mul]; norm_num

theorem neg_one_eq : Ideal.ofBits .f32 0xBF800000#32 = ((-(1 : ℝ) : ℝ) : EReal) := by
  simp [Ideal.ofBits, Ideal.ieee, -EReal.coe_mul, -EReal.coe_neg]; norm_num

theorem half_lt_one : Ideal.ofBits .f32 0x3F000000#32 < 1 := by
  rw [half_eq]; exact_mod_cast (by norm_num : (1 : ℝ) / 2 < 1)

theorem not_half_lt_zero : ¬ Ideal.ofBits .f32 0x3F000000#32 < 0 := by
  rw [half_eq]; exact_mod_cast (by norm_num : ¬ (1 : ℝ) / 2 < 0)

theorem bottom_eq : Ideal.ofBits .f32 0xFF800000#32 = ⊥ := by
  simp [Ideal.ofBits, Ideal.ieee]

/-- The threshold of the suppression. -/
def thr : EReal := Ideal.ofBits .f32 0x3F333333#32

/-- Minus one, which stands in for a row that is not looked at, does not pass the threshold. -/
theorem not_thr_lt_neg_one : ¬ thr < Ideal.ofBits .f32 0xBF800000#32 := by
  unfold thr
  rw [neg_one_eq, not_lt]
  have h : Ideal.ofBits .f32 0x3F333333#32 = (((11744051 : ℝ) / 16777216 : ℝ) : EReal) := by
    simp [Ideal.ofBits, Ideal.ieee, -EReal.coe_mul]; norm_num
  rw [h]; exact_mod_cast (by norm_num : -(1 : ℝ) ≤ 11744051 / 16777216)

/-! ## A proposition as zero or one -/

open Classical in
/-- One where `p` holds and zero elsewhere. -/
def ind (p : Prop) : EReal := if p then 1 else 0

theorem ind_congr {p q : Prop} (h : p ↔ q) : ind p = ind q := by rw [propext h]

theorem half_lt_ind (p : Prop) : Ideal.ofBits .f32 0x3F000000#32 < ind p ↔ p := by
  unfold ind
  by_cases h : p
  · simp [h, half_lt_one]
  · simp [h, not_half_lt_zero]

/-- Clearing an indicator where `q` holds. -/
theorem clear_ind (p q : Prop) [Decidable q] : (if q then 0 else ind p) = ind (p ∧ ¬ q) := by
  unfold ind
  by_cases q <;> by_cases p <;> simp_all

/-! ## Greedy suppression -/

section
variable (ov : ℕ → ℕ → Prop) (n : ℕ)

/-- Element `j` of `n` is kept when no element kept before it overlaps it. -/
def kept (j : ℕ) : Prop := j < n ∧ ∀ i, (h : i < j) → kept i → ¬ ov i j
termination_by j

/-- Element `j` has not been suppressed by the elements before `c`. -/
def alive (c j : ℕ) : Prop := j < n ∧ ∀ i, i < c → i < j → kept ov n i → ¬ ov i j

theorem kept_iff (j : ℕ) : kept ov n j ↔ alive ov n j j := by
  rw [kept, alive]
  exact and_congr_right fun _ => ⟨fun h i hi _ => h i hi, fun h i hi => h i hi hi⟩

/-- Element `j` is settled from step `j` on. -/
theorem alive_of_le {c j : ℕ} (h : j ≤ c) : alive ov n c j ↔ kept ov n j := by
  rw [kept_iff, alive, alive]
  exact and_congr_right fun _ => ⟨fun H i hi => H i (by omega), fun H i _ hi => H i hi hi⟩

theorem alive_zero (j : ℕ) : alive ov n 0 j ↔ j < n := by
  simp [alive]

theorem alive_succ (c j : ℕ) :
    alive ov n (c + 1) j ↔ alive ov n c j ∧ ¬ (ov c j ∧ c < j ∧ alive ov n c c) := by
  rw [← kept_iff ov n c]
  unfold alive
  constructor
  · rintro ⟨hj, h⟩
    exact ⟨⟨hj, fun i hi => h i (by omega)⟩, fun ⟨ho, hc, hk⟩ => h c (by omega) hc hk ho⟩
  · rintro ⟨⟨hj, h⟩, h'⟩
    refine ⟨hj, fun i hi hij hk ho => ?_⟩
    rcases Nat.lt_succ_iff_lt_or_eq.mp hi with hic | rfl
    · exact h i hic hij hk ho
    · exact h' ⟨ho, hij, hk⟩

/-- Several steps at once: what `m` elements leave is what none of them, once kept, overlaps. -/
theorem alive_carry (m j : ℕ) (hm : m ≤ j) :
    alive ov n m j ↔ j < n ∧ ¬ ∃ i, i < m ∧ kept ov n i ∧ ov i j := by
  unfold alive
  refine and_congr_right fun _ => ⟨fun h ⟨i, hi, hk, ho⟩ => h i hi (by omega) hk ho,
    fun h i hi _ hk ho => h ⟨i, hi, hk, ho⟩⟩

end

/-! ## Overlap of two boxes -/

/-- Coordinate `k` of box `i`, the boxes being laid out in rows of 128. -/
def co (P : Fin 4 → Fin 8 → Fin 128 → EReal) (k : Fin 4) (i : ℕ) : EReal :=
  P k ⟨i / 128 % 8, Nat.mod_lt _ (by decide)⟩ ⟨i % 128, Nat.mod_lt _ (by decide)⟩

theorem co_eq (P : Fin 4 → Fin 8 → Fin 128 → EReal) (k : Fin 4) (i : ℕ) (r : Fin 8) (l : Fin 128)
    (h : i = 128 * r + l) : co P k i = P k r l := by
  subst h
  unfold co
  have h1 : (128 * (r : ℕ) + l) / 128 % 8 = r := by omega
  have h2 : (128 * (r : ℕ) + l) % 128 = l := by omega
  congr 1 <;> exact Fin.ext (by assumption)

/-- The overlap of boxes `i` and `j`: the common area over the area of the union. -/
def iou (p : Fin 4 → ℕ → EReal) (i j : ℕ) : EReal :=
  Ideal.div
    (max (min (p 2 i) (p 2 j) - max (p 0 i) (p 0 j)) 0 * max (min (p 3 i) (p 3 j) - max (p 1 i) (p 1 j)) 0)
    (max (p 2 i - p 0 i) 0 * max (p 3 i - p 1 i) 0 + max (p 2 j - p 0 j) 0 * max (p 3 j - p 1 j) 0 -
        max (min (p 2 i) (p 2 j) - max (p 0 i) (p 0 j)) 0 * max (min (p 3 i) (p 3 j) - max (p 1 i) (p 1 j)) 0 +
      Ideal.ofBits .f32 0x322BCC77#32)

/-- Boxes `i` and `j` overlap by more than the threshold. -/
def over (P : Fin 4 → Fin 8 → Fin 128 → EReal) (i j : ℕ) : Prop := thr < iou (co P) i j

end Cert.Nms

end
-- ==== Proof.Nms.Steps.lean ====
/- What each stretch of the kernel computes at one place, whatever it is applied to: a square block of overlaps, the rows
   that stand for real boxes, one trip of a tile's loop, and the suppression a tile takes over from the tiles before it. -/
module

public import proofs.«01_k».proof.Proof.Gen.KernelIdeal.Loops
public import proofs.«01_k».proof.Proof.Nms.Spec
public import Idealize.ShloMosaic.Lib.Pointwise.Tactic
public import Idealize.ShloMosaic.Lib.Pointwise.Sums

@[expose] public section

set_option maxRecDepth 16384

noncomputable section

namespace Cert.Nms

open Idealize.ShloMosaic Idealize.ShloMosaic.TcCoe Idealize.ShloMosaic.Tactic Idealize.ShloMosaic.WordArith
open Cert.KernelIdeal Cert.KernelIdeal.Gen

/-! ## A square block of overlaps -/

theorem sliceRow (r : Fin 8) : S8x128.Slices ![(r : ℕ), 0] S1x128 := by
  revert r; decide

/-- Row `r` of a plane, in every row of a square block. -/
def across (p : FVec Ideal S8x128 .f32) (r : Fin 8) : FVec Ideal S128x128 .f32 :=
  broadcastTo S128x128
    (shapeCast S1x128 (extractStridedSlice S1x128 ![(r : ℕ), 0] p (sliceRow r)) shapeCasts_S1x128_S1x128)
    broadcasts_S1x128_S128x128

/-- Row `r` of a plane, in every column of a square block. -/
def down (p : FVec Ideal S8x128 .f32) (r : Fin 8) : FVec Ideal S128x128 .f32 :=
  transpose S128x128 [1, 0] (across p r) transposes_S128x128_p1_0_S128x128

/-- A square block of zeros. -/
def zeros : FVec Ideal S128x128 .f32 := broadcast S128x128 (Scalar.ofBits .f32 0x00000000#32)

/-- The overlaps of the boxes of row `rp` with the boxes of row `r`, from the four coordinate planes. -/
def square (p0 p1 p2 p3 : FVec Ideal S8x128 .f32) (rp r : Fin 8) : FVec Ideal S128x128 .f32 :=
  let inter := mulf
    (maximumf (subf (minimumf (down p2 rp) (across p2 r)) (maximumf (down p0 rp) (across p0 r))) zeros)
    (maximumf (subf (minimumf (down p3 rp) (across p3 r)) (maximumf (down p1 rp) (across p1 r))) zeros)
  shapeCast S128x128 (divf inter (addf (subf (addf
      (mulf (maximumf (subf (down p2 rp) (down p0 rp)) zeros) (maximumf (subf (down p3 rp) (down p1 rp)) zeros))
      (mulf (maximumf (subf (across p2 r) (across p0 r)) zeros) (maximumf (subf (across p3 r) (across p1 r)) zeros)))
        inter)
      (broadcast S128x128 (Scalar.ofBits .f32 0x322BCC77#32)))) shapeCasts_S128x128_S128x128

theorem across_apply (p : FVec Ideal S8x128 .f32) (r : Fin 8) (a b : Fin 128) :
    across p r (ix2 a b) = p (ix2 r b) := by
  unfold across; pointwise

theorem down_apply (p : FVec Ideal S8x128 .f32) (r : Fin 8) (a b : Fin 128) :
    down p r (ix2 a b) = p (ix2 r a) := by
  unfold down; pointwise
  rw [across_apply]

theorem square_apply (P : Fin 4 → Fin 8 → Fin 128 → EReal) (p0 p1 p2 p3 : FVec Ideal S8x128 .f32)
    (h0 : ∀ r l, p0 (ix2 r l) = P 0 r l) (h1 : ∀ r l, p1 (ix2 r l) = P 1 r l)
    (h2 : ∀ r l, p2 (ix2 r l) = P 2 r l) (h3 : ∀ r l, p3 (ix2 r l) = P 3 r l)
    (rp r : Fin 8) (a b : Fin 128) :
    square p0 p1 p2 p3 rp r (ix2 a b) = iou (co P) (128 * rp + a) (128 * r + b) := by
  unfold square zeros; pointwise
  simp only [across_apply, down_apply, iou, h0, h1, h2, h3, co_eq P _ _ rp a rfl, co_eq P _ _ r b rfl]

/-! ## The rows that stand for real boxes -/

/-- One at the first `n` places of a plane and zero at the others. -/
def valid (n : BitVec 32) : FVec Ideal S8x128 .f32 :=
  sitofp .f32 (extui 32 (cmpi .slt
    (addi (muli (iota .tc S8x128 32 [0] iota_S8x128_d0_w32) (broadcast S8x128 128#32))
      (iota .tc S8x128 32 [1] iota_S8x128_d1_w32)) (broadcast S8x128 n)) natLt_1_32)

theorem valid_apply (n : ℕ) (hn : n < 2 ^ 31) (r : Fin 8) (l : Fin 128) :
    valid (BitVec.ofNat 32 n) (ix2 r l) = ind (128 * (r : ℕ) + (l : ℕ) < n) := by
  have e : IntOp.addi (IntOp.muli (BitVec.ofNat 32 r) 128#32) (BitVec.ofNat 32 l)
      = BitVec.ofNat 32 (128 * (r : ℕ) + (l : ℕ)) := by
    apply BitVec.eq_of_toNat_eq
    simp only [IntOp.addi, IntOp.muli, BitVec.toNat_add, BitVec.toNat_mul, BitVec.toNat_ofNat]
    omega
  unfold valid; pointwise
  rw [e]
  simp only [IntOp.cmpi, BitVec.slt_eq_decide, toInt_ofNat_small n hn,
    toInt_ofNat_small (128 * (r : ℕ) + (l : ℕ)) (by omega), Nat.cast_lt]
  by_cases h : 128 * (r : ℕ) + (l : ℕ) < n
  · simp [h, ind, FloatOps.sitofp]
  · simp [h, ind, FloatOps.sitofp]

/-! ## One trip of a tile's loop -/

/-- One trip: the element at lane `jj` of `a`, if it stands, clears the lanes after it whose overlap in row `sub` of
    `blk` passes the threshold. -/
def trip (jj sub : BitVec 32) (blk : Vec Ideal S8x128 .f32) (a : FVec Ideal S1x128 .f32) : FVec Ideal S1x128 .f32 :=
  let lane : IVec S1x128 32 := iota .tc S1x128 32 [1] iota_S1x128_d1_w32
  let row : IVec S8x128 32 := iota .tc S8x128 32 [0] iota_S8x128_d0_w32
  let r : FVec Ideal S1x128 .f32 := shapeCast S1x128 (multiReduction .maximumf [0] S128
    (select (cmpi .eq row (broadcast S8x128 sub)) blk (broadcast S8x128 (Scalar.ofBits .f32 0xBF800000#32)))
    0xFF800000#32 reduces_S8x128_S128 (.inl rfl) rfl) shapeCasts_S128_S1x128
  let aj : Ideal .f32 := extractAt ![0, 0, 0] (shapeCast S1x1x1 (multiReduction .add [1, 2] S1
      (shapeCast S1x1x128 (select (cmpi .eq lane (broadcast S1x128 jj)) a
          (broadcast S1x128 (Scalar.ofBits .f32 0x00000000#32)))
        shapeCasts_S1x128_S1x1x128) 0x00000000#32 reduces_S1x1x128_S1 (.inl rfl) rfl) shapeCasts_S1_S1x1x1)
        inpos_S1x1x1_p0_0_0
  select (andi (andi (cmpf .ogt r (broadcast S1x128 (Scalar.ofBits .f32 0x3F333333#32)))
      (cmpi .sgt lane (broadcast S1x128 jj)))
    (broadcast S1x128 (Scalar.cmpf .ogt aj (Scalar.ofBits .f32 0x3F000000#32))))
    (broadcast S1x128 (Scalar.ofBits .f32 0x00000000#32)) a

/-- Choosing by the equality of two small numbers written as words. -/
theorem select_eq {α : Type} (x y : ℕ) (hx : x < 2 ^ 32) (hy : y < 2 ^ 32) (u v : α) :
    Scalar.select (IntOp.cmpi .eq (BitVec.ofNat 32 x) (BitVec.ofNat 32 y)) u v = if x = y then u else v := by
  have h : (BitVec.ofNat 32 x = BitVec.ofNat 32 y) ↔ x = y :=
    ⟨fun h => by
      have := congrArg BitVec.toNat h
      rwa [toNat_ofNat_of_lt x hx, toNat_ofNat_of_lt y hy] at this, fun h => by rw [h]⟩
  simp only [Scalar.select, IntOp.cmpi, ofBool_eq_numeral_one_iff, beq_iff_eq, h]

/-- Comparing two small numbers written as words. -/
theorem sgt_eq (x y : ℕ) (hx : x < 2 ^ 31) (hy : y < 2 ^ 31) :
    IntOp.cmpi .sgt (BitVec.ofNat 32 x) (BitVec.ofNat 32 y) = BitVec.ofBool (decide (y < x)) := by
  simp [IntOp.cmpi, BitVec.slt_eq_decide, toInt_ofNat_small x hx, toInt_ofNat_small y hy]

/-- A number is below the greatest of a family exactly when it is below one of its members. -/
theorem lt_fold_max {n : ℕ} (c : EReal) (f : Fin n → EReal) :
    c < Finset.fold max (Ideal.ofBits .f32 0xFF800000#32) f Finset.univ ↔ ∃ x, c < f x := by
  rw [Finset.lt_fold_max, bottom_eq]
  simp

theorem trip_apply (k s : ℕ) (hk : k < 128) (hs : s < 8) (blk : Vec Ideal S8x128 .f32) (a : FVec Ideal S1x128 .f32)
    (l : Fin 128) :
    open Classical in
    trip (BitVec.ofNat 32 k) (BitVec.ofNat 32 s) blk a (ix2 0 l)
      = if thr < blk (ix2 ⟨s, hs⟩ l) ∧ k < l ∧ Ideal.ofBits .f32 0x3F000000#32 < a (ix2 0 ⟨k, hk⟩) then 0
        else a (ix2 0 l) := by
  unfold trip; pointwise
  have e1 : (∑ _x : Fin 1, ∑ x : Fin 128, Scalar.select (IntOp.cmpi .eq (BitVec.ofNat 32 ↑x) (BitVec.ofNat 32 k))
      (a (ix2 0 x)) 0) = a (ix2 0 ⟨k, hk⟩) := by
    have : ∀ x : Fin 128, Scalar.select (IntOp.cmpi .eq (BitVec.ofNat 32 ↑x) (BitVec.ofNat 32 k)) (a (ix2 0 x)) 0
        = if x = ⟨k, hk⟩ then a (ix2 0 x) else 0 := fun x => by
      rw [select_eq _ _ (by omega) (by omega)]; simp [Fin.ext_iff]
    simp [this]
  have e2 : (Ideal.ofBits .f32 0x3F333333#32 < Finset.fold max (Ideal.ofBits .f32 0xFF800000#32)
      (fun x : Fin 8 => Scalar.select (IntOp.cmpi .eq (BitVec.ofNat 32 ↑x) (BitVec.ofNat 32 s)) (blk (ix2 x l))
        (Ideal.ofBits .f32 0xBF800000#32)) Finset.univ) ↔ thr < blk (ix2 ⟨s, hs⟩ l) := by
    rw [lt_fold_max]
    constructor
    · rintro ⟨x, hx⟩
      rw [select_eq _ _ (by omega) (by omega)] at hx
      split at hx
      · rename_i h; obtain rfl : x = ⟨s, hs⟩ := Fin.ext h; exact hx
      · exact absurd hx not_thr_lt_neg_one
    · intro h
      refine ⟨⟨s, hs⟩, ?_⟩
      rw [select_eq _ _ (by omega) (by omega), if_pos rfl]
      exact h
  rw [e1, sgt_eq _ _ (by omega) (by omega)]
  simp only [e2]
  simp only [andi_ofBool, Scalar.select, ofBool_eq_numeral_one_iff, Bool.and_eq_true, decide_eq_true_eq, and_assoc]

/-! ## What a tile takes over from the tiles before it -/

/-- The rows of `v` with the lanes cleared at which a kept row of `vals` passes the threshold. -/
def carry (m : ℕ) (hr : (⟨2, ![m, 128]⟩ : Shape).Reduces [0] S128) (vals keeps : FVec Ideal ⟨2, ![m, 128]⟩ .f32)
    (v : FVec Ideal S1x128 .f32) : FVec Ideal S1x128 .f32 :=
  select (cmpf .ogt (shapeCast S1x128 (multiReduction .maximumf [0] S128
      (select (cmpf .ogt vals (broadcast _ (Scalar.ofBits .f32 0x3F333333#32))) keeps
        (broadcast _ (Scalar.ofBits .f32 0x00000000#32))) 0xFF800000#32 hr (.inl rfl) rfl) shapeCasts_S128_S1x128)
    (broadcast S1x128 (Scalar.ofBits .f32 0x3F000000#32))) (broadcast S1x128 (Scalar.ofBits .f32 0x00000000#32)) v

theorem carry_apply (m : ℕ) (hr : (⟨2, ![m, 128]⟩ : Shape).Reduces [0] S128)
    (vals keeps : FVec Ideal ⟨2, ![m, 128]⟩ .f32) (v : FVec Ideal S1x128 .f32) (l : Fin 128) :
    open Classical in
    carry m hr vals keeps v (ix2 0 l)
      = if ∃ x : Fin m, thr < vals (ix2 x l) ∧ Ideal.ofBits .f32 0x3F000000#32 < keeps (ix2 x l) then 0
        else v (ix2 0 l) := by
  unfold carry; pointwise
  have e : (Ideal.ofBits .f32 0x3F000000#32 < Finset.fold max (Ideal.ofBits .f32 0xFF800000#32)
      (fun x : Fin m => if Ideal.ofBits .f32 0x3F333333#32 < vals (ix2 x l) then keeps (ix2 x l) else 0) Finset.univ)
      ↔ ∃ x : Fin m, thr < vals (ix2 x l) ∧ Ideal.ofBits .f32 0x3F000000#32 < keeps (ix2 x l) := by
    rw [lt_fold_max]
    refine exists_congr fun x => ?_
    by_cases h : Ideal.ofBits .f32 0x3F333333#32 < vals (ix2 x l)
    · rw [if_pos h]; exact ⟨fun h' => ⟨h, h'⟩, fun h' => h'.2⟩
    · rw [if_neg h]; exact ⟨fun h' => absurd h' not_half_lt_zero, fun h' => absurd h'.1 h⟩
  simp only [e]

/-! ## The two, on rows that hold the state of the suppression -/

section
variable (P : Fin 4 → Fin 8 → Fin 128 → EReal) (n : ℕ)

/-- The state of the suppression after `c` elements, at tile `r`. -/
def row (r : Fin 8) (c : ℕ) : FVec Ideal S1x128 .f32 :=
  fun x => ind (alive (over P) n c (128 * (r : ℕ) + ((x 1 : Fin 128) : ℕ)))

/-- Which elements are kept, at tile `r`. -/
def rowK (r : Fin 8) : FVec Ideal S1x128 .f32 :=
  fun x => ind (kept (over P) n (128 * (r : ℕ) + ((x 1 : Fin 128) : ℕ)))

theorem row_apply (r : Fin 8) (c : ℕ) (l : Fin 128) :
    row P n r c (ix2 0 l) = ind (alive (over P) n c (128 * (r : ℕ) + (l : ℕ))) := rfl

theorem row_full (r : Fin 8) : row P n r (128 * (r : ℕ) + 128) = rowK P n r := by
  funext x
  exact ind_congr (alive_of_le _ _ (by
    have h : ((x 1 : Fin 128) : ℕ) < 128 := (x 1 : Fin 128).isLt
    exact Nat.add_le_add_left h.le _))

/-- A place of a row is its lane. -/
theorem lane_form (j : S1x128.Idx) : ∃ l : Fin 128, j = ix2 0 l :=
  ⟨j 1, by
    idx_vars j
    obtain rfl : j0 = 0 := Subsingleton.elim _ _
    rfl⟩

/-- The first tile starts from the rows that stand for real boxes. -/
theorem first_row (hn : n < 2 ^ 31) :
    extractStridedSlice S1x128 ![((0 : Fin 8) : ℕ), 0] (valid (BitVec.ofNat 32 n)) (sliceRow 0) = row P n 0 0 := by
  funext j
  obtain ⟨l, rfl⟩ := lane_form j
  pointwise
  refine (valid_apply n hn 0 l).trans (ind_congr ?_)
  rw [alive_zero]; rfl

/-- A later tile starts from what the tiles before it leave. -/
theorem carry_row (hn : n < 2 ^ 31) (r : Fin 8) (m : ℕ) (hm : m = 128 * (r : ℕ))
    (hr : (⟨2, ![m, 128]⟩ : Shape).Reduces [0] S128) (vals keeps : FVec Ideal ⟨2, ![m, 128]⟩ .f32)
    (hv : ∀ (x : Fin m) (l : Fin 128), vals (ix2 x l) = iou (co P) x (128 * (r : ℕ) + (l : ℕ)))
    (hk : ∀ (x : Fin m) (l : Fin 128), keeps (ix2 x l) = ind (kept (over P) n x)) :
    carry m hr vals keeps
        (extractStridedSlice S1x128 ![(r : ℕ), 0] (valid (BitVec.ofNat 32 n)) (sliceRow r)) = row P n r m := by
  classical
  funext j
  obtain ⟨l, rfl⟩ := lane_form j
  rw [carry_apply]
  have e : extractStridedSlice S1x128 ![(r : ℕ), 0] (valid (BitVec.ofNat 32 n)) (sliceRow r) (ix2 0 l)
      = ind (128 * (r : ℕ) + (l : ℕ) < n) := by
    pointwise
    exact valid_apply n hn r l
  rw [e, clear_ind]
  refine ind_congr ?_
  rw [alive_carry _ _ m _ (by show m ≤ 128 * (r : ℕ) + (l : ℕ); omega)]
  refine and_congr Iff.rfl (not_congr ?_)
  constructor
  · rintro ⟨x, h1, h2⟩
    rw [hv] at h1; rw [hk, half_lt_ind] at h2
    exact ⟨x, x.isLt, h2, h1⟩
  · rintro ⟨i, hi, h2, h1⟩
    refine ⟨⟨i, hi⟩, ?_, ?_⟩
    · rw [hv]; exact h1
    · rw [hk, half_lt_ind]; exact h2

/-- One trip settles one more element. -/
theorem trip_row (r : Fin 8) (k : ℕ) (hk : k < 128) (blk : Vec Ideal S8x128 .f32)
    (hb : ∀ l : Fin 128, blk (ix2 ⟨k % 8, Nat.mod_lt _ (by decide)⟩ l)
      = iou (co P) (128 * (r : ℕ) + k) (128 * (r : ℕ) + (l : ℕ))) :
    trip (BitVec.ofNat 32 k) (BitVec.ofNat 32 (k % 8)) blk (row P n r (128 * (r : ℕ) + k))
      = row P n r (128 * (r : ℕ) + k + 1) := by
  classical
  funext j
  obtain ⟨l, rfl⟩ := lane_form j
  rw [trip_apply k (k % 8) hk (Nat.mod_lt _ (by decide)), hb]
  refine (clear_ind _ _).trans ?_
  refine ind_congr ?_
  rw [alive_succ, row_apply, half_lt_ind]
  refine and_congr Iff.rfl (not_congr (and_congr Iff.rfl (and_congr ?_ Iff.rfl)))
  show k < (l : ℕ) ↔ 128 * (r : ℕ) + k < 128 * (r : ℕ) + (l : ℕ)
  omega

end

end Cert.Nms

end
-- ==== Proof.Nms.Buffers.lean ====
/- What the kernel keeps in its two scratch buffers: square blocks of overlaps on and above the diagonal, and the kept
   flags of the tiles that are settled. A loop that makes a trip's step 128 times on them settles one more tile. -/
module

public import proofs.«01_k».proof.Proof.Nms.Steps
public import Idealize.ShloMosaic.Lib.Pipeline.Value

@[expose] public section

set_option maxRecDepth 16384

noncomputable section

namespace Cert.Nms

open Cert.KernelIdeal Cert.KernelIdeal.Gen
open Idealize.ShloMosaic Idealize.ShloMosaic.TcCoe Idealize.ShloMosaic.Tactic

/-- The box coordinates of one image, as the kernel is handed them. -/
def coords (x1 : Vec Ideal S1x4x8x128 .f32) : Fin 4 → Fin 8 → Fin 128 → EReal := fun k r l => x1 (ix4 0 k r l)

/-- What a load of plane `k` of the coordinates reads. -/
theorem plane_read {sig : RefSig} (arg2 : Memref sig .tc .vmem S1x4x8x128 .f32) (harg2 : arg2.IsWhole)
    (x1 : Vec Ideal S1x4x8x128 .f32) (k : Fin 4)
    (inb : ∀ a, (![0, (k : ℕ), 0, 0] : Fin 4 → ℕ) a + S1x1x8x128.size a ≤ S1x4x8x128.size a)
    (r : Fin 8) (l : Fin 128) :
    View.readAt (Elt Ideal) arg2.view (Rect.unit (s := S1x4x8x128) ![0, (k : ℕ), 0, 0] S1x1x8x128.size inb).toLoadRect (harg2.unread x1)
      (ix4 0 0 r l) = coords x1 k r l := by
  rw [View.readAt_apply, harg2.read_unread]
  refine congrArg x1 (funext fun a => Fin.ext ?_)
  match a with
  | 0 => rfl
  | 1 => show (k : ℕ) + 1 * 0 = k; omega
  | 2 => show 0 + 1 * (r : ℕ) = r; omega
  | 3 => show 0 + 1 * (l : ℕ) = l; omega

/-- What a load of the scores reads. -/
theorem score_read {sig : RefSig} (arg1 : Memref sig .tc .vmem S1x8x128 .f32) (harg1 : arg1.IsWhole)
    (x0 : Vec Ideal S1x8x128 .f32) (inb : ∀ a, (![0, 0, 0] : Fin 3 → ℕ) a + S1x8x128.size a ≤ S1x8x128.size a)
    (r : Fin 8) (l : Fin 128) :
    View.readAt (Elt Ideal) arg1.view (Rect.unit (s := S1x8x128) ![0, 0, 0] S1x8x128.size inb).toLoadRect (harg1.unread x0)
      (ix3 0 r l) = x0 (ix3 0 r l) := by
  rw [View.readAt_apply, harg1.read_unread]
  refine congrArg x0 (funext fun a => Fin.ext ?_)
  match a with
  | 0 => rfl
  | 1 => show 0 + 1 * (r : ℕ) = r; omega
  | 2 => show 0 + 1 * (l : ℕ) = l; omega

/-! ## The overlaps -/

/-- Where the square of rows `q.1` and columns `q.2` lies. -/
theorem square_inb (q : Fin 8 × Fin 8) (a : Fin 2) :
    (![128 * (q.1 : ℕ), 128 * (q.2 : ℕ)] : Fin 2 → ℕ) a + S128x128.size a ≤ S1024x1024.size a := by
  revert a; revert q; decide

/-- The squares on and above the diagonal, the last stored first. -/
def tilePairs : List (Fin 8 × Fin 8) :=
  [(7, 7), (6, 7), (6, 6), (5, 7), (5, 6), (5, 5), (4, 7), (4, 6), (4, 5), (4, 4), (3, 7), (3, 6), (3, 5), (3, 4),
    (3, 3), (2, 7), (2, 6), (2, 5), (2, 4), (2, 3), (2, 2), (1, 7), (1, 6), (1, 5), (1, 4), (1, 3), (1, 2), (1, 1),
    (0, 7), (0, 6), (0, 5), (0, 4), (0, 3), (0, 2), (0, 1), (0, 0)]

theorem tilePairs_mem (rp r : Fin 8) (h : rp ≤ r) : (rp, r) ∈ tilePairs := by
  revert h; revert rp r; decide

/-- A number lies in its tile. -/
theorem within_tile (v : ℕ) : 128 * (v / 128) ≤ v ∧ v < 128 * (v / 128) + 128 := by omega

section
variable (P : Fin 4 → Fin 8 → Fin 128 → EReal) (p0 p1 p2 p3 : FVec Ideal S8x128 .f32)

/-- The four planes hold the coordinates. -/
def Hold : Prop := ∀ (r : Fin 8) (l : Fin 128),
  p0 (ix2 r l) = P 0 r l ∧ p1 (ix2 r l) = P 1 r l ∧ p2 (ix2 r l) = P 2 r l ∧ p3 (ix2 r l) = P 3 r l

/-- The square of overlaps at rows `q.1` and columns `q.2`, from the four coordinate planes. -/
def squarePiece (q : Fin 8 × Fin 8) : View.Piece (Elt Ideal) S1024x1024 .f32 :=
  ⟨Rect.unit ![128 * (q.1 : ℕ), 128 * (q.2 : ℕ)] S128x128.size (square_inb q), square p0 p1 p2 p3 q.1 q.2⟩

/-- Everything the kernel stores in its first scratch buffer. -/
def squares : List (View.Piece (Elt Ideal) S1024x1024 .f32) := tilePairs.map (squarePiece p0 p1 p2 p3)

/-- The overlap of the two boxes a place of the scratch buffer stands for. -/
def overlap (y : S1024x1024.Idx) : Elt Ideal .f32 :=
  iou (co P) ((y 0 : Fin 1024) : ℕ) ((y 1 : Fin 1024) : ℕ)

/-- The squares cover everything whose row is in the same tile as its column or in an earlier one. -/
theorem squares_cover (y : S1024x1024.Idx) (hy : ((y 0 : Fin 1024) : ℕ) / 128 ≤ ((y 1 : Fin 1024) : ℕ) / 128) :
    ∃ s ∈ squares p0 p1 p2 p3, y ∈ s.1.set := by
  have h0 : ((y 0 : Fin 1024) : ℕ) < 1024 := (y 0 : Fin 1024).isLt
  have h1 : ((y 1 : Fin 1024) : ℕ) < 1024 := (y 1 : Fin 1024).isLt
  refine ⟨_, List.mem_map.mpr ⟨_, tilePairs_mem ⟨((y 0 : Fin 1024) : ℕ) / 128, by omega⟩
    ⟨((y 1 : Fin 1024) : ℕ) / 128, by omega⟩ hy, rfl⟩, ?_⟩
  refine (Rect.mem_set_unit (inb := square_inb _)).mpr fun a => ?_
  match a with
  | 0 => exact within_tile _
  | 1 => exact within_tile _

/-- The scratch buffer holds the overlaps wherever the row is in the column's tile or in an earlier one. -/
def Upper {sig : RefSig} (arg4 : Memref sig .tc .vmem S1024x1024 .f32) (X : BufTy.Contents (Elt Ideal) arg4.view.ty) : Prop :=
  ∀ y : S1024x1024.Idx, ((y 0 : Fin 1024) : ℕ) / 128 ≤ ((y 1 : Fin 1024) : ℕ) / 128 →
    arg4.view.read (Elt Ideal) X y = overlap P y

variable (hp : Hold P p0 p1 p2 p3)
include hp

/-- Every square holds the overlaps of its boxes. -/
theorem squarePiece_agree (q : Fin 8 × Fin 8) (x : (squarePiece p0 p1 p2 p3 q).1.shape.Idx) :
    (squarePiece p0 p1 p2 p3 q).2 x = overlap P ((squarePiece p0 p1 p2 p3 q).1.emb x) := by
  obtain ⟨a, b, rfl⟩ : ∃ a b : Fin 128, x = ix2 a b := ⟨x 0, x 1, eq_ix2 (n0 := 128) (n1 := 128) x⟩
  refine (square_apply P _ _ _ _ (fun r l => (hp r l).1) (fun r l => (hp r l).2.1)
    (fun r l => (hp r l).2.2.1) (fun r l => (hp r l).2.2.2) q.1 q.2 a b).trans ?_
  have e0 : 128 * (q.1 : ℕ) + (a : ℕ) = 128 * (q.1 : ℕ) + 1 * (a : ℕ) := by omega
  have e1 : 128 * (q.2 : ℕ) + (b : ℕ) = 128 * (q.2 : ℕ) + 1 * (b : ℕ) := by omega
  rw [e0, e1]
  rfl

theorem canon_squares (y : S1024x1024.Idx) (hy : ((y 0 : Fin 1024) : ℕ) / 128 ≤ ((y 1 : Fin 1024) : ℕ) / 128) :
    View.canon (squares p0 p1 p2 p3) y = overlap P y := by
  refine View.canon_apply_of_pieces (overlap P) _ (fun s hs x => ?_) y (squares_cover p0 p1 p2 p3 y hy)
  obtain ⟨q, _, rfl⟩ := List.mem_map.mp hs
  exact squarePiece_agree P p0 p1 p2 p3 hp q x

variable {sig : RefSig} (arg4 : Memref sig .tc .vmem S1024x1024 .f32)

theorem upper_squares (f4 : BufTy.Contents (Elt Ideal) arg4.view.ty) :
    Upper P arg4 (arg4.view.writes (Elt Ideal) f4 (squares p0 p1 p2 p3)) := fun y hy => by
  rw [View.read_writes_apply_eq_canon _ _ _ _ (squares_cover p0 p1 p2 p3 y hy), canon_squares P p0 p1 p2 p3 hp y hy]

/-- What a later load of the columns of tile `r`, down to row `m`, reads. -/
theorem load_squares (r : Fin 8) (m : ℕ) (hm : m = 128 * (r : ℕ))
    (inb : ∀ a, (![0, m] : Fin 2 → ℕ) a + (![m, 128] : Fin 2 → ℕ) a ≤ S1024x1024.size a)
    (x : Fin m) (l : Fin 128) :
    arg4.view.readCov (squares p0 p1 p2 p3) (Rect.unit (s := S1024x1024) ![0, m] ![m, 128] inb).toLoadRect
      (ix2 x l) = iou (co P) x (128 * (r : ℕ) + (l : ℕ)) := by
  rw [View.readCov_eq_canon']
  refine (canon_squares P p0 p1 p2 p3 hp _ ?_).trans ?_
  · show (0 + 1 * (x : ℕ)) / 128 ≤ (m + 1 * (l : ℕ)) / 128
    have := x.isLt; omega
  · show iou _ (0 + 1 * (x : ℕ)) (m + 1 * (l : ℕ)) = _
    congr 1 <;> omega
end

/-! ## One tile's loop -/

/-- A loop's trip number as the kernel's word. -/
theorem iv_eq : ∀ k : Fin 128, Scf.iv 0#32 1#32 (k : ℕ) = BitVec.ofNat 32 k := by decide +kernel

/-- A recursion that makes a trip's step 128 times on the squares settles its tile. -/
theorem settle (P : Fin 4 → Fin 8 → Fin 128 → EReal) (n : ℕ) {sig : RefSig} (arg4 : Memref sig .tc .vmem S1024x1024 .f32)
    (X : BufTy.Contents (Elt Ideal) arg4.view.ty) (hX : Upper P arg4 X) (r : Fin 8) (f : ℕ → FVec Ideal S1x128 .f32)
    (h0 : f 0 = row P n r (128 * (r : ℕ)))
    (hs : ∀ k : Fin 128, ∃ (off : Fin 2 → ℕ) (inb : ∀ a, off a + S8x128.size a ≤ S1024x1024.size a) (jj sub : BitVec 32),
      off = ![128 * (r : ℕ) + 8 * ((k : ℕ) / 8), 128 * (r : ℕ)] ∧ jj = BitVec.ofNat 32 k
        ∧ sub = BitVec.ofNat 32 ((k : ℕ) % 8)
        ∧ f (k + 1) = trip jj sub (View.readAt (Elt Ideal) arg4.view
            (Rect.unit (s := S1024x1024) off S8x128.size inb).toLoadRect X) (f k)) :
    f 128 = rowK P n r := by
  have step : ∀ k : ℕ, k ≤ 128 → f k = row P n r (128 * (r : ℕ) + k) := by
    intro k
    induction k with
    | zero => exact fun _ => h0
    | succ k ih =>
      intro hk
      obtain ⟨off, inb, jj, sub, rfl, rfl, rfl, e⟩ := hs ⟨k, hk⟩
      rw [e, show f ((⟨k, hk⟩ : Fin 128) : ℕ) = _ from ih (by omega)]
      refine trip_row P n r k hk _ fun l => ?_
      rw [View.readAt_apply, hX]
      · show iou _ (128 * (r : ℕ) + 8 * (k / 8) + 1 * (k % 8)) (128 * (r : ℕ) + 1 * (l : ℕ)) = _
        congr 1 <;> omega
      · show (128 * (r : ℕ) + 8 * (k / 8) + 1 * (k % 8)) / 128 ≤ (128 * (r : ℕ) + 1 * (l : ℕ)) / 128
        omega
  rw [step 128 le_rfl, row_full]

/-! ## The kept flags -/

/-- A row turned into a column and repeated along the lanes. -/
def spread (v : FVec Ideal S1x128 .f32) : FVec Ideal S128x128 .f32 :=
  shapeCast S128x128 (transpose S128x128 [1, 0] (broadcastTo S128x128 (shapeCast S1x128 v shapeCasts_S1x128_S1x128)
    broadcasts_S1x128_S128x128) transposes_S128x128_p1_0_S128x128) shapeCasts_S128x128_S128x128

theorem spread_apply (v : FVec Ideal S1x128 .f32) (a b : Fin 128) : spread v (ix2 a b) = v (ix2 0 a) := by
  unfold spread
  pointwise

theorem keep_inb (q : Fin 8) (a : Fin 2) :
    (![128 * (q : ℕ), 0] : Fin 2 → ℕ) a + S128x128.size a ≤ S1024x128.size a := by
  revert a; revert q; decide

/-- A tile's row stored as a block of rows. -/
def keepPiece (q : Fin 8) (v : FVec Ideal S1x128 .f32) : View.Piece (Elt Ideal) S1024x128 .f32 :=
  ⟨Rect.unit (s := S1024x128) ![128 * (q : ℕ), 0] S128x128.size (keep_inb q), spread v⟩

section
variable (P : Fin 4 → Fin 8 → Fin 128 → EReal) (n : ℕ)

/-- The blocks of the tiles `l`, each holding which of its elements are kept. -/
def keeps (l : List (Fin 8)) : List (View.Piece (Elt Ideal) S1024x128 .f32) := l.map fun q => keepPiece q (rowK P n q)

/-- Which element is kept, over the whole buffer. -/
def keepAll (y : S1024x128.Idx) : Elt Ideal .f32 := ind (kept (over P) n ((y 0 : Fin 1024) : ℕ))

theorem canon_keeps (l : List (Fin 8)) (y : S1024x128.Idx)
    (hy : ∃ q ∈ l, (q : ℕ) = ((y 0 : Fin 1024) : ℕ) / 128) :
    View.canon (keeps P n l) y = ind (kept (over P) n ((y 0 : Fin 1024) : ℕ)) := by
  refine View.canon_apply_of_pieces (keepAll P n) _ (fun p hp x => ?_) y ?_
  · obtain ⟨q, _, rfl⟩ := List.mem_map.mp hp
    idx_vars x
    refine (spread_apply (rowK P n q) x0 x1).trans (ind_congr (?_ : kept (over P) n (128 * (q : ℕ) + (x0 : ℕ)) ↔ _))
    show kept (over P) n (128 * (q : ℕ) + (x0 : ℕ)) ↔ kept (over P) n (128 * (q : ℕ) + 1 * (x0 : ℕ))
    rw [one_mul]
  · obtain ⟨q, hq, e⟩ := hy
    refine ⟨_, List.mem_map.mpr ⟨q, hq, rfl⟩, ?_⟩
    refine (Rect.mem_set_unit (inb := keep_inb _)).mpr fun a => ?_
    have h1 : ((y 1 : Fin 128) : ℕ) < 128 := (y 1 : Fin 128).isLt
    match a with
    | 0 => rw [e]; exact within_tile _
    | 1 => exact ⟨Nat.zero_le _, by show ((y 1 : Fin 128) : ℕ) < 0 + 128; omega⟩

variable {sig : RefSig}

/-- What a later load of the rows before tile `r` reads. -/
theorem load_keeps (arg5 : Memref sig .tc .vmem S1024x128 .f32) (l : List (Fin 8)) (r : Fin 8) (m : ℕ)
    (hm : m = 128 * (r : ℕ)) (hl : ∀ q, q < r → q ∈ l)
    (inb : ∀ a, (![0, 0] : Fin 2 → ℕ) a + (![m, 128] : Fin 2 → ℕ) a ≤ S1024x128.size a)
    (x : Fin m) (a : Fin 128) :
    arg5.view.readCov (keeps P n l) (Rect.unit (s := S1024x128) ![0, 0] ![m, 128] inb).toLoadRect (ix2 x a)
      = ind (kept (over P) n (x : ℕ)) := by
  have hx := x.isLt
  have hr := r.isLt
  rw [View.readCov_eq_canon']
  refine (canon_keeps P n l _ ⟨⟨(x : ℕ) / 128, by omega⟩, hl _ ?_, ?_⟩).trans (ind_congr ?_)
  · show (x : ℕ) / 128 < (r : ℕ); omega
  · show (x : ℕ) / 128 = (0 + 1 * (x : ℕ)) / 128; omega
  · show kept (over P) n (0 + 1 * (x : ℕ)) ↔ kept (over P) n x
    rw [zero_add, one_mul]

/-- A tile's start: the carried-over suppression, from the loads of the two scratch buffers. -/
theorem start (hn : n < 2 ^ 31) (p0 p1 p2 p3 : FVec Ideal S8x128 .f32) (hp : Hold P p0 p1 p2 p3)
    (arg4 : Memref sig .tc .vmem S1024x1024 .f32) (arg5 : Memref sig .tc .vmem S1024x128 .f32)
    (r : Fin 8) (m : ℕ) (hm : m = 128 * (r : ℕ)) (hr : (⟨2, ![m, 128]⟩ : Shape).Reduces [0] S128)
    (l : List (Fin 8)) (hl : ∀ q, q < r → q ∈ l)
    (inb : ∀ a, (![0, m] : Fin 2 → ℕ) a + (![m, 128] : Fin 2 → ℕ) a ≤ S1024x1024.size a)
    (inb' : ∀ a, (![0, 0] : Fin 2 → ℕ) a + (![m, 128] : Fin 2 → ℕ) a ≤ S1024x128.size a) :
    carry m hr (arg4.view.readCov (squares p0 p1 p2 p3) (Rect.unit (s := S1024x1024) ![0, m] ![m, 128] inb).toLoadRect)
        (arg5.view.readCov (keeps P n l) (Rect.unit (s := S1024x128) ![0, 0] ![m, 128] inb').toLoadRect)
        (extractStridedSlice S1x128 ![(r : ℕ), 0] (valid (BitVec.ofNat 32 n)) (sliceRow r))
      = row P n r (128 * (r : ℕ)) :=
  (carry_row P n hn r m hm hr _ _ (load_squares P p0 p1 p2 p3 hp arg4 r m hm inb)
    (load_keeps P n arg5 l r m hm hl inb')).trans (congrArg _ hm)
end

/-! ## The result -/

/-- The eight rows one under the other. -/
def stack (v : Fin 8 → FVec Ideal S1x128 .f32) : FVec Ideal S8x128 .f32 :=
  concatenate S8x128 0 [⟨S1x128, v 0⟩, ⟨S1x128, v 1⟩, ⟨S1x128, v 2⟩, ⟨S1x128, v 3⟩, ⟨S1x128, v 4⟩, ⟨S1x128, v 5⟩,
    ⟨S1x128, v 6⟩, ⟨S1x128, v 7⟩] concatenates_S1x128_S1x128_S1x128_S1x128_S1x128_S1x128_S1x128_S1x128_S8x128_d0

theorem stack_apply (v : Fin 8 → FVec Ideal S1x128 .f32) (r : Fin 8) (l : Fin 128) :
    stack v (ix2 r l) = v r (ix2 0 l) := by
  have pick : ∀ q : Fin 8, (r : ℕ) = (q : ℕ) → v q (ix2 0 l) = v r (ix2 0 l) := fun q h => by rw [Fin.ext h]
  unfold stack
  pointwise
  fin_vals r with hk
  all_goals
    simp only [hk, Nat.reduceSub, Nat.reduceLT, ↓reduceDIte]
    exact pick _ hk

/-- The scores where the stacked rows say that the element is kept, and −1 elsewhere. -/
def masked (s : FVec Ideal S8x128 .f32) (v : Fin 8 → FVec Ideal S1x128 .f32) : FVec Ideal S8x128 .f32 :=
  select (cmpf .ogt (stack v) (broadcast S8x128 (Scalar.ofBits .f32 0x3F000000#32))) s
    (broadcast S8x128 (Scalar.ofBits .f32 0xBF800000#32))

/-- What the body leaves in the result's buffer: the score where the element is kept and −1 elsewhere. -/
def out (n : ℕ) (x0 : Vec Ideal S1x8x128 .f32) (x1 : Vec Ideal S1x4x8x128 .f32) : Vec Ideal S1x8x128 .f32 := fun y =>
  open Classical in
  if kept (over (coords x1)) n (128 * ((y 1 : Fin 8) : ℕ) + ((y 2 : Fin 128) : ℕ)) then x0 y
  else Ideal.ofBits .f32 0xBF800000#32

theorem masked_apply (n : ℕ) (x0 : Vec Ideal S1x8x128 .f32) (x1 : Vec Ideal S1x4x8x128 .f32) (s : FVec Ideal S8x128 .f32)
    (hs : ∀ r l, s (ix2 r l) = x0 (ix3 0 r l)) (r : Fin 8) (l : Fin 128) :
    masked s (rowK (coords x1) n) (ix2 r l) = out n x0 x1 (ix3 0 r l) := by
  classical
  have e := stack_apply (rowK (coords x1) n) r l
  unfold masked
  generalize stack (rowK (coords x1) n) = rows at e
  pointwise
  rw [e, hs]
  simp only [rowK, half_lt_ind]
  rfl

/-- Greedy suppression of every image: the score where the element is kept and −1 elsewhere. -/
def result (n : ℕ) (x0 : Vec Ideal S4x8x128 .f32) (x1 : Vec Ideal S4x4x8x128 .f32) : Vec Ideal S4x8x128 .f32 := fun y =>
  open Classical in
  if kept (over fun k r l => x1 (ix4 (y 0) k r l)) n (128 * ((y 1 : Fin 8) : ℕ) + ((y 2 : Fin 128) : ℕ)) then x0 y
  else Ideal.ofBits .f32 0xBF800000#32

end Cert.Nms

end
-- ==== Proof.Ideal.Tiles.lean ====
/- The eight loops of the kernel: each settles one tile of 128 elements, from the state the tiles before it leave. -/
module

public import proofs.«01_k».proof.Proof.Ideal.Body
public import proofs.«01_k».proof.Proof.Nms.Buffers

@[expose] public section

set_option maxRecDepth 16384

noncomputable section

namespace Cert.KernelIdeal.Body

open Cert.KernelIdeal Cert.KernelIdeal.Gen Cert.Nms
open Idealize.ShloMosaic Idealize.ShloMosaic.TcCoe Idealize.ShloMosaic.Tactic

/-! ## The loops' numbers -/

theorem sub1 : ∀ k : Fin k0_t1_loop.trips,
    Scalar.subi (Scf.iv 0#32 1#32 (k : ℕ)) (k0_mult1 k) = BitVec.ofNat 32 ((k : ℕ) % 8) := by decide +kernel
theorem sub2 : ∀ k : Fin k0_t2_loop.trips,
    Scalar.subi (Scf.iv 0#32 1#32 (k : ℕ)) (k0_mult2 k) = BitVec.ofNat 32 ((k : ℕ) % 8) := by decide +kernel
theorem sub3 : ∀ k : Fin k0_t3_loop.trips,
    Scalar.subi (Scf.iv 0#32 1#32 (k : ℕ)) (k0_mult3 k) = BitVec.ofNat 32 ((k : ℕ) % 8) := by decide +kernel
theorem sub4 : ∀ k : Fin k0_t4_loop.trips,
    Scalar.subi (Scf.iv 0#32 1#32 (k : ℕ)) (k0_mult4 k) = BitVec.ofNat 32 ((k : ℕ) % 8) := by decide +kernel
theorem sub5 : ∀ k : Fin k0_t5_loop.trips,
    Scalar.subi (Scf.iv 0#32 1#32 (k : ℕ)) (k0_mult5 k) = BitVec.ofNat 32 ((k : ℕ) % 8) := by decide +kernel
theorem sub6 : ∀ k : Fin k0_t6_loop.trips,
    Scalar.subi (Scf.iv 0#32 1#32 (k : ℕ)) (k0_mult6 k) = BitVec.ofNat 32 ((k : ℕ) % 8) := by decide +kernel
theorem sub7 : ∀ k : Fin k0_t7_loop.trips,
    Scalar.subi (Scf.iv 0#32 1#32 (k : ℕ)) (k0_mult7 k) = BitVec.ofNat 32 ((k : ℕ) % 8) := by decide +kernel
theorem sub8 : ∀ k : Fin k0_t8_loop.trips,
    Scalar.subi (Scf.iv 0#32 1#32 (k : ℕ)) (k0_mult8 k) = BitVec.ofNat 32 ((k : ℕ) % 8) := by decide +kernel
theorem off1 : ∀ k : Fin k0_t1_loop.trips, k0_off1 k = ![128 * 0 + 8 * ((k : ℕ) / 8), 128 * 0] := by decide +kernel
theorem off2 : ∀ k : Fin k0_t2_loop.trips, k0_off2 k = ![128 * 1 + 8 * ((k : ℕ) / 8), 128 * 1] := by decide +kernel
theorem off3 : ∀ k : Fin k0_t3_loop.trips, k0_off3 k = ![128 * 2 + 8 * ((k : ℕ) / 8), 128 * 2] := by decide +kernel
theorem off4 : ∀ k : Fin k0_t4_loop.trips, k0_off4 k = ![128 * 3 + 8 * ((k : ℕ) / 8), 128 * 3] := by decide +kernel
theorem off5 : ∀ k : Fin k0_t5_loop.trips, k0_off5 k = ![128 * 4 + 8 * ((k : ℕ) / 8), 128 * 4] := by decide +kernel
theorem off6 : ∀ k : Fin k0_t6_loop.trips, k0_off6 k = ![128 * 5 + 8 * ((k : ℕ) / 8), 128 * 5] := by decide +kernel
theorem off7 : ∀ k : Fin k0_t7_loop.trips, k0_off7 k = ![128 * 6 + 8 * ((k : ℕ) / 8), 128 * 6] := by decide +kernel
theorem off8 : ∀ k : Fin k0_t8_loop.trips, k0_off8 k = ![128 * 7 + 8 * ((k : ℕ) / 8), 128 * 7] := by decide +kernel

section
variable (P : Fin 4 → Fin 8 → Fin 128 → EReal) (n : ℕ)
  (arg4 : Memref sig .tc .vmem S1024x1024 .f32) (X : BufTy.Contents (Elt Ideal) arg4.view.ty)
variable (c : Dev nD) (i : grid0.Coords)
  (arg1 : Memref sig .tc .vmem S1x8x128 .f32) (harg1 : arg1.IsWhole)
  (arg2 : Memref sig .tc .vmem S1x4x8x128 .f32) (harg2 : arg2.IsWhole)
  (arg3 : Memref sig .tc .vmem S1x8x128 .f32) (harg3 : arg3.IsWhole)
  (harg4 : arg4.IsWhole)
  (arg5 : Memref sig .tc .vmem S1024x128 .f32) (harg5 : arg5.IsWhole)
  (init : FVec Ideal S1x128 .f32)

theorem tile1 (hX : Upper P arg4 X) (h0 : init = row P n 0 (128 * ((0 : Fin 8) : ℕ)))
    {v1 v2 v3 v4 v5 v6 v7 v8 v9 v10 v11 v12} :
    st_k0_t1 (F := Ideal) Variants.none c none i arg1 harg1 arg2 harg2 arg3 harg3 arg4 harg4 arg5 harg5 run.sl.v10
      v1 v2 v3 v4 v5 v6 v7 v8 v9 v10 v11 v12 run.sl.v1573 X init 128 = rowK P n 0 :=
  settle P n arg4 X hX 0 (st_k0_t1 (F := Ideal) Variants.none c none i arg1 harg1 arg2 harg2 arg3 harg3 arg4 harg4
    arg5 harg5 run.sl.v10 v1 v2 v3 v4 v5 v6 v7 v8 v9 v10 v11 v12 run.sl.v1573 X init) h0 fun k =>
    ⟨_, k0_off1_inb k, _, _, off1 k, iv_eq k, sub1 k, by
      refine (st_k0_t1_succ (F := Ideal) _ _ _ _ _ _ _ _ _ _ _ _ _ _ _ _ _ _ _ _ _ _ _ _ _ _ _ _ _ _ k).trans ?_
      unfold tripR_k0_t1 trip_k0_t1
      rfl⟩

theorem tile2 (hX : Upper P arg4 X) (h0 : init = row P n 1 (128 * ((1 : Fin 8) : ℕ))) {v1 v2 v3} :
    st_k0_t2 (F := Ideal) Variants.none c none i arg1 harg1 arg2 harg2 arg3 harg3 arg4 harg4 arg5 harg5 run.sl.v10
      v1 v2 v3 run.sl.v1595 X init 128 = rowK P n 1 :=
  settle P n arg4 X hX 1 (st_k0_t2 (F := Ideal) Variants.none c none i arg1 harg1 arg2 harg2 arg3 harg3 arg4 harg4 arg5 harg5 run.sl.v10
      v1 v2 v3 run.sl.v1595 X init) h0 fun k =>
    ⟨_, k0_off2_inb k, _, _, off2 k, iv_eq k, sub2 k, by
      refine (st_k0_t2_succ (F := Ideal) .. ).trans ?_
      unfold tripR_k0_t2 trip_k0_t2
      rfl⟩

theorem tile3 (hX : Upper P arg4 X) (h0 : init = row P n 2 (128 * ((2 : Fin 8) : ℕ))) {v1 v2} :
    st_k0_t3 (F := Ideal) Variants.none c none i arg1 harg1 arg2 harg2 arg3 harg3 arg4 harg4 arg5 harg5 run.sl.v10
      v1 v2 run.sl.v1617 0#32 1#32 X init 128 = rowK P n 2 :=
  settle P n arg4 X hX 2 (st_k0_t3 (F := Ideal) Variants.none c none i arg1 harg1 arg2 harg2 arg3 harg3 arg4 harg4 arg5 harg5 run.sl.v10
      v1 v2 run.sl.v1617 0#32 1#32 X init) h0 fun k =>
    ⟨_, k0_off3_inb k, _, _, off3 k, iv_eq k, sub3 k, by
      refine (st_k0_t3_succ (F := Ideal) .. ).trans ?_
      unfold tripR_k0_t3 trip_k0_t3
      rfl⟩

theorem tile4 (hX : Upper P arg4 X) (h0 : init = row P n 3 (128 * ((3 : Fin 8) : ℕ))) {v1 v2 v3} :
    st_k0_t4 (F := Ideal) Variants.none c none i arg1 harg1 arg2 harg2 arg3 harg3 arg4 harg4 arg5 harg5 run.sl.v10
      v1 v2 v3 0#32 1#32 run.sl.v1639 X init 128 = rowK P n 3 :=
  settle P n arg4 X hX 3 (st_k0_t4 (F := Ideal) Variants.none c none i arg1 harg1 arg2 harg2 arg3 harg3 arg4 harg4 arg5 harg5 run.sl.v10
      v1 v2 v3 0#32 1#32 run.sl.v1639 X init) h0 fun k =>
    ⟨_, k0_off4_inb k, _, _, off4 k, iv_eq k, sub4 k, by
      refine (st_k0_t4_succ (F := Ideal) .. ).trans ?_
      unfold tripR_k0_t4 trip_k0_t4
      rfl⟩

theorem tile5 (hX : Upper P arg4 X) (h0 : init = row P n 4 (128 * ((4 : Fin 8) : ℕ))) {v1 v2 v3 v4 v5} :
    st_k0_t5 (F := Ideal) Variants.none c none i arg1 harg1 arg2 harg2 arg3 harg3 arg4 harg4 arg5 harg5 run.sl.v10
      v1 v2 v3 v4 v5 run.sl.v1661 X init 128 = rowK P n 4 :=
  settle P n arg4 X hX 4 (st_k0_t5 (F := Ideal) Variants.none c none i arg1 harg1 arg2 harg2 arg3 harg3 arg4 harg4 arg5 harg5 run.sl.v10
      v1 v2 v3 v4 v5 run.sl.v1661 X init) h0 fun k =>
    ⟨_, k0_off5_inb k, _, _, off5 k, iv_eq k, sub5 k, by
      refine (st_k0_t5_succ (F := Ideal) .. ).trans ?_
      unfold tripR_k0_t5 trip_k0_t5
      rfl⟩

theorem tile6 (hX : Upper P arg4 X) (h0 : init = row P n 5 (128 * ((5 : Fin 8) : ℕ))) {v1 v2 v3 v4 v5} :
    st_k0_t6 (F := Ideal) Variants.none c none i arg1 harg1 arg2 harg2 arg3 harg3 arg4 harg4 arg5 harg5 run.sl.v10
      v1 v2 v3 v4 v5 run.sl.v1683 X init 128 = rowK P n 5 :=
  settle P n arg4 X hX 5 (st_k0_t6 (F := Ideal) Variants.none c none i arg1 harg1 arg2 harg2 arg3 harg3 arg4 harg4 arg5 harg5 run.sl.v10
      v1 v2 v3 v4 v5 run.sl.v1683 X init) h0 fun k =>
    ⟨_, k0_off6_inb k, _, _, off6 k, iv_eq k, sub6 k, by
      refine (st_k0_t6_succ (F := Ideal) .. ).trans ?_
      unfold tripR_k0_t6 trip_k0_t6
      rfl⟩

theorem tile7 (hX : Upper P arg4 X) (h0 : init = row P n 6 (128 * ((6 : Fin 8) : ℕ))) {v1 v2} :
    st_k0_t7 (F := Ideal) Variants.none c none i arg1 harg1 arg2 harg2 arg3 harg3 arg4 harg4 arg5 harg5 run.sl.v10
      v1 v2 run.sl.v1705 X init 128 = rowK P n 6 :=
  settle P n arg4 X hX 6 (st_k0_t7 (F := Ideal) Variants.none c none i arg1 harg1 arg2 harg2 arg3 harg3 arg4 harg4 arg5 harg5 run.sl.v10
      v1 v2 run.sl.v1705 X init) h0 fun k =>
    ⟨_, k0_off7_inb k, _, _, off7 k, iv_eq k, sub7 k, by
      refine (st_k0_t7_succ (F := Ideal) .. ).trans ?_
      unfold tripR_k0_t7 trip_k0_t7
      rfl⟩

theorem tile8 (hX : Upper P arg4 X) (h0 : init = row P n 7 (128 * ((7 : Fin 8) : ℕ)))  :
    st_k0_t8 (F := Ideal) Variants.none c none i arg1 harg1 arg2 harg2 arg3 harg3 arg4 harg4 arg5 harg5 run.sl.v10
      run.sl.v1727 X init 128 = rowK P n 7 :=
  settle P n arg4 X hX 7 (st_k0_t8 (F := Ideal) Variants.none c none i arg1 harg1 arg2 harg2 arg3 harg3 arg4 harg4 arg5 harg5 run.sl.v10
      run.sl.v1727 X init) h0 fun k =>
    ⟨_, k0_off8_inb k, _, _, off8 k, iv_eq k, sub8 k, by
      refine (st_k0_t8_succ (F := Ideal) .. ).trans ?_
      unfold tripR_k0_t8 trip_k0_t8
      rfl⟩
end

end Cert.KernelIdeal.Body

end
-- ==== Proof.Ideal.Frame.lean ====
/- The launch around the body: every argument array ends unchanged, and each block of the result is a given
   function of the two input blocks, provided the body leaves that function's value whatever the buffers held. -/
module

public import proofs.«01_k».proof.Proof.Ideal.Body
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (OUT : Vec F S1x8x128 .f32 → Vec F S1x4x8x128 .f32 → Vec F S1x8x128 .f32)

variable (m : (ℓ : Loc nD τ sig) → Buf (Elt F) ℓ) (ρ : Dev nD → PrngReg)

/-- The two scratch buffers, whole. -/
abbrev pairs : Memref sig .tc .vmem S1024x1024 .f32 := Memref.whole cc0_scratch0
abbrev cols : Memref sig .tc .vmem S1024x128 .f32 := Memref.whole cc0_scratch1

/-- What the grid carries between points beside the windows: the scratch buffers at any contents and the generator
    register. -/
theorem carried_eq (c : Dev nD) : (Pipeline.ΦA spec0 c : sProp 𝕄) =
    iprop(iprop((∃ d, owns (c : Thread nD τ) pairs fullShare d) ∗ (∃ d, owns (c : Thread nD τ) cols fullShare d))
      ∗ (∃ r, prngReg c r)) := by
  unfold Pipeline.ΦA; rw [scopedRest0_eq]; simp only [pairs, cols, owns_whole]; try rfl

/-- The body leaves `OUT` of its input blocks in the result's buffer, whatever the three written buffers held. -/
def Leaves : Prop :=
  ∀ (c : Dev nD) (i : grid0.Coords)
    (arg1 : Memref sig .tc .vmem S1x8x128 .f32) (harg1 : arg1.IsWhole)
    (arg2 : Memref sig .tc .vmem S1x4x8x128 .f32) (harg2 : arg2.IsWhole)
    (arg3 : Memref sig .tc .vmem S1x8x128 .f32) (harg3 : arg3.IsWhole)
    (arg4 : Memref sig .tc .vmem S1024x1024 .f32) (harg4 : arg4.IsWhole)
    (arg5 : Memref sig .tc .vmem S1024x128 .f32) (harg5 : arg5.IsWhole)
    (x0 : Vec F S1x8x128 .f32) (x1 : Vec F S1x4x8x128 .f32)
    (f3 : BufTy.Contents (Elt F) arg3.view.ty) (f4 : BufTy.Contents (Elt F) arg4.view.ty)
    (f5 : BufTy.Contents (Elt F) arg5.view.ty),
    arg3.view.read (Elt F)
      (run c i arg1 harg1 arg2 harg2 arg3 harg3 arg4 harg4 arg5 harg5 x0 x1 f3 f4 f5).2.2.1 = OUT x0 x1

/-- The pipeline's data: the arrays as launched, each input's buffer at its block after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => OUT (iblk m c 0 t) (iblk m c 1 t)
  Φ _ := Pipeline.ΦA spec0 c
  q _ := fullShare
  owed _ := 0

theorem A_eq (c : Dev nD) (w : Fin cfg0.W) : (dats OUT m 0 c).A w = V m c (Pipeline.arrRef spec0 w) := by
  dsimp only [dats]
theorem after0_0 (c : Dev nD) (t : Fin cfg0.N) : (dats OUT m 0 c).after 0 t = iblk m c 0 t := by dsimp only [dats]
theorem after0_1 (c : Dev nD) (t : Fin cfg0.N) : (dats OUT m 0 c).after 1 t = iblk m c 1 t := by dsimp only [dats]
theorem after0_2 (c : Dev nD) (t : Fin cfg0.N) : (dats OUT m 0 c).after 2 t = OUT (iblk m c 0 t) (iblk m c 1 t) := by
  dsimp only [dats]
theorem before0_0 (c : Dev nD) (t : Fin cfg0.N) (d) : (dats OUT m 0 c).before 0 t d = iblk m c 0 t :=
  before0_0_of m (dats OUT m 0 c) (A_eq OUT m c 0) (after0_0 OUT m c) t d
theorem before0_1 (c : Dev nD) (t : Fin cfg0.N) (d) : (dats OUT m 0 c).before 1 t d = iblk m c 1 t :=
  before0_1_of m (dats OUT m 0 c) (A_eq OUT m c 1) (after0_1 OUT m c) t d

/-- What the body is entered with at point `t`. -/
def bodyPre (c : Dev nD) (t : Fin cfg0.N) : sProp 𝕄 :=
  iprop((dats OUT m 0 c).Φ t.castSucc ∗ (dats OUT m 0 c).owesAt () t.castSucc
    ∗ (∃ d, owns (c : Thread nD τ) (st0_0 t) fullShare ((dats OUT m 0 c).before 0 t d))
    ∗ (∃ d, owns (c : Thread nD τ) (st0_1 t) fullShare ((dats OUT m 0 c).before 1 t d))
    ∗ (∃ d, owns (c : Thread nD τ) (st0_2 t) fullShare ((dats OUT m 0 c).before 2 t d)))

/-- What it is left with. -/
def bodyPost (c : Dev nD) (t : Fin cfg0.N) : sProp 𝕄 :=
  iprop((dats OUT m 0 c).Φ t.succ ∗ (dats OUT m 0 c).owesAt () t.succ
    ∗ owns (c : Thread nD τ) (st0_0 t) fullShare ((dats OUT m 0 c).after 0 t)
    ∗ owns (c : Thread nD τ) (st0_1 t) fullShare ((dats OUT m 0 c).after 1 t)
    ∗ owns (c : Thread nD τ) (st0_2 t) fullShare ((dats OUT m 0 c).after 2 t))

set_option maxHeartbeats 1600000 in
/-- The body's triple at a point. -/
theorem sound_body (hL : Leaves OUT) (c : Dev nD) (t : Fin cfg0.N) :
    bodyPre OUT m c t ⊢ wp frame (wpE (defs₀ (F := F)) Variants.none c none) Set.univ (bodyAt0 t) (fun _ => bodyPost OUT m c t) := by
  unfold bodyPre bodyPost bodyAt0
  simp only [before0_0, before0_1]
  rw [show (dats OUT m 0 c).Φ t.succ = (dats OUT m 0 c).Φ t.castSucc from rfl,
    show (dats OUT m 0 c).owesAt () t.succ = (dats OUT m 0 c).owesAt () t.castSucc from rfl,
    after0_0, after0_1, after0_2]
  rw [show (dats OUT m 0 c).Φ t.castSucc = Pipeline.ΦA spec0 c from rfl, carried_eq]
  iintro ⟨⟨⟨⟨%e4, HS4⟩, ⟨%e5, HS5⟩⟩, Hg⟩, Ho, ⟨%d0, H0⟩, ⟨%d1, H1⟩, ⟨%d2, H2⟩⟩
  unfold owns
  icases HS4 with ⟨%f4, %hf4, HS4⟩
  icases HS5 with ⟨%f5, %hf5, HS5⟩
  icases H2 with ⟨%f3, %hf3, H2⟩
  iapply ((run c _ _ _ _ _ _ _ _ _ _ _ (iblk m c 0 t) (iblk m c 1 t) f3 f4 f5).2.2.2 Set.univ _)
  unfold owns
  isplitl [H0]; · iexact H0
  isplitl [H1]; · iexact H1
  isplitl [H2]; · iexact H2
  isplitl [HS4]; · iexact HS4
  isplitl [HS5]; · iexact HS5
  iintro ⟨H0, H1, H2, HS4, HS5⟩
  isplitl [HS4 HS5 Hg]
  · isplitl [HS4 HS5]
    · isplitl [HS4]
      · iexists _; iexists _; isplitr
        swap; · iexact HS4
        ipureintro; rfl
      iexists _; iexists _; isplitr
      swap; · iexact HS5
      ipureintro; rfl
    iexact Hg
  isplitl [Ho]; · iexact Ho
  isplitl [H0]; · iexact H0
  isplitl [H1]; · iexact H1
  iexists _; isplitr
  swap; · iexact H2
  ipureintro; exact hL c _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (hL : Leaves OUT) (c : Dev nD) :
    BodyObligation (dats (F := F) OUT m 0 c) (defs₀ (F := F)) Variants.none () Set.univ := fun t => by
  rw [bigSep_W0, bigSep_W0, defs₀_row]
  exact triple_restated (sound_body OUT m hL c t) rfl .rfl fun _ => .rfl

set_option backward.isDefEq.respectTransparency.types false in
/-- The launch, and every semaphore at zero at the end. -/
theorem launch (hL : Leaves OUT) : θ_run defs (onTc (τ := τ) (main (F := F))) (s₀ m ρ)
    (fun r => (Pipeline.FramePost cfgs (dats OUT m) 0 (V m)) r ∧ r.2.sem = fun _ => 0) :=
  Pipeline.θ_run_frame (Q' := _) cfgs (dats OUT m) (0 : Fin 1) launch0 defs₀ Variants.none m ρ main
    (hbody := fun c => (body_obligation OUT m hL c).loose) (hshare := fun c => (dats OUT m 0 c).share_full fun _ => rfl)
    (howed := fun _ _ => rfl) (V := V m) (hmain := hmain m Variants.none) (hA := A_eq OUT m) (hΦ := fun _ _ => rfl)

/-- The argument arrays end unchanged. -/
theorem unchanged (hL : Leaves OUT) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats OUT m) (A_eq OUT m) ((θ_run defs _ _).mono (fun _ h => h.1) (launch OUT m ρ hL))

/-- The frame claim: the program ends, the argument arrays unchanged and every semaphore at zero. -/
theorem frame (hL : Leaves OUT) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged OUT m ρ hL) ((θ_run defs _ _).mono (fun _ h => h.2) (launch OUT m ρ hL))

end Cert.KernelIdeal.Body

end
-- ==== Proof.Ideal.Rows.lean ====
/- The tiles in order: each loop starts from what the tiles before it leave in the second scratch buffer, and the rows
   the kernel ends with are the elements greedy suppression keeps. -/
module

public import proofs.«01_k».proof.Proof.Ideal.Tiles
public import proofs.«01_k».proof.Proof.Ideal.Frame

@[expose] public section

set_option maxRecDepth 16384

noncomputable section

namespace Cert.KernelIdeal.Body

open Cert.KernelIdeal Cert.KernelIdeal.Gen Cert.Nms
open Idealize.ShloMosaic Idealize.ShloMosaic.TcCoe Idealize.ShloMosaic.Tactic

section
variable (c : Dev nD) (i : grid0.Coords)
  (arg1 : Memref sig .tc .vmem S1x8x128 .f32) (harg1 : arg1.IsWhole)
  (arg2 : Memref sig .tc .vmem S1x4x8x128 .f32) (harg2 : arg2.IsWhole)
  (arg3 : Memref sig .tc .vmem S1x8x128 .f32) (harg3 : arg3.IsWhole)
  (arg4 : Memref sig .tc .vmem S1024x1024 .f32) (harg4 : arg4.IsWhole)
  (arg5 : Memref sig .tc .vmem S1024x128 .f32) (harg5 : arg5.IsWhole)
  (x1 : Vec Ideal S1x4x8x128 .f32) (f4 : BufTy.Contents (Elt Ideal) arg4.view.ty)

/-- Everything the body stores in its first scratch buffer. -/
def pieces : List (View.Piece (Elt Ideal) S1024x1024 .f32) :=
  squares (run.sl.r_1 c arg2 harg2 x1) (run.sl.r_2 c arg2 harg2 x1) (run.sl.r_3 c arg2 harg2 x1)
    (run.sl.r_4 c arg2 harg2 x1)

theorem planes : Hold (coords x1) (run.sl.r_1 c arg2 harg2 x1) (run.sl.r_2 c arg2 harg2 x1)
    (run.sl.r_3 c arg2 harg2 x1) (run.sl.r_4 c arg2 harg2 x1) := fun r l => by
  unfold run.sl.r_1 run.sl.r_2 run.sl.r_3 run.sl.r_4 k0_pay19 k0_pay20 k0_pay21 k0_pay22
  pointwise
  exact ⟨plane_read arg2 harg2 x1 0 _ r l, plane_read arg2 harg2 x1 1 _ r l, plane_read arg2 harg2 x1 2 _ r l,
    plane_read arg2 harg2 x1 3 _ r l⟩

/-- The first scratch buffer holds the overlaps once the squares are stored. -/
theorem upper : Upper (coords x1) arg4 (arg4.view.writes (Elt Ideal) f4 (pieces c arg2 harg2 x1)) :=
  upper_squares (coords x1) _ _ _ _ (planes c arg2 harg2 x1) arg4 f4

/-! ## The tiles in order -/

theorem row0 : run.sl.r_136 (F := Ideal) c i arg1 harg1 arg2 harg2 arg3 harg3 arg4 harg4 arg5 harg5 x1 f4 = rowK (coords x1) 1000 0 :=
  tile1 (coords x1) 1000 arg4 _ c i arg1 harg1 arg2 harg2 arg3 harg3 harg4 arg5 harg5 _ (upper c arg2 harg2 arg4 x1 f4)
    (first_row (coords x1) 1000 (by decide))

theorem stored1 : run.sl.H5_1 (F := Ideal) c i arg1 harg1 arg2 harg2 arg3 harg3 arg4 harg4 arg5 harg5 x1 f4 = keeps (coords x1) 1000 [0] :=
  congrArg (fun v => [keepPiece 0 v]) (row0 c i arg1 harg1 arg2 harg2 arg3 harg3 arg4 harg4 arg5 harg5 x1 f4)

theorem row1 : run.sl.r_137 (F := Ideal) c i arg1 harg1 arg2 harg2 arg3 harg3 arg4 harg4 arg5 harg5 x1 f4 = rowK (coords x1) 1000 1 := by
  refine tile2 (coords x1) 1000 arg4 _ c i arg1 harg1 arg2 harg2 arg3 harg3 harg4 arg5 harg5 _ (upper c arg2 harg2 arg4 x1 f4) ?_
  unfold run.sl.v1584
  rw [stored1]
  exact start (coords x1) 1000 (by decide) _ _ _ _ (planes c arg2 harg2 x1) arg4 arg5 1 128 rfl _ [0] (by decide) _ _

theorem stored2 : run.sl.H5_2 (F := Ideal) c i arg1 harg1 arg2 harg2 arg3 harg3 arg4 harg4 arg5 harg5 x1 f4 = keeps (coords x1) 1000 [1, 0] :=
  congrArg₂ (fun v l => keepPiece 1 v :: l) (row1 c i arg1 harg1 arg2 harg2 arg3 harg3 arg4 harg4 arg5 harg5 x1 f4) (stored1 c i arg1 harg1 arg2 harg2 arg3 harg3 arg4 harg4 arg5 harg5 x1 f4)

theorem row2 : run.sl.r_139 (F := Ideal) c i arg1 harg1 arg2 harg2 arg3 harg3 arg4 harg4 arg5 harg5 x1 f4 = rowK (coords x1) 1000 2 := by
  refine tile3 (coords x1) 1000 arg4 _ c i arg1 harg1 arg2 harg2 arg3 harg3 harg4 arg5 harg5 _ (upper c arg2 harg2 arg4 x1 f4) ?_
  unfold run.sl.r_138 run.sl.v1606
  rw [stored2]
  exact start (coords x1) 1000 (by decide) _ _ _ _ (planes c arg2 harg2 x1) arg4 arg5 2 256 rfl _ [1, 0] (by decide) _ _

theorem stored3 : run.sl.H5_3 (F := Ideal) c i arg1 harg1 arg2 harg2 arg3 harg3 arg4 harg4 arg5 harg5 x1 f4 = keeps (coords x1) 1000 [2, 1, 0] :=
  congrArg₂ (fun v l => keepPiece 2 v :: l) (row2 c i arg1 harg1 arg2 harg2 arg3 harg3 arg4 harg4 arg5 harg5 x1 f4) (stored2 c i arg1 harg1 arg2 harg2 arg3 harg3 arg4 harg4 arg5 harg5 x1 f4)

theorem row3 : run.sl.r_140 (F := Ideal) c i arg1 harg1 arg2 harg2 arg3 harg3 arg4 harg4 arg5 harg5 x1 f4 = rowK (coords x1) 1000 3 := by
  refine tile4 (coords x1) 1000 arg4 _ c i arg1 harg1 arg2 harg2 arg3 harg3 harg4 arg5 harg5 _ (upper c arg2 harg2 arg4 x1 f4) ?_
  unfold run.sl.v1628
  rw [stored3]
  exact start (coords x1) 1000 (by decide) _ _ _ _ (planes c arg2 harg2 x1) arg4 arg5 3 384 rfl _ [2, 1, 0] (by decide) _ _

theorem stored4 : run.sl.H5_4 (F := Ideal) c i arg1 harg1 arg2 harg2 arg3 harg3 arg4 harg4 arg5 harg5 x1 f4 = keeps (coords x1) 1000 [3, 2, 1, 0] :=
  congrArg₂ (fun v l => keepPiece 3 v :: l) (row3 c i arg1 harg1 arg2 harg2 arg3 harg3 arg4 harg4 arg5 harg5 x1 f4) (stored3 c i arg1 harg1 arg2 harg2 arg3 harg3 arg4 harg4 arg5 harg5 x1 f4)

theorem row4 : run.sl.r_143 (F := Ideal) c i arg1 harg1 arg2 harg2 arg3 harg3 arg4 harg4 arg5 harg5 x1 f4 = rowK (coords x1) 1000 4 := by
  refine tile5 (coords x1) 1000 arg4 _ c i arg1 harg1 arg2 harg2 arg3 harg3 harg4 arg5 harg5 _ (upper c arg2 harg2 arg4 x1 f4) ?_
  unfold run.sl.v1650
  rw [stored4]
  exact start (coords x1) 1000 (by decide) _ _ _ _ (planes c arg2 harg2 x1) arg4 arg5 4 512 rfl _ [3, 2, 1, 0] (by decide) _ _

theorem stored5 : run.sl.H5_5 (F := Ideal) c i arg1 harg1 arg2 harg2 arg3 harg3 arg4 harg4 arg5 harg5 x1 f4 = keeps (coords x1) 1000 [4, 3, 2, 1, 0] :=
  congrArg₂ (fun v l => keepPiece 4 v :: l) (row4 c i arg1 harg1 arg2 harg2 arg3 harg3 arg4 harg4 arg5 harg5 x1 f4) (stored4 c i arg1 harg1 arg2 harg2 arg3 harg3 arg4 harg4 arg5 harg5 x1 f4)

theorem row5 : run.sl.r_144 (F := Ideal) c i arg1 harg1 arg2 harg2 arg3 harg3 arg4 harg4 arg5 harg5 x1 f4 = rowK (coords x1) 1000 5 := by
  refine tile6 (coords x1) 1000 arg4 _ c i arg1 harg1 arg2 harg2 arg3 harg3 harg4 arg5 harg5 _ (upper c arg2 harg2 arg4 x1 f4) ?_
  unfold run.sl.v1672
  rw [stored5]
  exact start (coords x1) 1000 (by decide) _ _ _ _ (planes c arg2 harg2 x1) arg4 arg5 5 640 rfl _ [4, 3, 2, 1, 0] (by decide) _ _

theorem stored6 : run.sl.H5_6 (F := Ideal) c i arg1 harg1 arg2 harg2 arg3 harg3 arg4 harg4 arg5 harg5 x1 f4 = keeps (coords x1) 1000 [5, 4, 3, 2, 1, 0] :=
  congrArg₂ (fun v l => keepPiece 5 v :: l) (row5 c i arg1 harg1 arg2 harg2 arg3 harg3 arg4 harg4 arg5 harg5 x1 f4) (stored5 c i arg1 harg1 arg2 harg2 arg3 harg3 arg4 harg4 arg5 harg5 x1 f4)

theorem row6 : run.sl.r_146 (F := Ideal) c i arg1 harg1 arg2 harg2 arg3 harg3 arg4 harg4 arg5 harg5 x1 f4 = rowK (coords x1) 1000 6 := by
  refine tile7 (coords x1) 1000 arg4 _ c i arg1 harg1 arg2 harg2 arg3 harg3 harg4 arg5 harg5 _ (upper c arg2 harg2 arg4 x1 f4) ?_
  unfold run.sl.v1694
  rw [stored6]
  exact start (coords x1) 1000 (by decide) _ _ _ _ (planes c arg2 harg2 x1) arg4 arg5 6 768 rfl _ [5, 4, 3, 2, 1, 0] (by decide) _ _

theorem stored7 : run.sl.H5_7 (F := Ideal) c i arg1 harg1 arg2 harg2 arg3 harg3 arg4 harg4 arg5 harg5 x1 f4 = keeps (coords x1) 1000 [6, 5, 4, 3, 2, 1, 0] :=
  congrArg₂ (fun v l => keepPiece 6 v :: l) (row6 c i arg1 harg1 arg2 harg2 arg3 harg3 arg4 harg4 arg5 harg5 x1 f4) (stored6 c i arg1 harg1 arg2 harg2 arg3 harg3 arg4 harg4 arg5 harg5 x1 f4)

theorem row7 : st_k0_t8 (F := Ideal) Variants.none c none i arg1 harg1 arg2 harg2 arg3 harg3 arg4 harg4 arg5 harg5 run.sl.v10
      run.sl.v1727 (arg4.view.writes (Elt Ideal) f4 (pieces c arg2 harg2 x1))
      (k0_pay250 run.sl.r_147 (run.sl.r_148 c i arg1 harg1 arg2 harg2 arg3 harg3 arg4 harg4 arg5 harg5 x1 f4) run.sl.cst_376)
      (Scf.trips k0_t8_loop.lb k0_t8_loop.ub k0_t8_loop.st) = rowK (coords x1) 1000 7 := by
  refine tile8 (coords x1) 1000 arg4 _ c i arg1 harg1 arg2 harg2 arg3 harg3 harg4 arg5 harg5 _ (upper c arg2 harg2 arg4 x1 f4) ?_
  unfold run.sl.r_148 run.sl.v1716
  rw [stored7]
  exact start (coords x1) 1000 (by decide) _ _ _ _ (planes c arg2 harg2 x1) arg4 arg5 7 896 rfl _ [6, 5, 4, 3, 2, 1, 0] (by decide) _ _

/-! ## The result -/

/-- What the body reads of the scores. -/
theorem scores_apply (x0 : Vec Ideal S1x8x128 .f32) (r : Fin 8) (l : Fin 128) :
    run.sl.r c arg1 harg1 x0 (ix2 r l) = x0 (ix3 0 r l) := by
  unfold run.sl.r k0_pay18
  pointwise
  exact score_read arg1 harg1 x0 _ r l

theorem value_apply (x0 : Vec Ideal S1x8x128 .f32) (r : Fin 8) (l : Fin 128) :
    run.sl.r_149 (F := Ideal) c i arg1 harg1 arg2 harg2 arg3 harg3 arg4 harg4 arg5 harg5 x0 x1 f4 (ix2 r l)
      = out 1000 x0 x1 (ix3 0 r l) := by
  unfold run.sl.r_149
  rw [row0, row1, row2, row3, row4, row5, row6]
  refine (congrArg (fun v => k0_pay252 (run.sl.r c arg1 harg1 x0) (rowK (coords x1) 1000 0) (rowK (coords x1) 1000 1)
    (rowK (coords x1) 1000 2) (rowK (coords x1) 1000 3) (rowK (coords x1) 1000 4) (rowK (coords x1) 1000 5)
    (rowK (coords x1) 1000 6) v (ix2 r l)) (row7 c i arg1 harg1 arg2 harg2 arg3 harg3 arg4 harg4 arg5 harg5 x1 f4)).trans ?_
  exact masked_apply 1000 x0 x1 _ (scores_apply c arg1 harg1 x0) r l

/-- Everything the body stores in the result's buffer. -/
def stores (x0 : Vec Ideal S1x8x128 .f32) : List (View.Piece (Elt Ideal) S1x8x128 .f32) :=
  [⟨Rect.unit (s := S1x8x128) ![0, 0, 0] S1x8x128.size inb_S1x8x128_S1x8x128_0_0_0,
    k0_pay1 (run.sl.r_149 (F := Ideal) c i arg1 harg1 arg2 harg2 arg3 harg3 arg4 harg4 arg5 harg5 x0 x1 f4)⟩]

theorem witness (x0 : Vec Ideal S1x8x128 .f32) (f3 : BufTy.Contents (Elt Ideal) arg3.view.ty)
    (f5 : BufTy.Contents (Elt Ideal) arg5.view.ty) :
    (run (F := Ideal) c i arg1 harg1 arg2 harg2 arg3 harg3 arg4 harg4 arg5 harg5 x0 x1 f3 f4 f5).2.2.1
      = arg3.view.writes (Elt Ideal) f3
          (stores c i arg1 harg1 arg2 harg2 arg3 harg3 arg4 harg4 arg5 harg5 x1 f4 x0) := rfl

/-- The whole result block. -/
theorem stored_out (x0 : Vec Ideal S1x8x128 .f32) (y : S1x8x128.Idx) :
    k0_pay1 (run.sl.r_149 (F := Ideal) c i arg1 harg1 arg2 harg2 arg3 harg3 arg4 harg4 arg5 harg5 x0 x1 f4) y
      = out 1000 x0 x1 y := by
  idx_vars y
  obtain rfl : y0 = 0 := Subsingleton.elim _ _
  refine Eq.trans ?_ (value_apply c i arg1 harg1 arg2 harg2 arg3 harg3 arg4 harg4 arg5 harg5 x1 f4 x0 y1 y2)
  generalize run.sl.r_149 (F := Ideal) c i arg1 harg1 arg2 harg2 arg3 harg3 arg4 harg4 arg5 harg5 x0 x1 f4 = v
  unfold k0_pay1
  pointwise

end

/-- The body leaves the result of greedy suppression in the result's buffer. -/
theorem leaves : Leaves (F := Ideal) (out 1000) := by
  intro c i arg1 harg1 arg2 harg2 arg3 harg3 arg4 harg4 arg5 harg5 x0 x1 f3 f4 f5
  funext y
  have h0 : ((y 0 : Fin 1) : ℕ) < 1 := (y 0 : Fin 1).isLt
  have h1 : ((y 1 : Fin 8) : ℕ) < 8 := (y 1 : Fin 8).isLt
  have h2 : ((y 2 : Fin 128) : ℕ) < 128 := (y 2 : Fin 128).isLt
  have cover : ∃ p ∈ stores c i arg1 harg1 arg2 harg2 arg3 harg3 arg4 harg4 arg5 harg5 x1 f4 x0, y ∈ p.1.set := by
    refine ⟨_, List.mem_singleton_self _, ?_⟩
    refine (Rect.mem_set_unit (inb := inb_S1x8x128_S1x8x128_0_0_0)).mpr fun a => ?_
    match a with
    | 0 => exact ⟨Nat.zero_le _, by show ((y 0 : Fin 1) : ℕ) < 0 + 1; omega⟩
    | 1 => exact ⟨Nat.zero_le _, by show ((y 1 : Fin 8) : ℕ) < 0 + 8; omega⟩
    | 2 => exact ⟨Nat.zero_le _, by show ((y 2 : Fin 128) : ℕ) < 0 + 128; omega⟩
  rw [witness]
  refine (View.read_writes_apply_eq_canon arg3.view f3 y _ cover).trans ?_
  refine View.canon_apply_of_pieces (out 1000 x0 x1) _ (fun p hp x => ?_) y cover
  obtain rfl := List.mem_singleton.mp hp
  refine (stored_out c i arg1 harg1 arg2 harg2 arg3 harg3 arg4 harg4 arg5 harg5 x1 f4 x0 x).trans ?_
  refine congrArg (out 1000 x0 x1) (funext fun a => Fin.ext ?_)
  match a with
  | 0 => show ((x 0 : Fin 1) : ℕ) = 0 + 1 * ((x 0 : Fin 1) : ℕ); omega
  | 1 => show ((x 1 : Fin 8) : ℕ) = 0 + 1 * ((x 1 : Fin 8) : ℕ); omega
  | 2 => show ((x 2 : Fin 128) : ℕ) = 0 + 1 * ((x 2 : Fin 128) : ℕ); omega

end Cert.KernelIdeal.Body

end
-- ==== Proof.Ideal.Value.lean ====
/- The kernel's result array as one function of the argument arrays: each grid point writes back one image's block. -/
module

public import proofs.«01_k».proof.Proof.Ideal.Rows
public import Idealize.ShloMosaic.Lib.Pipeline.Value

@[expose] public section

set_option maxRecDepth 16384

noncomputable section

namespace Cert.KernelIdeal.Body

open Cert.KernelIdeal Cert.KernelIdeal.Gen Cert.Nms
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

theorem flushed2 (c : Dev nD) (t : Fin cfg0.N) : (dats (out 1000) m 0 c).flushed 2 t = out 1000 (iblk m c 0 t) (iblk m c 1 t) := by
  show (cfg0.win 2).cut (grid0.coords t) ((dats (out 1000) m 0 c).after 2 t) = _
  rw [after0_2]
  rfl

theorem idx_inj2 : ∀ t t' : Fin cfg0.N, win0_2.index t = win0_2.index t' → t = t' :=
  (by decide +kernel : ∀ t t' : Fin grid0.N, win0_2.index t = win0_2.index t' → t = t')

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

theorem blocks2 (c : Dev nD) (t : Fin cfg0.N) (hf : (cfg0.win 2).flush t = true) :
    ((cfg0.win 2).blk t).view.read (Elt Ideal) ((dats (out 1000) m 0 c).arrAt 2 cfg0.N) = (dats (out 1000) m 0 c).flushed 2 t :=
  (dats (out 1000) m 0 c).read_blk_arrAt_eq_flushed 2 disjoint2 cfg0.N t t.isLt hf

/-- Where a block's place lies in its array, for the result, the scores and the coordinates. -/
theorem place2 (t : Fin cfg0.N) (f : Vec Ideal S4x8x128 .f32) (r : Fin 8) (l : Fin 128) :
    ((cfg0.win 2).blk t).view.read (Elt Ideal) f (ix3 0 r l) = f (ix3 (⟨t, t.isLt⟩ : Fin 4) r l) := by
  refine congrArg f (funext fun a => Fin.ext ?_)
  rcases fin_N0 t with rfl | rfl | rfl | rfl
  all_goals
    match a with
    | 0 => rfl
    | 1 => show 0 + 1 * (r : ℕ) = r; omega
    | 2 => show 0 + 1 * (l : ℕ) = l; omega

theorem place0 (t : Fin cfg0.N) (f : Vec Ideal S4x8x128 .f32) (r : Fin 8) (l : Fin 128) :
    ((cfg0.win 0).blk t).view.read (Elt Ideal) f (ix3 0 r l) = f (ix3 (⟨t, t.isLt⟩ : Fin 4) r l) := by
  refine congrArg f (funext fun a => Fin.ext ?_)
  rcases fin_N0 t with rfl | rfl | rfl | rfl
  all_goals
    match a with
    | 0 => rfl
    | 1 => show 0 + 1 * (r : ℕ) = r; omega
    | 2 => show 0 + 1 * (l : ℕ) = l; omega

theorem place1 (t : Fin cfg0.N) (f : Vec Ideal S4x4x8x128 .f32) (k : Fin 4) (r : Fin 8) (l : Fin 128) :
    ((cfg0.win 1).blk t).view.read (Elt Ideal) f (ix4 0 k r l) = f (ix4 (⟨t, t.isLt⟩ : Fin 4) k r l) := by
  refine congrArg f (funext fun a => Fin.ext ?_)
  rcases fin_N0 t with rfl | rfl | rfl | rfl
  all_goals
    match a with
    | 0 => rfl
    | 1 => show 0 + 1 * (k : ℕ) = k; omega
    | 2 => show 0 + 1 * (r : ℕ) = r; omega
    | 3 => show 0 + 1 * (l : ℕ) = l; omega

/-- The result array after the launch. -/
theorem arr_eq (c : Dev nD) : (dats (out 1000) m 0 c).arrAt 2 cfg0.N
    = result 1000 (m ((c.tc : Thread nD τ).loc main_arg0)) (m ((c.tc : Thread nD τ).loc main_arg1)) := by
  funext y
  idx_vars y
  obtain ⟨t, rfl⟩ : ∃ t : Fin cfg0.N, y0 = ⟨t, t.isLt⟩ := ⟨⟨y0, y0.isLt⟩, rfl⟩
  refine (place2 t _ y1 y2).symm.trans ?_
  refine (congrFun ((blocks2 m c t (flush0_2 t)).trans (flushed2 m c t)) (ix3 0 y1 y2)).trans ?_
  have e0 : iblk m c 0 t (ix3 0 y1 y2) = m ((c.tc : Thread nD τ).loc main_arg0) (ix3 (⟨t, t.isLt⟩ : Fin 4) y1 y2) :=
    (place0 t _ y1 y2).trans (congrFun (V_main_arg0 m c) _)
  have e1 : coords (iblk m c 1 t) = fun k r l => m ((c.tc : Thread nD τ).loc main_arg1) (ix4 (⟨t, t.isLt⟩ : Fin 4) k r l) := by
    funext k r l
    exact (place1 t _ k r l).trans (congrFun (V_main_arg1 m c) _)
  unfold out
  rw [e1, e0]
  rfl

/-- The launch ends with the result array at `result` of the arguments, and the arguments unchanged. -/
theorem value : θ_run defs (onTc (τ := τ) (main (F := Ideal))) ⟨m, fun _ => 0, ρ⟩ (fun r => ∀ c : Dev nD,
      r.2.mem ((c.tc : Thread nD τ).loc main_v0)
          = result 1000 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1.1 c).1 2).trans (arr_eq m c), h.2 c⟩)
    (θ_run_and (launch (out 1000) m ρ leaves) (unchanged (out 1000) m ρ leaves))

end Cert.KernelIdeal.Body

end
-- ==== Proof.Ref.Trip.lean ====
/- The reference: its overlaps, one trip of its suppression, and its result, each at an index. -/
module

public import proofs.«01_k».proof.Proof.Gen.ReferenceIdeal.StepRun
public import proofs.«01_k».proof.Proof.Nms.Steps
public import Idealize.ShloMosaic.Lib.Quiescent

@[expose] public section

set_option maxRecDepth 16384

noncomputable section

namespace Cert.ReferenceIdeal.Meaning

open Cert.ReferenceIdeal Cert.ReferenceIdeal.Gen Cert.ReferenceIdeal.Step Cert.Nms
open Idealize.ShloMosaic Idealize.ShloMosaic.TcCoe Idealize.ShloMosaic.Tactic Idealize.ShloMosaic.WordArith Idealize.SL.Sem

/-- The box coordinates of image `b`. -/
def boxes (x : Vec Ideal S4x4x8x128 .f32) (b : Fin 4) : Fin 4 → Fin 8 → Fin 128 → EReal := fun k r l => x (ix4 b k r l)

section
variable (x : Vec Ideal S4x4x8x128 .f32) (b : Fin 4) (i j : Fin 1000)

theorem corner0 : A_main_v4 x (ix2 b i) = co (boxes x b) 0 i := by
  unfold A_main_v4 A_main_v3 A_main_v2 A_main_v1 A_main_v0
  pointwise
  exact (co_eq (boxes x b) _ i _ _ (by show (i : ℕ) = 128 * ((i : ℕ) / 128) + (i : ℕ) % 128; omega)).symm
theorem corner1 : A_main_v6 x (ix2 b i) = co (boxes x b) 1 i := by
  unfold A_main_v6 A_main_v5 A_main_v2 A_main_v1 A_main_v0
  pointwise
  exact (co_eq (boxes x b) _ i _ _ (by show (i : ℕ) = 128 * ((i : ℕ) / 128) + (i : ℕ) % 128; omega)).symm
theorem corner2 : A_main_v8 x (ix2 b i) = co (boxes x b) 2 i := by
  unfold A_main_v8 A_main_v7 A_main_v2 A_main_v1 A_main_v0
  pointwise
  exact (co_eq (boxes x b) _ i _ _ (by show (i : ℕ) = 128 * ((i : ℕ) / 128) + (i : ℕ) % 128; omega)).symm
theorem corner3 : A_main_v10 x (ix2 b i) = co (boxes x b) 3 i := by
  unfold A_main_v10 A_main_v9 A_main_v2 A_main_v1 A_main_v0
  pointwise
  exact (co_eq (boxes x b) _ i _ _ (by show (i : ℕ) = 128 * ((i : ℕ) / 128) + (i : ℕ) % 128; omega)).symm

theorem area_apply : A_main_v17 x (ix2 b i)
    = max (co (boxes x b) 2 i - co (boxes x b) 0 i) 0 * max (co (boxes x b) 3 i - co (boxes x b) 1 i) 0 := by
  unfold A_main_v17 A_main_v16 A_main_v14 A_main_v13 A_main_v11 K_main_v12 K_main_v15 K_main_cst K_main_cst_0
  pointwise
  rw [corner0, corner1, corner2, corner3]

theorem overlap_apply : A_main_v53 x (ix3 b i j) = iou (co (boxes x b)) i j := by
  unfold A_main_v53 A_main_v52 A_main_v50 A_main_v49 A_main_v48 A_main_v47 A_main_v46 A_main_v45 A_main_v44 A_main_v43
    A_main_v41 A_main_v40 A_main_v38 A_main_v37 A_main_v36 A_main_v35 A_main_v34 A_main_v33 A_main_v32 A_main_v31
    A_main_v30 A_main_v29 A_main_v28 A_main_v27 A_main_v26 A_main_v25 A_main_v24 A_main_v23 A_main_v22 A_main_v21
    A_main_v20 A_main_v19 A_main_v18 K_main_v39 K_main_v42 K_main_v51 K_main_cst_1 K_main_cst_2 K_main_cst_3
  pointwise
  simp only [corner0, corner1, corner2, corner3, area_apply]
  rfl
end

/-- The flags of the elements still alive after `j` trips. -/
def aliveAt (x : Vec Ideal S4x4x8x128 .f32) (j : ℕ) : Vec Ideal S4x1000 .i1 := fun y =>
  open Classical in BitVec.ofBool (decide (alive (over (boxes x (y 0))) 1000 j ((y 1 : Fin 1000) : ℕ)))

theorem aliveAt_apply (x : Vec Ideal S4x4x8x128 .f32) (j : ℕ) (b : Fin 4) (i : Fin 1000) :
    open Classical in
    aliveAt x j (ix2 b i) = BitVec.ofBool (decide (alive (over (boxes x b)) 1000 j (i : ℕ))) := rfl

/-! ## One trip -/

section
variable (j : ℕ) (hj : j < 1000) (s : State Ideal)
include hj

theorem toInt_ofNat : (BitVec.ofNat 32 j).toInt = (j : ℤ) := toInt_ofNat_small j (by omega)

theorem trip_number : b1 j s = constantI S_ 32 (BitVec.ofNat 32 j) := by
  funext y
  unfold b1 b0 K_main_v54
  pointwise
  rw [Host.clampedStart_of_le _ _ _ j (toInt_ofNat j hj) (by show j + 1 ≤ 1000; omega)]

theorem wrapped : b14 j s = constantI S_ 32 (BitVec.ofNat 32 j) := by
  funext y
  unfold b14 b11 b13 b10 b12
  rw [trip_number j hj]
  pointwise
  have e : IntOp.cmpi .slt (BitVec.ofNat 32 j) 0#32 = 0#1 := by
    simp only [IntOp.cmpi, BitVec.slt_eq_decide, toInt_ofNat j hj]
    rw [decide_eq_false (by show ¬ (j : ℤ) < 0; omega)]
    rfl
  rw [e]
  rfl

theorem wrapped' : b29 j s = constantI S_ 32 (BitVec.ofNat 32 j) := wrapped j hj s

theorem kept_trip (b : Fin 4) : b16 j s (ix1 b) = s.main_v56_4 (ix2 b ⟨j, hj⟩) := by
  unfold b16 b15
  rw [wrapped j hj]
  pointwise
  have e0 := Host.clampedStart_of_le (s := S4x1000) (t := S4x1) rfl
    (fun k => BitVec.toInt (![b9 j s, constantI S_ 32 (BitVec.ofNat 32 j)] k (Shape.Idx.first h_S_))) 0 0 rfl
    (by show 0 + 4 ≤ 4; omega)
  have e1 := Host.clampedStart_of_le (s := S4x1000) (t := S4x1) rfl
    (fun k => BitVec.toInt (![b9 j s, constantI S_ 32 (BitVec.ofNat 32 j)] k (Shape.Idx.first h_S_))) 1 j
    (toInt_ofNat j hj) (by show j + 1 ≤ 1000; omega)
  have e (a a' : Fin 4) (b b' : Fin 1000) (h : a = a') (h' : b = b') :
      s.main_v56_4 (ix2 a b) = s.main_v56_4 (ix2 a' b') := by rw [h, h']
  exact e _ _ _ _ (Fin.ext ((congrArg (· + (b : ℕ)) e0).trans (Nat.zero_add _))) (Fin.ext e1)

theorem overlap_trip (b : Fin 4) (l : Fin 1000) : b39 j s (ix2 b l) = s.main_v56_1 (ix3 b ⟨j, hj⟩ l) := by
  unfold b39 b38
  rw [wrapped' j hj]
  pointwise
  have e0 := Host.clampedStart_of_le (s := S4x1000x1000) (t := S4x1x1000) rfl
    (fun k => BitVec.toInt (![b24 j s, constantI S_ 32 (BitVec.ofNat 32 j), b37 j s] k (Shape.Idx.first h_S_))) 0 0 rfl
    (by show 0 + 4 ≤ 4; omega)
  have e1 := Host.clampedStart_of_le (s := S4x1000x1000) (t := S4x1x1000) rfl
    (fun k => BitVec.toInt (![b24 j s, constantI S_ 32 (BitVec.ofNat 32 j), b37 j s] k (Shape.Idx.first h_S_))) 1 j
    (toInt_ofNat j hj) (by show j + 1 ≤ 1000; omega)
  have e2 := Host.clampedStart_of_le (s := S4x1000x1000) (t := S4x1x1000) rfl
    (fun k => BitVec.toInt (![b24 j s, constantI S_ 32 (BitVec.ofNat 32 j), b37 j s] k (Shape.Idx.first h_S_))) 2 0 rfl
    (by show 0 + 1000 ≤ 1000; omega)
  have e (a a' : Fin 4) (b b' c c' : Fin 1000) (h : a = a') (h' : b = b') (h'' : c = c') :
      s.main_v56_1 (ix3 a b c) = s.main_v56_1 (ix3 a' b' c') := by rw [h, h', h'']
  exact e _ _ _ _ _ _ (Fin.ext ((congrArg (· + (b : ℕ)) e0).trans (Nat.zero_add _))) (Fin.ext e1)
    (Fin.ext ((congrArg (· + (l : ℕ)) e2).trans (Nat.zero_add _)))

/-- A trip takes out what the element at hand suppresses. -/
theorem step_apply (x : Vec Ideal S4x4x8x128 .f32) (hk : s.main_v56_4 = aliveAt x j) (ho : s.main_v56_1 = A_main_v53 x) :
    b52 j s = aliveAt x (j + 1) := by
  classical
  funext y
  idx_vars y
  unfold b52 b51 b50 b49 b48 b47 b46 b45 b44 b43 b42 b41 b40 K_main_v54
  rw [trip_number j hj]
  pointwise
  rw [overlap_trip j hj, kept_trip j hj, hk, ho, overlap_apply, sgt_eq _ _ (by omega) (by omega)]
  have eo : decide (Ideal.ofBits .f32 0x3F333333#32 < iou (co (boxes x y0)) j y1) = decide (over (boxes x y0) j y1) :=
    decide_eq_decide.mpr Iff.rfl
  have es : decide (alive (over (boxes x y0)) 1000 (j + 1) (y1 : ℕ))
      = decide (alive (over (boxes x y0)) 1000 j (y1 : ℕ)
        ∧ ¬ (over (boxes x y0) j (y1 : ℕ) ∧ j < (y1 : ℕ) ∧ alive (over (boxes x y0)) 1000 j j)) :=
    decide_eq_decide.mpr (alive_succ (over (boxes x y0)) 1000 j (y1 : ℕ))
  rw [eo, aliveAt_apply, aliveAt_apply, aliveAt_apply, es]
  by_cases h1 : alive (over (boxes x y0)) 1000 j (y1 : ℕ) <;> by_cases h2 : over (boxes x y0) j y1 <;>
    by_cases h3 : alive (over (boxes x y0)) 1000 j j <;> by_cases h4 : j < (y1 : ℕ) <;>
    simp [h1, h2, h3, h4, IntOp.andi]
end

/-! ## The whole run -/

/-- The state after `j` trips. -/
def after (x : Vec Ideal S4x4x8x128 .f32) (j : ℕ) : State Ideal :=
  { main_v56_4 := aliveAt x j, main_v56_1 := A_main_v53 x }

theorem after_zero (x : Vec Ideal S4x4x8x128 .f32) : after x 0 = init x := by
  have e : aliveAt x 0 = K_main_v55 (F := Ideal) := by
    classical
    funext y
    idx_vars y
    unfold K_main_v55 K_main_c
    pointwise
    rw [aliveAt_apply, decide_eq_true ((alive_zero _ _ _).mpr y1.isLt)]
    rfl
  unfold after init
  rw [e]

/-- The trips from the first state, whatever is done past the last element. -/
def trips (x : Vec Ideal S4x4x8x128 .f32) : ℕ → State Ideal
  | 0 => init x
  | j + 1 => step j (trips x j)

theorem trips_eq (x : Vec Ideal S4x4x8x128 .f32) (j : ℕ) (hj : j ≤ 1000) : trips x j = after x j := by
  induction j with
  | zero => exact (after_zero x).symm
  | succ j ih =>
    show step j (trips x j) = _
    rw [ih (by omega)]
    unfold step
    rw [step_apply j (by omega) (after x j) x rfl rfl]
    rfl

theorem result_apply (x : Vec Ideal S4x4x8x128 .f32) (k : Vec Ideal S4x8x128 .f32) (b : Fin 4) (r : Fin 8) (l : Fin 128) :
    open Classical in
    R_main_v61 (after x 1000) k (ix3 b r l)
      = if kept (over (boxes x b)) 1000 (128 * (r : ℕ) + (l : ℕ)) then k (ix3 b r l)
        else Ideal.ofBits .f32 0xBF800000#32 := by
  classical
  unfold R_main_v61 after
  pointwise
  have hm : (r : ℕ) * 128 + (l : ℕ) = 128 * (r : ℕ) + (l : ℕ) := by omega
  by_cases h : (r : ℕ) * 128 + (l : ℕ) < 1000
  · rw [dif_pos h, aliveAt_apply]
    have e : alive (over (boxes x b)) 1000 1000 ((r : ℕ) * 128 + (l : ℕ))
        ↔ kept (over (boxes x b)) 1000 (128 * (r : ℕ) + (l : ℕ)) := by
      rw [← hm]; exact alive_of_le _ _ (by omega)
    rw [show decide (alive (over (boxes x b)) 1000 1000 ((r : ℕ) * 128 + (l : ℕ))) = _ from decide_eq_decide.mpr e]
    by_cases hk : kept (over (boxes x b)) 1000 (128 * (r : ℕ) + (l : ℕ))
    · rw [if_pos hk, decide_eq_true hk]; rfl
    · rw [if_neg hk, decide_eq_false hk]; rfl
  · have hk : ¬ kept (over (boxes x b)) 1000 (128 * (r : ℕ) + (l : ℕ)) := fun hk =>
      h (by rw [hm]; exact ((alive_of_le (over (boxes x b)) 1000 le_rfl).mpr hk).1)
    rw [dif_neg h, if_neg hk]
    rfl

variable (m : (ℓ : Loc nD τ sig) → Buf (Elt Ideal) ℓ) (ρ : Dev nD → PrngReg)

/-- The reference ends with its result as `R_main_v61` of the state after all trips, and its arguments unchanged. -/
theorem value : θ_run defs (onTc (τ := τ) (main (F := Ideal))) ⟨m, fun _ => 0, ρ⟩ (fun r => ∀ c : Dev nD,
      r.2.mem ((c.tc : Thread nD τ).loc main_v61)
          = R_main_v61 (after (m ((c.tc : Thread nD τ).loc main_arg1)) 1000) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h := Cert.ReferenceIdeal.StepRun.run_iter (F := Ideal) m ρ
    (fun c => trips (m ((c.tc : Thread nD τ).loc main_arg1))) (fun _ => rfl) (fun _ _ => rfl)
  simp only [trips_eq _ 1000 le_rfl] at h
  exact h

end Cert.ReferenceIdeal.Meaning

end
-- ==== Proof.Bits2.Frame.lean ====
/- The launch around the body: every argument array ends unchanged. Nothing is said of the result here. -/
module

public import proofs.«01_k».proof.Proof.Bits2.Body
public import Idealize.ShloMosaic.Lib.Claim

@[expose] public section

set_option maxRecDepth 16384

noncomputable section

namespace Cert.Kernel2.Body

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch buffers, whole. -/
abbrev pairs : Memref sig .tc .vmem S1024x1024 .f32 := Memref.whole cc0_scratch0
abbrev cols : Memref sig .tc .vmem S1024x128 .f32 := Memref.whole cc0_scratch1

/-- What the grid carries between points beside the windows: the scratch buffers at any contents and the generator
    register. -/
theorem carried_eq (c : Dev nD) : (Pipeline.ΦA spec0 c : sProp 𝕄) =
    iprop(iprop((∃ d, owns (c : Thread nD τ) pairs fullShare d) ∗ (∃ d, owns (c : Thread nD τ) cols fullShare d))
      ∗ (∃ r, prngReg c r)) := by
  unfold Pipeline.ΦA; rw [scopedRest0_eq]; simp only [pairs, cols, owns_whole]; try rfl

/-- The windows whose contents are left unsaid: the result's. -/
def forgets : Fin 3 → Bool := fun w => w.val == 2

/-- The pipeline's data: the arrays as launched, each input's buffer at its block after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is entered with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d))

/-- What it is left with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d))

set_option maxHeartbeats 1600000 in
/-- The body's triple at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, carried_eq]
  iintro ⟨⟨⟨⟨%e4, HS4⟩, ⟨%e5, HS5⟩⟩, Hg⟩, Ho, ⟨%d0, H0⟩, ⟨%d1, H1⟩, ⟨%d2, H2⟩⟩
  unfold owns
  icases HS4 with ⟨%f4, %hf4, HS4⟩
  icases HS5 with ⟨%f5, %hf5, HS5⟩
  icases H2 with ⟨%f3, %hf3, H2⟩
  iapply ((run c _ _ _ _ _ _ _ _ _ _ _ (iblk m c 0 t) (iblk m c 1 t) f3 f4 f5).2.2.2 Set.univ _)
  unfold owns
  isplitl [H0]; · iexact H0
  isplitl [H1]; · iexact H1
  isplitl [H2]; · iexact H2
  isplitl [HS4]; · iexact HS4
  isplitl [HS5]; · iexact HS5
  iintro ⟨H0, H1, H2, HS4, HS5⟩
  isplitl [HS4 HS5 Hg]
  · isplitl [HS4 HS5]
    · isplitl [HS4]
      · iexists _; iexists _; isplitr
        swap; · iexact HS4
        ipureintro; rfl
      iexists _; iexists _; isplitr
      swap; · iexact HS5
      ipureintro; rfl
    iexact Hg
  isplitl [Ho]; · iexact Ho
  isplitl [H0]; · iexact H0
  isplitl [H1]; · iexact H1
  iexists _; iexists _; isplitr
  swap; · iexact H2
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch, and every semaphore at zero at the end. -/
theorem launch : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Pipeline.RDat.FramePost.arr_in h.1 c 0 rfl).trans ((A_eq m c 0).trans (V_main_arg0 m c)),
      (Pipeline.RDat.FramePost.arr_in h.1 c 1 rfl).trans ((A_eq m c 1).trans (V_main_arg1 m c))⟩) (launch m ρ)

/-- The frame claim: the program ends, the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (launch m ρ))

end Cert.Kernel2.Body

end
-- ==== Proof.Ideal2.Body.lean ====
/- One run of the kernel's body on whole buffers. -/
module

public import proofs.«01_k».proof.Proof.Gen.Kernel2Ideal.Frame
public import proofs.«01_k».proof.Proof.Gen.Kernel2Ideal.Loops

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body run from buffers holding `x0`, `x1` (the inputs), `f3` (the output) and `f4`, `f5` (the two scratch
    buffers): the inputs end as they were and the three others at the contents of the witness. -/
def run (c : Dev nD) (i : grid0.Coords)
    (arg1 : Memref sig .tc .vmem S1x8x128 .f32) (harg1 : arg1.IsWhole)
    (arg2 : Memref sig .tc .vmem S1x4x8x128 .f32) (harg2 : arg2.IsWhole)
    (arg3 : Memref sig .tc .vmem S1x8x128 .f32) (harg3 : arg3.IsWhole)
    (arg4 : Memref sig .tc .vmem S1024x1024 .f32) (harg4 : arg4.IsWhole)
    (arg5 : Memref sig .tc .vmem S1024x128 .f32) (harg5 : arg5.IsWhole)
    (x0 : Vec F S1x8x128 .f32) (x1 : Vec F S1x4x8x128 .f32)
    (f3 : BufTy.Contents (Elt F) arg3.view.ty) (f4 : BufTy.Contents (Elt F) arg4.view.ty)
    (f5 : BufTy.Contents (Elt F) arg5.view.ty) :
    Σ' (g4 : BufTy.Contents (Elt F) arg4.view.ty) (g5 : BufTy.Contents (Elt F) arg5.view.ty),
    { g3 : BufTy.Contents (Elt F) arg3.view.ty //
      ∀ (E : Set ℕ) (K : PUnit → sProp 𝕄),
        iprop(owns (c : Thread nD τ) arg1 fullShare x0 ∗ owns (c : Thread nD τ) arg2 fullShare x1
            ∗ (arg3.view.loc (c : Thread nD τ) ↦[arg3.view.set]{fullShare} f3)
            ∗ (arg4.view.loc (c : Thread nD τ) ↦[arg4.view.set]{fullShare} f4)
            ∗ (arg5.view.loc (c : Thread nD τ) ↦[arg5.view.set]{fullShare} f5)
            ∗ (iprop(owns (c : Thread nD τ) arg1 fullShare x0 ∗ owns (c : Thread nD τ) arg2 fullShare x1
                ∗ (arg3.view.loc (c : Thread nD τ) ↦[arg3.view.set]{fullShare} g3)
                ∗ (arg4.view.loc (c : Thread nD τ) ↦[arg4.view.set]{fullShare} g4)
                ∗ (arg5.view.loc (c : Thread nD τ) ↦[arg5.view.set]{fullShare} g5)) -∗ K ⟨⟩))
          ⊢ wp frame (wpE (defs₀ (F := F)) Variants.none c none) E
              (cc0__nms_kernel i arg1 harg1 arg2 harg2 arg3 harg3 arg4 harg4 arg5 harg5) K } := by
  refine ⟨?_, ?_, ?_, fun E K => ?run⟩
  case run =>
    simp only [cc0__nms_kernel_eq_skeleton]; unfold cc0__nms_kernel_skel
    unfold owns
    iintro ⟨⟨%f0, %hf0, H0⟩, ⟨%f1, %hf1, H1⟩, H3, H4, H5, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H3]; · iexact H3
    isplitl [H4]; · iexact H4
    iexact H5

end Cert.Kernel2Ideal.Body

end
-- ==== Proof.Ideal2.Tiles.lean ====
/- The eight loops of the kernel: each settles one tile of 128 elements, from the state the tiles before it leave. -/
module

public import proofs.«01_k».proof.Proof.Ideal2.Body
public import proofs.«01_k».proof.Proof.Nms.Buffers

@[expose] public section

set_option maxRecDepth 16384

noncomputable section

namespace Cert.Kernel2Ideal.Body

open Cert.Kernel2Ideal Cert.Kernel2Ideal.Gen Cert.Nms
open Idealize.ShloMosaic Idealize.ShloMosaic.TcCoe Idealize.ShloMosaic.Tactic

/-! ## The loops' numbers -/

theorem sub1 : ∀ k : Fin k0_t1_loop.trips,
    Scalar.subi (Scf.iv 0#32 1#32 (k : ℕ)) (k0_mult1 k) = BitVec.ofNat 32 ((k : ℕ) % 8) := by decide +kernel
theorem sub2 : ∀ k : Fin k0_t2_loop.trips,
    Scalar.subi (Scf.iv 0#32 1#32 (k : ℕ)) (k0_mult2 k) = BitVec.ofNat 32 ((k : ℕ) % 8) := by decide +kernel
theorem sub3 : ∀ k : Fin k0_t3_loop.trips,
    Scalar.subi (Scf.iv 0#32 1#32 (k : ℕ)) (k0_mult3 k) = BitVec.ofNat 32 ((k : ℕ) % 8) := by decide +kernel
theorem sub4 : ∀ k : Fin k0_t4_loop.trips,
    Scalar.subi (Scf.iv 0#32 1#32 (k : ℕ)) (k0_mult4 k) = BitVec.ofNat 32 ((k : ℕ) % 8) := by decide +kernel
theorem sub5 : ∀ k : Fin k0_t5_loop.trips,
    Scalar.subi (Scf.iv 0#32 1#32 (k : ℕ)) (k0_mult5 k) = BitVec.ofNat 32 ((k : ℕ) % 8) := by decide +kernel
theorem sub6 : ∀ k : Fin k0_t6_loop.trips,
    Scalar.subi (Scf.iv 0#32 1#32 (k : ℕ)) (k0_mult6 k) = BitVec.ofNat 32 ((k : ℕ) % 8) := by decide +kernel
theorem sub7 : ∀ k : Fin k0_t7_loop.trips,
    Scalar.subi (Scf.iv 0#32 1#32 (k : ℕ)) (k0_mult7 k) = BitVec.ofNat 32 ((k : ℕ) % 8) := by decide +kernel
theorem sub8 : ∀ k : Fin k0_t8_loop.trips,
    Scalar.subi (Scf.iv 0#32 1#32 (k : ℕ)) (k0_mult8 k) = BitVec.ofNat 32 ((k : ℕ) % 8) := by decide +kernel
theorem off1 : ∀ k : Fin k0_t1_loop.trips, k0_off1 k = ![128 * 0 + 8 * ((k : ℕ) / 8), 128 * 0] := by decide +kernel
theorem off2 : ∀ k : Fin k0_t2_loop.trips, k0_off2 k = ![128 * 1 + 8 * ((k : ℕ) / 8), 128 * 1] := by decide +kernel
theorem off3 : ∀ k : Fin k0_t3_loop.trips, k0_off3 k = ![128 * 2 + 8 * ((k : ℕ) / 8), 128 * 2] := by decide +kernel
theorem off4 : ∀ k : Fin k0_t4_loop.trips, k0_off4 k = ![128 * 3 + 8 * ((k : ℕ) / 8), 128 * 3] := by decide +kernel
theorem off5 : ∀ k : Fin k0_t5_loop.trips, k0_off5 k = ![128 * 4 + 8 * ((k : ℕ) / 8), 128 * 4] := by decide +kernel
theorem off6 : ∀ k : Fin k0_t6_loop.trips, k0_off6 k = ![128 * 5 + 8 * ((k : ℕ) / 8), 128 * 5] := by decide +kernel
theorem off7 : ∀ k : Fin k0_t7_loop.trips, k0_off7 k = ![128 * 6 + 8 * ((k : ℕ) / 8), 128 * 6] := by decide +kernel
theorem off8 : ∀ k : Fin k0_t8_loop.trips, k0_off8 k = ![128 * 7 + 8 * ((k : ℕ) / 8), 128 * 7] := by decide +kernel

section
variable (P : Fin 4 → Fin 8 → Fin 128 → EReal) (n : ℕ)
  (arg4 : Memref sig .tc .vmem S1024x1024 .f32) (X : BufTy.Contents (Elt Ideal) arg4.view.ty)
variable (c : Dev nD) (i : grid0.Coords)
  (arg1 : Memref sig .tc .vmem S1x8x128 .f32) (harg1 : arg1.IsWhole)
  (arg2 : Memref sig .tc .vmem S1x4x8x128 .f32) (harg2 : arg2.IsWhole)
  (arg3 : Memref sig .tc .vmem S1x8x128 .f32) (harg3 : arg3.IsWhole)
  (harg4 : arg4.IsWhole)
  (arg5 : Memref sig .tc .vmem S1024x128 .f32) (harg5 : arg5.IsWhole)
  (init : FVec Ideal S1x128 .f32)

theorem tile1 (hX : Upper P arg4 X) (h0 : init = row P n 0 (128 * ((0 : Fin 8) : ℕ)))
    {v1 v2 v3 v4 v5 v6 v7 v8 v9 v10 v11 v12} :
    st_k0_t1 (F := Ideal) Variants.none c none i arg1 harg1 arg2 harg2 arg3 harg3 arg4 harg4 arg5 harg5 run.sl.v10
      v1 v2 v3 v4 v5 v6 v7 v8 v9 v10 v11 v12 run.sl.v1573 X init 128 = rowK P n 0 :=
  settle P n arg4 X hX 0 (st_k0_t1 (F := Ideal) Variants.none c none i arg1 harg1 arg2 harg2 arg3 harg3 arg4 harg4
    arg5 harg5 run.sl.v10 v1 v2 v3 v4 v5 v6 v7 v8 v9 v10 v11 v12 run.sl.v1573 X init) h0 fun k =>
    ⟨_, k0_off1_inb k, _, _, off1 k, iv_eq k, sub1 k, by
      refine (st_k0_t1_succ (F := Ideal) _ _ _ _ _ _ _ _ _ _ _ _ _ _ _ _ _ _ _ _ _ _ _ _ _ _ _ _ _ _ k).trans ?_
      unfold tripR_k0_t1 trip_k0_t1
      rfl⟩

theorem tile2 (hX : Upper P arg4 X) (h0 : init = row P n 1 (128 * ((1 : Fin 8) : ℕ))) {v1 v2 v3} :
    st_k0_t2 (F := Ideal) Variants.none c none i arg1 harg1 arg2 harg2 arg3 harg3 arg4 harg4 arg5 harg5 run.sl.v10
      v1 v2 v3 run.sl.v1595 X init 128 = rowK P n 1 :=
  settle P n arg4 X hX 1 (st_k0_t2 (F := Ideal) Variants.none c none i arg1 harg1 arg2 harg2 arg3 harg3 arg4 harg4 arg5 harg5 run.sl.v10
      v1 v2 v3 run.sl.v1595 X init) h0 fun k =>
    ⟨_, k0_off2_inb k, _, _, off2 k, iv_eq k, sub2 k, by
      refine (st_k0_t2_succ (F := Ideal) .. ).trans ?_
      unfold tripR_k0_t2 trip_k0_t2
      rfl⟩

theorem tile3 (hX : Upper P arg4 X) (h0 : init = row P n 2 (128 * ((2 : Fin 8) : ℕ))) {v1 v2} :
    st_k0_t3 (F := Ideal) Variants.none c none i arg1 harg1 arg2 harg2 arg3 harg3 arg4 harg4 arg5 harg5 run.sl.v10
      v1 v2 run.sl.v1617 0#32 1#32 X init 128 = rowK P n 2 :=
  settle P n arg4 X hX 2 (st_k0_t3 (F := Ideal) Variants.none c none i arg1 harg1 arg2 harg2 arg3 harg3 arg4 harg4 arg5 harg5 run.sl.v10
      v1 v2 run.sl.v1617 0#32 1#32 X init) h0 fun k =>
    ⟨_, k0_off3_inb k, _, _, off3 k, iv_eq k, sub3 k, by
      refine (st_k0_t3_succ (F := Ideal) .. ).trans ?_
      unfold tripR_k0_t3 trip_k0_t3
      rfl⟩

theorem tile4 (hX : Upper P arg4 X) (h0 : init = row P n 3 (128 * ((3 : Fin 8) : ℕ))) {v1 v2 v3} :
    st_k0_t4 (F := Ideal) Variants.none c none i arg1 harg1 arg2 harg2 arg3 harg3 arg4 harg4 arg5 harg5 run.sl.v10
      v1 v2 v3 0#32 1#32 run.sl.v1639 X init 128 = rowK P n 3 :=
  settle P n arg4 X hX 3 (st_k0_t4 (F := Ideal) Variants.none c none i arg1 harg1 arg2 harg2 arg3 harg3 arg4 harg4 arg5 harg5 run.sl.v10
      v1 v2 v3 0#32 1#32 run.sl.v1639 X init) h0 fun k =>
    ⟨_, k0_off4_inb k, _, _, off4 k, iv_eq k, sub4 k, by
      refine (st_k0_t4_succ (F := Ideal) .. ).trans ?_
      unfold tripR_k0_t4 trip_k0_t4
      rfl⟩

theorem tile5 (hX : Upper P arg4 X) (h0 : init = row P n 4 (128 * ((4 : Fin 8) : ℕ))) {v1 v2 v3 v4 v5} :
    st_k0_t5 (F := Ideal) Variants.none c none i arg1 harg1 arg2 harg2 arg3 harg3 arg4 harg4 arg5 harg5 run.sl.v10
      v1 v2 v3 v4 v5 run.sl.v1661 X init 128 = rowK P n 4 :=
  settle P n arg4 X hX 4 (st_k0_t5 (F := Ideal) Variants.none c none i arg1 harg1 arg2 harg2 arg3 harg3 arg4 harg4 arg5 harg5 run.sl.v10
      v1 v2 v3 v4 v5 run.sl.v1661 X init) h0 fun k =>
    ⟨_, k0_off5_inb k, _, _, off5 k, iv_eq k, sub5 k, by
      refine (st_k0_t5_succ (F := Ideal) .. ).trans ?_
      unfold tripR_k0_t5 trip_k0_t5
      rfl⟩

theorem tile6 (hX : Upper P arg4 X) (h0 : init = row P n 5 (128 * ((5 : Fin 8) : ℕ))) {v1 v2 v3 v4 v5} :
    st_k0_t6 (F := Ideal) Variants.none c none i arg1 harg1 arg2 harg2 arg3 harg3 arg4 harg4 arg5 harg5 run.sl.v10
      v1 v2 v3 v4 v5 run.sl.v1683 X init 128 = rowK P n 5 :=
  settle P n arg4 X hX 5 (st_k0_t6 (F := Ideal) Variants.none c none i arg1 harg1 arg2 harg2 arg3 harg3 arg4 harg4 arg5 harg5 run.sl.v10
      v1 v2 v3 v4 v5 run.sl.v1683 X init) h0 fun k =>
    ⟨_, k0_off6_inb k, _, _, off6 k, iv_eq k, sub6 k, by
      refine (st_k0_t6_succ (F := Ideal) .. ).trans ?_
      unfold tripR_k0_t6 trip_k0_t6
      rfl⟩

theorem tile7 (hX : Upper P arg4 X) (h0 : init = row P n 6 (128 * ((6 : Fin 8) : ℕ))) {v1 v2} :
    st_k0_t7 (F := Ideal) Variants.none c none i arg1 harg1 arg2 harg2 arg3 harg3 arg4 harg4 arg5 harg5 run.sl.v10
      v1 v2 run.sl.v1705 X init 128 = rowK P n 6 :=
  settle P n arg4 X hX 6 (st_k0_t7 (F := Ideal) Variants.none c none i arg1 harg1 arg2 harg2 arg3 harg3 arg4 harg4 arg5 harg5 run.sl.v10
      v1 v2 run.sl.v1705 X init) h0 fun k =>
    ⟨_, k0_off7_inb k, _, _, off7 k, iv_eq k, sub7 k, by
      refine (st_k0_t7_succ (F := Ideal) .. ).trans ?_
      unfold tripR_k0_t7 trip_k0_t7
      rfl⟩

theorem tile8 (hX : Upper P arg4 X) (h0 : init = row P n 7 (128 * ((7 : Fin 8) : ℕ)))  :
    st_k0_t8 (F := Ideal) Variants.none c none i arg1 harg1 arg2 harg2 arg3 harg3 arg4 harg4 arg5 harg5 run.sl.v10
      run.sl.v1727 X init 128 = rowK P n 7 :=
  settle P n arg4 X hX 7 (st_k0_t8 (F := Ideal) Variants.none c none i arg1 harg1 arg2 harg2 arg3 harg3 arg4 harg4 arg5 harg5 run.sl.v10
      run.sl.v1727 X init) h0 fun k =>
    ⟨_, k0_off8_inb k, _, _, off8 k, iv_eq k, sub8 k, by
      refine (st_k0_t8_succ (F := Ideal) .. ).trans ?_
      unfold tripR_k0_t8 trip_k0_t8
      rfl⟩
end

end Cert.Kernel2Ideal.Body

end
-- ==== Proof.Ideal2.Frame.lean ====
/- The launch around the body: every argument array ends unchanged, and each block of the result is a given
   function of the two input blocks, provided the body leaves that function's value whatever the buffers held. -/
module

public import proofs.«01_k».proof.Proof.Ideal2.Body
public import Idealize.ShloMosaic.Lib.Claim

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (OUT : Vec F S1x8x128 .f32 → Vec F S1x4x8x128 .f32 → Vec F S1x8x128 .f32)

variable (m : (ℓ : Loc nD τ sig) → Buf (Elt F) ℓ) (ρ : Dev nD → PrngReg)

/-- The two scratch buffers, whole. -/
abbrev pairs : Memref sig .tc .vmem S1024x1024 .f32 := Memref.whole cc0_scratch0
abbrev cols : Memref sig .tc .vmem S1024x128 .f32 := Memref.whole cc0_scratch1

/-- What the grid carries between points beside the windows: the scratch buffers at any contents and the generator
    register. -/
theorem carried_eq (c : Dev nD) : (Pipeline.ΦA spec0 c : sProp 𝕄) =
    iprop(iprop((∃ d, owns (c : Thread nD τ) pairs fullShare d) ∗ (∃ d, owns (c : Thread nD τ) cols fullShare d))
      ∗ (∃ r, prngReg c r)) := by
  unfold Pipeline.ΦA; rw [scopedRest0_eq]; simp only [pairs, cols, owns_whole]; try rfl

/-- The body leaves `OUT` of its input blocks in the result's buffer, whatever the three written buffers held. -/
def Leaves : Prop :=
  ∀ (c : Dev nD) (i : grid0.Coords)
    (arg1 : Memref sig .tc .vmem S1x8x128 .f32) (harg1 : arg1.IsWhole)
    (arg2 : Memref sig .tc .vmem S1x4x8x128 .f32) (harg2 : arg2.IsWhole)
    (arg3 : Memref sig .tc .vmem S1x8x128 .f32) (harg3 : arg3.IsWhole)
    (arg4 : Memref sig .tc .vmem S1024x1024 .f32) (harg4 : arg4.IsWhole)
    (arg5 : Memref sig .tc .vmem S1024x128 .f32) (harg5 : arg5.IsWhole)
    (x0 : Vec F S1x8x128 .f32) (x1 : Vec F S1x4x8x128 .f32)
    (f3 : BufTy.Contents (Elt F) arg3.view.ty) (f4 : BufTy.Contents (Elt F) arg4.view.ty)
    (f5 : BufTy.Contents (Elt F) arg5.view.ty),
    arg3.view.read (Elt F)
      (run c i arg1 harg1 arg2 harg2 arg3 harg3 arg4 harg4 arg5 harg5 x0 x1 f3 f4 f5).2.2.1 = OUT x0 x1

/-- The pipeline's data: the arrays as launched, each input's buffer at its block after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => OUT (iblk m c 0 t) (iblk m c 1 t)
  Φ _ := Pipeline.ΦA spec0 c
  q _ := fullShare
  owed _ := 0

theorem A_eq (c : Dev nD) (w : Fin cfg0.W) : (dats OUT m 0 c).A w = V m c (Pipeline.arrRef spec0 w) := by
  dsimp only [dats]
theorem after0_0 (c : Dev nD) (t : Fin cfg0.N) : (dats OUT m 0 c).after 0 t = iblk m c 0 t := by dsimp only [dats]
theorem after0_1 (c : Dev nD) (t : Fin cfg0.N) : (dats OUT m 0 c).after 1 t = iblk m c 1 t := by dsimp only [dats]
theorem after0_2 (c : Dev nD) (t : Fin cfg0.N) : (dats OUT m 0 c).after 2 t = OUT (iblk m c 0 t) (iblk m c 1 t) := by
  dsimp only [dats]
theorem before0_0 (c : Dev nD) (t : Fin cfg0.N) (d) : (dats OUT m 0 c).before 0 t d = iblk m c 0 t :=
  before0_0_of m (dats OUT m 0 c) (A_eq OUT m c 0) (after0_0 OUT m c) t d
theorem before0_1 (c : Dev nD) (t : Fin cfg0.N) (d) : (dats OUT m 0 c).before 1 t d = iblk m c 1 t :=
  before0_1_of m (dats OUT m 0 c) (A_eq OUT m c 1) (after0_1 OUT m c) t d

/-- What the body is entered with at point `t`. -/
def bodyPre (c : Dev nD) (t : Fin cfg0.N) : sProp 𝕄 :=
  iprop((dats OUT m 0 c).Φ t.castSucc ∗ (dats OUT m 0 c).owesAt () t.castSucc
    ∗ (∃ d, owns (c : Thread nD τ) (st0_0 t) fullShare ((dats OUT m 0 c).before 0 t d))
    ∗ (∃ d, owns (c : Thread nD τ) (st0_1 t) fullShare ((dats OUT m 0 c).before 1 t d))
    ∗ (∃ d, owns (c : Thread nD τ) (st0_2 t) fullShare ((dats OUT m 0 c).before 2 t d)))

/-- What it is left with. -/
def bodyPost (c : Dev nD) (t : Fin cfg0.N) : sProp 𝕄 :=
  iprop((dats OUT m 0 c).Φ t.succ ∗ (dats OUT m 0 c).owesAt () t.succ
    ∗ owns (c : Thread nD τ) (st0_0 t) fullShare ((dats OUT m 0 c).after 0 t)
    ∗ owns (c : Thread nD τ) (st0_1 t) fullShare ((dats OUT m 0 c).after 1 t)
    ∗ owns (c : Thread nD τ) (st0_2 t) fullShare ((dats OUT m 0 c).after 2 t))

set_option maxHeartbeats 1600000 in
/-- The body's triple at a point. -/
theorem sound_body (hL : Leaves OUT) (c : Dev nD) (t : Fin cfg0.N) :
    bodyPre OUT m c t ⊢ wp frame (wpE (defs₀ (F := F)) Variants.none c none) Set.univ (bodyAt0 t) (fun _ => bodyPost OUT m c t) := by
  unfold bodyPre bodyPost bodyAt0
  simp only [before0_0, before0_1]
  rw [show (dats OUT m 0 c).Φ t.succ = (dats OUT m 0 c).Φ t.castSucc from rfl,
    show (dats OUT m 0 c).owesAt () t.succ = (dats OUT m 0 c).owesAt () t.castSucc from rfl,
    after0_0, after0_1, after0_2]
  rw [show (dats OUT m 0 c).Φ t.castSucc = Pipeline.ΦA spec0 c from rfl, carried_eq]
  iintro ⟨⟨⟨⟨%e4, HS4⟩, ⟨%e5, HS5⟩⟩, Hg⟩, Ho, ⟨%d0, H0⟩, ⟨%d1, H1⟩, ⟨%d2, H2⟩⟩
  unfold owns
  icases HS4 with ⟨%f4, %hf4, HS4⟩
  icases HS5 with ⟨%f5, %hf5, HS5⟩
  icases H2 with ⟨%f3, %hf3, H2⟩
  iapply ((run c _ _ _ _ _ _ _ _ _ _ _ (iblk m c 0 t) (iblk m c 1 t) f3 f4 f5).2.2.2 Set.univ _)
  unfold owns
  isplitl [H0]; · iexact H0
  isplitl [H1]; · iexact H1
  isplitl [H2]; · iexact H2
  isplitl [HS4]; · iexact HS4
  isplitl [HS5]; · iexact HS5
  iintro ⟨H0, H1, H2, HS4, HS5⟩
  isplitl [HS4 HS5 Hg]
  · isplitl [HS4 HS5]
    · isplitl [HS4]
      · iexists _; iexists _; isplitr
        swap; · iexact HS4
        ipureintro; rfl
      iexists _; iexists _; isplitr
      swap; · iexact HS5
      ipureintro; rfl
    iexact Hg
  isplitl [Ho]; · iexact Ho
  isplitl [H0]; · iexact H0
  isplitl [H1]; · iexact H1
  iexists _; isplitr
  swap; · iexact H2
  ipureintro; exact hL c _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (hL : Leaves OUT) (c : Dev nD) :
    BodyObligation (dats (F := F) OUT m 0 c) (defs₀ (F := F)) Variants.none () Set.univ := fun t => by
  rw [bigSep_W0, bigSep_W0, defs₀_row]
  exact triple_restated (sound_body OUT m hL c t) rfl .rfl fun _ => .rfl

set_option backward.isDefEq.respectTransparency.types false in
/-- The launch, and every semaphore at zero at the end. -/
theorem launch (hL : Leaves OUT) : θ_run defs (onTc (τ := τ) (main (F := F))) (s₀ m ρ)
    (fun r => (Pipeline.FramePost cfgs (dats OUT m) 0 (V m)) r ∧ r.2.sem = fun _ => 0) :=
  Pipeline.θ_run_frame (Q' := _) cfgs (dats OUT m) (0 : Fin 1) launch0 defs₀ Variants.none m ρ main
    (hbody := fun c => (body_obligation OUT m hL c).loose) (hshare := fun c => (dats OUT m 0 c).share_full fun _ => rfl)
    (howed := fun _ _ => rfl) (V := V m) (hmain := hmain m Variants.none) (hA := A_eq OUT m) (hΦ := fun _ _ => rfl)

/-- The argument arrays end unchanged. -/
theorem unchanged (hL : Leaves OUT) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats OUT m) (A_eq OUT m) ((θ_run defs _ _).mono (fun _ h => h.1) (launch OUT m ρ hL))

/-- The frame claim: the program ends, the argument arrays unchanged and every semaphore at zero. -/
theorem frame (hL : Leaves OUT) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged OUT m ρ hL) ((θ_run defs _ _).mono (fun _ h => h.2) (launch OUT m ρ hL))

end Cert.Kernel2Ideal.Body

end
-- ==== Proof.Ideal2.Rows.lean ====
/- The tiles in order: each loop starts from what the tiles before it leave in the second scratch buffer, and the rows
   the kernel ends with are the elements greedy suppression keeps. -/
module

public import proofs.«01_k».proof.Proof.Ideal2.Tiles
public import proofs.«01_k».proof.Proof.Ideal2.Frame

@[expose] public section

set_option maxRecDepth 16384

noncomputable section

namespace Cert.Kernel2Ideal.Body

open Cert.Kernel2Ideal Cert.Kernel2Ideal.Gen Cert.Nms
open Idealize.ShloMosaic Idealize.ShloMosaic.TcCoe Idealize.ShloMosaic.Tactic

section
variable (c : Dev nD) (i : grid0.Coords)
  (arg1 : Memref sig .tc .vmem S1x8x128 .f32) (harg1 : arg1.IsWhole)
  (arg2 : Memref sig .tc .vmem S1x4x8x128 .f32) (harg2 : arg2.IsWhole)
  (arg3 : Memref sig .tc .vmem S1x8x128 .f32) (harg3 : arg3.IsWhole)
  (arg4 : Memref sig .tc .vmem S1024x1024 .f32) (harg4 : arg4.IsWhole)
  (arg5 : Memref sig .tc .vmem S1024x128 .f32) (harg5 : arg5.IsWhole)
  (x1 : Vec Ideal S1x4x8x128 .f32) (f4 : BufTy.Contents (Elt Ideal) arg4.view.ty)

/-- Everything the body stores in its first scratch buffer. -/
def pieces : List (View.Piece (Elt Ideal) S1024x1024 .f32) :=
  squares (run.sl.r_1 c arg2 harg2 x1) (run.sl.r_2 c arg2 harg2 x1) (run.sl.r_3 c arg2 harg2 x1)
    (run.sl.r_4 c arg2 harg2 x1)

theorem planes : Hold (coords x1) (run.sl.r_1 c arg2 harg2 x1) (run.sl.r_2 c arg2 harg2 x1)
    (run.sl.r_3 c arg2 harg2 x1) (run.sl.r_4 c arg2 harg2 x1) := fun r l => by
  unfold run.sl.r_1 run.sl.r_2 run.sl.r_3 run.sl.r_4 k0_pay19 k0_pay20 k0_pay21 k0_pay22
  pointwise
  exact ⟨plane_read arg2 harg2 x1 0 _ r l, plane_read arg2 harg2 x1 1 _ r l, plane_read arg2 harg2 x1 2 _ r l,
    plane_read arg2 harg2 x1 3 _ r l⟩

/-- The first scratch buffer holds the overlaps once the squares are stored. -/
theorem upper : Upper (coords x1) arg4 (arg4.view.writes (Elt Ideal) f4 (pieces c arg2 harg2 x1)) :=
  upper_squares (coords x1) _ _ _ _ (planes c arg2 harg2 x1) arg4 f4

/-! ## The tiles in order -/

theorem row0 : run.sl.r_136 (F := Ideal) c i arg1 harg1 arg2 harg2 arg3 harg3 arg4 harg4 arg5 harg5 x1 f4 = rowK (coords x1) 768 0 :=
  tile1 (coords x1) 768 arg4 _ c i arg1 harg1 arg2 harg2 arg3 harg3 harg4 arg5 harg5 _ (upper c arg2 harg2 arg4 x1 f4)
    (first_row (coords x1) 768 (by decide))

theorem stored1 : run.sl.H5_1 (F := Ideal) c i arg1 harg1 arg2 harg2 arg3 harg3 arg4 harg4 arg5 harg5 x1 f4 = keeps (coords x1) 768 [0] :=
  congrArg (fun v => [keepPiece 0 v]) (row0 c i arg1 harg1 arg2 harg2 arg3 harg3 arg4 harg4 arg5 harg5 x1 f4)

theorem row1 : run.sl.r_137 (F := Ideal) c i arg1 harg1 arg2 harg2 arg3 harg3 arg4 harg4 arg5 harg5 x1 f4 = rowK (coords x1) 768 1 := by
  refine tile2 (coords x1) 768 arg4 _ c i arg1 harg1 arg2 harg2 arg3 harg3 harg4 arg5 harg5 _ (upper c arg2 harg2 arg4 x1 f4) ?_
  unfold run.sl.v1584
  rw [stored1]
  exact start (coords x1) 768 (by decide) _ _ _ _ (planes c arg2 harg2 x1) arg4 arg5 1 128 rfl _ [0] (by decide) _ _

theorem stored2 : run.sl.H5_2 (F := Ideal) c i arg1 harg1 arg2 harg2 arg3 harg3 arg4 harg4 arg5 harg5 x1 f4 = keeps (coords x1) 768 [1, 0] :=
  congrArg₂ (fun v l => keepPiece 1 v :: l) (row1 c i arg1 harg1 arg2 harg2 arg3 harg3 arg4 harg4 arg5 harg5 x1 f4) (stored1 c i arg1 harg1 arg2 harg2 arg3 harg3 arg4 harg4 arg5 harg5 x1 f4)

theorem row2 : run.sl.r_139 (F := Ideal) c i arg1 harg1 arg2 harg2 arg3 harg3 arg4 harg4 arg5 harg5 x1 f4 = rowK (coords x1) 768 2 := by
  refine tile3 (coords x1) 768 arg4 _ c i arg1 harg1 arg2 harg2 arg3 harg3 harg4 arg5 harg5 _ (upper c arg2 harg2 arg4 x1 f4) ?_
  unfold run.sl.r_138 run.sl.v1606
  rw [stored2]
  exact start (coords x1) 768 (by decide) _ _ _ _ (planes c arg2 harg2 x1) arg4 arg5 2 256 rfl _ [1, 0] (by decide) _ _

theorem stored3 : run.sl.H5_3 (F := Ideal) c i arg1 harg1 arg2 harg2 arg3 harg3 arg4 harg4 arg5 harg5 x1 f4 = keeps (coords x1) 768 [2, 1, 0] :=
  congrArg₂ (fun v l => keepPiece 2 v :: l) (row2 c i arg1 harg1 arg2 harg2 arg3 harg3 arg4 harg4 arg5 harg5 x1 f4) (stored2 c i arg1 harg1 arg2 harg2 arg3 harg3 arg4 harg4 arg5 harg5 x1 f4)

theorem row3 : run.sl.r_140 (F := Ideal) c i arg1 harg1 arg2 harg2 arg3 harg3 arg4 harg4 arg5 harg5 x1 f4 = rowK (coords x1) 768 3 := by
  refine tile4 (coords x1) 768 arg4 _ c i arg1 harg1 arg2 harg2 arg3 harg3 harg4 arg5 harg5 _ (upper c arg2 harg2 arg4 x1 f4) ?_
  unfold run.sl.v1628
  rw [stored3]
  exact start (coords x1) 768 (by decide) _ _ _ _ (planes c arg2 harg2 x1) arg4 arg5 3 384 rfl _ [2, 1, 0] (by decide) _ _

theorem stored4 : run.sl.H5_4 (F := Ideal) c i arg1 harg1 arg2 harg2 arg3 harg3 arg4 harg4 arg5 harg5 x1 f4 = keeps (coords x1) 768 [3, 2, 1, 0] :=
  congrArg₂ (fun v l => keepPiece 3 v :: l) (row3 c i arg1 harg1 arg2 harg2 arg3 harg3 arg4 harg4 arg5 harg5 x1 f4) (stored3 c i arg1 harg1 arg2 harg2 arg3 harg3 arg4 harg4 arg5 harg5 x1 f4)

theorem row4 : run.sl.r_143 (F := Ideal) c i arg1 harg1 arg2 harg2 arg3 harg3 arg4 harg4 arg5 harg5 x1 f4 = rowK (coords x1) 768 4 := by
  refine tile5 (coords x1) 768 arg4 _ c i arg1 harg1 arg2 harg2 arg3 harg3 harg4 arg5 harg5 _ (upper c arg2 harg2 arg4 x1 f4) ?_
  unfold run.sl.v1650
  rw [stored4]
  exact start (coords x1) 768 (by decide) _ _ _ _ (planes c arg2 harg2 x1) arg4 arg5 4 512 rfl _ [3, 2, 1, 0] (by decide) _ _

theorem stored5 : run.sl.H5_5 (F := Ideal) c i arg1 harg1 arg2 harg2 arg3 harg3 arg4 harg4 arg5 harg5 x1 f4 = keeps (coords x1) 768 [4, 3, 2, 1, 0] :=
  congrArg₂ (fun v l => keepPiece 4 v :: l) (row4 c i arg1 harg1 arg2 harg2 arg3 harg3 arg4 harg4 arg5 harg5 x1 f4) (stored4 c i arg1 harg1 arg2 harg2 arg3 harg3 arg4 harg4 arg5 harg5 x1 f4)

theorem row5 : run.sl.r_144 (F := Ideal) c i arg1 harg1 arg2 harg2 arg3 harg3 arg4 harg4 arg5 harg5 x1 f4 = rowK (coords x1) 768 5 := by
  refine tile6 (coords x1) 768 arg4 _ c i arg1 harg1 arg2 harg2 arg3 harg3 harg4 arg5 harg5 _ (upper c arg2 harg2 arg4 x1 f4) ?_
  unfold run.sl.v1672
  rw [stored5]
  exact start (coords x1) 768 (by decide) _ _ _ _ (planes c arg2 harg2 x1) arg4 arg5 5 640 rfl _ [4, 3, 2, 1, 0] (by decide) _ _

theorem stored6 : run.sl.H5_6 (F := Ideal) c i arg1 harg1 arg2 harg2 arg3 harg3 arg4 harg4 arg5 harg5 x1 f4 = keeps (coords x1) 768 [5, 4, 3, 2, 1, 0] :=
  congrArg₂ (fun v l => keepPiece 5 v :: l) (row5 c i arg1 harg1 arg2 harg2 arg3 harg3 arg4 harg4 arg5 harg5 x1 f4) (stored5 c i arg1 harg1 arg2 harg2 arg3 harg3 arg4 harg4 arg5 harg5 x1 f4)

theorem row6 : run.sl.r_146 (F := Ideal) c i arg1 harg1 arg2 harg2 arg3 harg3 arg4 harg4 arg5 harg5 x1 f4 = rowK (coords x1) 768 6 := by
  refine tile7 (coords x1) 768 arg4 _ c i arg1 harg1 arg2 harg2 arg3 harg3 harg4 arg5 harg5 _ (upper c arg2 harg2 arg4 x1 f4) ?_
  unfold run.sl.v1694
  rw [stored6]
  exact start (coords x1) 768 (by decide) _ _ _ _ (planes c arg2 harg2 x1) arg4 arg5 6 768 rfl _ [5, 4, 3, 2, 1, 0] (by decide) _ _

theorem stored7 : run.sl.H5_7 (F := Ideal) c i arg1 harg1 arg2 harg2 arg3 harg3 arg4 harg4 arg5 harg5 x1 f4 = keeps (coords x1) 768 [6, 5, 4, 3, 2, 1, 0] :=
  congrArg₂ (fun v l => keepPiece 6 v :: l) (row6 c i arg1 harg1 arg2 harg2 arg3 harg3 arg4 harg4 arg5 harg5 x1 f4) (stored6 c i arg1 harg1 arg2 harg2 arg3 harg3 arg4 harg4 arg5 harg5 x1 f4)

theorem row7 : st_k0_t8 (F := Ideal) Variants.none c none i arg1 harg1 arg2 harg2 arg3 harg3 arg4 harg4 arg5 harg5 run.sl.v10
      run.sl.v1727 (arg4.view.writes (Elt Ideal) f4 (pieces c arg2 harg2 x1))
      (k0_pay250 run.sl.r_147 (run.sl.r_148 c i arg1 harg1 arg2 harg2 arg3 harg3 arg4 harg4 arg5 harg5 x1 f4) run.sl.cst_376)
      (Scf.trips k0_t8_loop.lb k0_t8_loop.ub k0_t8_loop.st) = rowK (coords x1) 768 7 := by
  refine tile8 (coords x1) 768 arg4 _ c i arg1 harg1 arg2 harg2 arg3 harg3 harg4 arg5 harg5 _ (upper c arg2 harg2 arg4 x1 f4) ?_
  unfold run.sl.r_148 run.sl.v1716
  rw [stored7]
  exact start (coords x1) 768 (by decide) _ _ _ _ (planes c arg2 harg2 x1) arg4 arg5 7 896 rfl _ [6, 5, 4, 3, 2, 1, 0] (by decide) _ _

/-! ## The result -/

/-- What the body reads of the scores. -/
theorem scores_apply (x0 : Vec Ideal S1x8x128 .f32) (r : Fin 8) (l : Fin 128) :
    run.sl.r c arg1 harg1 x0 (ix2 r l) = x0 (ix3 0 r l) := by
  unfold run.sl.r k0_pay18
  pointwise
  exact score_read arg1 harg1 x0 _ r l

theorem value_apply (x0 : Vec Ideal S1x8x128 .f32) (r : Fin 8) (l : Fin 128) :
    run.sl.r_149 (F := Ideal) c i arg1 harg1 arg2 harg2 arg3 harg3 arg4 harg4 arg5 harg5 x0 x1 f4 (ix2 r l)
      = out 768 x0 x1 (ix3 0 r l) := by
  unfold run.sl.r_149
  rw [row0, row1, row2, row3, row4, row5, row6]
  refine (congrArg (fun v => k0_pay252 (run.sl.r c arg1 harg1 x0) (rowK (coords x1) 768 0) (rowK (coords x1) 768 1)
    (rowK (coords x1) 768 2) (rowK (coords x1) 768 3) (rowK (coords x1) 768 4) (rowK (coords x1) 768 5)
    (rowK (coords x1) 768 6) v (ix2 r l)) (row7 c i arg1 harg1 arg2 harg2 arg3 harg3 arg4 harg4 arg5 harg5 x1 f4)).trans ?_
  exact masked_apply 768 x0 x1 _ (scores_apply c arg1 harg1 x0) r l

/-- Everything the body stores in the result's buffer. -/
def stores (x0 : Vec Ideal S1x8x128 .f32) : List (View.Piece (Elt Ideal) S1x8x128 .f32) :=
  [⟨Rect.unit (s := S1x8x128) ![0, 0, 0] S1x8x128.size inb_S1x8x128_S1x8x128_0_0_0,
    k0_pay1 (run.sl.r_149 (F := Ideal) c i arg1 harg1 arg2 harg2 arg3 harg3 arg4 harg4 arg5 harg5 x0 x1 f4)⟩]

theorem witness (x0 : Vec Ideal S1x8x128 .f32) (f3 : BufTy.Contents (Elt Ideal) arg3.view.ty)
    (f5 : BufTy.Contents (Elt Ideal) arg5.view.ty) :
    (run (F := Ideal) c i arg1 harg1 arg2 harg2 arg3 harg3 arg4 harg4 arg5 harg5 x0 x1 f3 f4 f5).2.2.1
      = arg3.view.writes (Elt Ideal) f3
          (stores c i arg1 harg1 arg2 harg2 arg3 harg3 arg4 harg4 arg5 harg5 x1 f4 x0) := rfl

/-- The whole result block. -/
theorem stored_out (x0 : Vec Ideal S1x8x128 .f32) (y : S1x8x128.Idx) :
    k0_pay1 (run.sl.r_149 (F := Ideal) c i arg1 harg1 arg2 harg2 arg3 harg3 arg4 harg4 arg5 harg5 x0 x1 f4) y
      = out 768 x0 x1 y := by
  idx_vars y
  obtain rfl : y0 = 0 := Subsingleton.elim _ _
  refine Eq.trans ?_ (value_apply c i arg1 harg1 arg2 harg2 arg3 harg3 arg4 harg4 arg5 harg5 x1 f4 x0 y1 y2)
  generalize run.sl.r_149 (F := Ideal) c i arg1 harg1 arg2 harg2 arg3 harg3 arg4 harg4 arg5 harg5 x0 x1 f4 = v
  unfold k0_pay1
  pointwise

end

/-- The body leaves the result of greedy suppression in the result's buffer. -/
theorem leaves : Leaves (F := Ideal) (out 768) := by
  intro c i arg1 harg1 arg2 harg2 arg3 harg3 arg4 harg4 arg5 harg5 x0 x1 f3 f4 f5
  funext y
  have h0 : ((y 0 : Fin 1) : ℕ) < 1 := (y 0 : Fin 1).isLt
  have h1 : ((y 1 : Fin 8) : ℕ) < 8 := (y 1 : Fin 8).isLt
  have h2 : ((y 2 : Fin 128) : ℕ) < 128 := (y 2 : Fin 128).isLt
  have cover : ∃ p ∈ stores c i arg1 harg1 arg2 harg2 arg3 harg3 arg4 harg4 arg5 harg5 x1 f4 x0, y ∈ p.1.set := by
    refine ⟨_, List.mem_singleton_self _, ?_⟩
    refine (Rect.mem_set_unit (inb := inb_S1x8x128_S1x8x128_0_0_0)).mpr fun a => ?_
    match a with
    | 0 => exact ⟨Nat.zero_le _, by show ((y 0 : Fin 1) : ℕ) < 0 + 1; omega⟩
    | 1 => exact ⟨Nat.zero_le _, by show ((y 1 : Fin 8) : ℕ) < 0 + 8; omega⟩
    | 2 => exact ⟨Nat.zero_le _, by show ((y 2 : Fin 128) : ℕ) < 0 + 128; omega⟩
  rw [witness]
  refine (View.read_writes_apply_eq_canon arg3.view f3 y _ cover).trans ?_
  refine View.canon_apply_of_pieces (out 768 x0 x1) _ (fun p hp x => ?_) y cover
  obtain rfl := List.mem_singleton.mp hp
  refine (stored_out c i arg1 harg1 arg2 harg2 arg3 harg3 arg4 harg4 arg5 harg5 x1 f4 x0 x).trans ?_
  refine congrArg (out 768 x0 x1) (funext fun a => Fin.ext ?_)
  match a with
  | 0 => show ((x 0 : Fin 1) : ℕ) = 0 + 1 * ((x 0 : Fin 1) : ℕ); omega
  | 1 => show ((x 1 : Fin 8) : ℕ) = 0 + 1 * ((x 1 : Fin 8) : ℕ); omega
  | 2 => show ((x 2 : Fin 128) : ℕ) = 0 + 1 * ((x 2 : Fin 128) : ℕ); omega

end Cert.Kernel2Ideal.Body

end
-- ==== Proof.Ideal2.Value.lean ====
/- The kernel's result array as one function of the argument arrays: each grid point writes back one image's block. -/
module

public import proofs.«01_k».proof.Proof.Ideal2.Rows
public import Idealize.ShloMosaic.Lib.Pipeline.Value

@[expose] public section

set_option maxRecDepth 16384

noncomputable section

namespace Cert.Kernel2Ideal.Body

open Cert.Kernel2Ideal Cert.Kernel2Ideal.Gen Cert.Nms
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

theorem flushed2 (c : Dev nD) (t : Fin cfg0.N) : (dats (out 768) m 0 c).flushed 2 t = out 768 (iblk m c 0 t) (iblk m c 1 t) := by
  show (cfg0.win 2).cut (grid0.coords t) ((dats (out 768) m 0 c).after 2 t) = _
  rw [after0_2]
  rfl

theorem idx_inj2 : ∀ t t' : Fin cfg0.N, win0_2.index t = win0_2.index t' → t = t' :=
  (by decide +kernel : ∀ t t' : Fin grid0.N, win0_2.index t = win0_2.index t' → t = t')

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

theorem blocks2 (c : Dev nD) (t : Fin cfg0.N) (hf : (cfg0.win 2).flush t = true) :
    ((cfg0.win 2).blk t).view.read (Elt Ideal) ((dats (out 768) m 0 c).arrAt 2 cfg0.N) = (dats (out 768) m 0 c).flushed 2 t :=
  (dats (out 768) m 0 c).read_blk_arrAt_eq_flushed 2 disjoint2 cfg0.N t t.isLt hf

/-- Where a block's place lies in its array, for the result, the scores and the coordinates. -/
theorem place2 (t : Fin cfg0.N) (f : Vec Ideal S4x8x128 .f32) (r : Fin 8) (l : Fin 128) :
    ((cfg0.win 2).blk t).view.read (Elt Ideal) f (ix3 0 r l) = f (ix3 (⟨t, t.isLt⟩ : Fin 4) r l) := by
  refine congrArg f (funext fun a => Fin.ext ?_)
  rcases fin_N0 t with rfl | rfl | rfl | rfl
  all_goals
    match a with
    | 0 => rfl
    | 1 => show 0 + 1 * (r : ℕ) = r; omega
    | 2 => show 0 + 1 * (l : ℕ) = l; omega

theorem place0 (t : Fin cfg0.N) (f : Vec Ideal S4x8x128 .f32) (r : Fin 8) (l : Fin 128) :
    ((cfg0.win 0).blk t).view.read (Elt Ideal) f (ix3 0 r l) = f (ix3 (⟨t, t.isLt⟩ : Fin 4) r l) := by
  refine congrArg f (funext fun a => Fin.ext ?_)
  rcases fin_N0 t with rfl | rfl | rfl | rfl
  all_goals
    match a with
    | 0 => rfl
    | 1 => show 0 + 1 * (r : ℕ) = r; omega
    | 2 => show 0 + 1 * (l : ℕ) = l; omega

theorem place1 (t : Fin cfg0.N) (f : Vec Ideal S4x4x8x128 .f32) (k : Fin 4) (r : Fin 8) (l : Fin 128) :
    ((cfg0.win 1).blk t).view.read (Elt Ideal) f (ix4 0 k r l) = f (ix4 (⟨t, t.isLt⟩ : Fin 4) k r l) := by
  refine congrArg f (funext fun a => Fin.ext ?_)
  rcases fin_N0 t with rfl | rfl | rfl | rfl
  all_goals
    match a with
    | 0 => rfl
    | 1 => show 0 + 1 * (k : ℕ) = k; omega
    | 2 => show 0 + 1 * (r : ℕ) = r; omega
    | 3 => show 0 + 1 * (l : ℕ) = l; omega

/-- The result array after the launch. -/
theorem arr_eq (c : Dev nD) : (dats (out 768) m 0 c).arrAt 2 cfg0.N
    = result 768 (m ((c.tc : Thread nD τ).loc main_arg0)) (m ((c.tc : Thread nD τ).loc main_arg1)) := by
  funext y
  idx_vars y
  obtain ⟨t, rfl⟩ : ∃ t : Fin cfg0.N, y0 = ⟨t, t.isLt⟩ := ⟨⟨y0, y0.isLt⟩, rfl⟩
  refine (place2 t _ y1 y2).symm.trans ?_
  refine (congrFun ((blocks2 m c t (flush0_2 t)).trans (flushed2 m c t)) (ix3 0 y1 y2)).trans ?_
  have e0 : iblk m c 0 t (ix3 0 y1 y2) = m ((c.tc : Thread nD τ).loc main_arg0) (ix3 (⟨t, t.isLt⟩ : Fin 4) y1 y2) :=
    (place0 t _ y1 y2).trans (congrFun (V_main_arg0 m c) _)
  have e1 : coords (iblk m c 1 t) = fun k r l => m ((c.tc : Thread nD τ).loc main_arg1) (ix4 (⟨t, t.isLt⟩ : Fin 4) k r l) := by
    funext k r l
    exact (place1 t _ k r l).trans (congrFun (V_main_arg1 m c) _)
  unfold out
  rw [e1, e0]
  rfl

/-- The launch ends with the result array at `result` of the arguments, and the arguments unchanged. -/
theorem value : θ_run defs (onTc (τ := τ) (main (F := Ideal))) ⟨m, fun _ => 0, ρ⟩ (fun r => ∀ c : Dev nD,
      r.2.mem ((c.tc : Thread nD τ).loc main_v0)
          = result 768 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1.1 c).1 2).trans (arr_eq m c), h.2 c⟩)
    (θ_run_and (launch (out 768) m ρ leaves) (unchanged (out 768) m ρ leaves))

end Cert.Kernel2Ideal.Body

end
-- ==== Proof.Ref2.Trip.lean ====
/- The reference: its overlaps, one trip of its suppression, and its result, each at an index. -/
module

public import proofs.«01_k».proof.Proof.Gen.Reference2Ideal.StepRun
public import proofs.«01_k».proof.Proof.Nms.Steps
public import Idealize.ShloMosaic.Lib.Quiescent

@[expose] public section

set_option maxRecDepth 16384

noncomputable section

namespace Cert.Reference2Ideal.Meaning

open Cert.Reference2Ideal Cert.Reference2Ideal.Gen Cert.Reference2Ideal.Step Cert.Nms
open Idealize.ShloMosaic Idealize.ShloMosaic.TcCoe Idealize.ShloMosaic.Tactic Idealize.ShloMosaic.WordArith Idealize.SL.Sem

/-- The box coordinates of image `b`. -/
def boxes (x : Vec Ideal S4x4x8x128 .f32) (b : Fin 4) : Fin 4 → Fin 8 → Fin 128 → EReal := fun k r l => x (ix4 b k r l)

section
variable (x : Vec Ideal S4x4x8x128 .f32) (b : Fin 4) (i j : Fin 768)

theorem corner0 : A_main_v4 x (ix2 b i) = co (boxes x b) 0 i := by
  unfold A_main_v4 A_main_v3 A_main_v2 A_main_v1 A_main_v0
  pointwise
  exact (co_eq (boxes x b) _ i _ _ (by show (i : ℕ) = 128 * ((i : ℕ) / 128) + (i : ℕ) % 128; omega)).symm
theorem corner1 : A_main_v6 x (ix2 b i) = co (boxes x b) 1 i := by
  unfold A_main_v6 A_main_v5 A_main_v2 A_main_v1 A_main_v0
  pointwise
  exact (co_eq (boxes x b) _ i _ _ (by show (i : ℕ) = 128 * ((i : ℕ) / 128) + (i : ℕ) % 128; omega)).symm
theorem corner2 : A_main_v8 x (ix2 b i) = co (boxes x b) 2 i := by
  unfold A_main_v8 A_main_v7 A_main_v2 A_main_v1 A_main_v0
  pointwise
  exact (co_eq (boxes x b) _ i _ _ (by show (i : ℕ) = 128 * ((i : ℕ) / 128) + (i : ℕ) % 128; omega)).symm
theorem corner3 : A_main_v10 x (ix2 b i) = co (boxes x b) 3 i := by
  unfold A_main_v10 A_main_v9 A_main_v2 A_main_v1 A_main_v0
  pointwise
  exact (co_eq (boxes x b) _ i _ _ (by show (i : ℕ) = 128 * ((i : ℕ) / 128) + (i : ℕ) % 128; omega)).symm

theorem area_apply : A_main_v17 x (ix2 b i)
    = max (co (boxes x b) 2 i - co (boxes x b) 0 i) 0 * max (co (boxes x b) 3 i - co (boxes x b) 1 i) 0 := by
  unfold A_main_v17 A_main_v16 A_main_v14 A_main_v13 A_main_v11 K_main_v12 K_main_v15 K_main_cst K_main_cst_0
  pointwise
  rw [corner0, corner1, corner2, corner3]

theorem overlap_apply : A_main_v53 x (ix3 b i j) = iou (co (boxes x b)) i j := by
  unfold A_main_v53 A_main_v52 A_main_v50 A_main_v49 A_main_v48 A_main_v47 A_main_v46 A_main_v45 A_main_v44 A_main_v43
    A_main_v41 A_main_v40 A_main_v38 A_main_v37 A_main_v36 A_main_v35 A_main_v34 A_main_v33 A_main_v32 A_main_v31
    A_main_v30 A_main_v29 A_main_v28 A_main_v27 A_main_v26 A_main_v25 A_main_v24 A_main_v23 A_main_v22 A_main_v21
    A_main_v20 A_main_v19 A_main_v18 K_main_v39 K_main_v42 K_main_v51 K_main_cst_1 K_main_cst_2 K_main_cst_3
  pointwise
  simp only [corner0, corner1, corner2, corner3, area_apply]
  rfl
end

/-- The flags of the elements still alive after `j` trips. -/
def aliveAt (x : Vec Ideal S4x4x8x128 .f32) (j : ℕ) : Vec Ideal S4x768 .i1 := fun y =>
  open Classical in BitVec.ofBool (decide (alive (over (boxes x (y 0))) 768 j ((y 1 : Fin 768) : ℕ)))

theorem aliveAt_apply (x : Vec Ideal S4x4x8x128 .f32) (j : ℕ) (b : Fin 4) (i : Fin 768) :
    open Classical in
    aliveAt x j (ix2 b i) = BitVec.ofBool (decide (alive (over (boxes x b)) 768 j (i : ℕ))) := rfl

/-! ## One trip -/

section
variable (j : ℕ) (hj : j < 768) (s : State Ideal)
include hj

theorem toInt_ofNat : (BitVec.ofNat 32 j).toInt = (j : ℤ) := toInt_ofNat_small j (by omega)

theorem trip_number : b1 j s = constantI S_ 32 (BitVec.ofNat 32 j) := by
  funext y
  unfold b1 b0 K_main_v54
  pointwise
  rw [Host.clampedStart_of_le _ _ _ j (toInt_ofNat j hj) (by show j + 1 ≤ 768; omega)]

theorem wrapped : b14 j s = constantI S_ 32 (BitVec.ofNat 32 j) := by
  funext y
  unfold b14 b11 b13 b10 b12
  rw [trip_number j hj]
  pointwise
  have e : IntOp.cmpi .slt (BitVec.ofNat 32 j) 0#32 = 0#1 := by
    simp only [IntOp.cmpi, BitVec.slt_eq_decide, toInt_ofNat j hj]
    rw [decide_eq_false (by show ¬ (j : ℤ) < 0; omega)]
    rfl
  rw [e]
  rfl

theorem wrapped' : b29 j s = constantI S_ 32 (BitVec.ofNat 32 j) := wrapped j hj s

theorem kept_trip (b : Fin 4) : b16 j s (ix1 b) = s.main_v56_4 (ix2 b ⟨j, hj⟩) := by
  unfold b16 b15
  rw [wrapped j hj]
  pointwise
  have e0 := Host.clampedStart_of_le (s := S4x768) (t := S4x1) rfl
    (fun k => BitVec.toInt (![b9 j s, constantI S_ 32 (BitVec.ofNat 32 j)] k (Shape.Idx.first h_S_))) 0 0 rfl
    (by show 0 + 4 ≤ 4; omega)
  have e1 := Host.clampedStart_of_le (s := S4x768) (t := S4x1) rfl
    (fun k => BitVec.toInt (![b9 j s, constantI S_ 32 (BitVec.ofNat 32 j)] k (Shape.Idx.first h_S_))) 1 j
    (toInt_ofNat j hj) (by show j + 1 ≤ 768; omega)
  have e (a a' : Fin 4) (b b' : Fin 768) (h : a = a') (h' : b = b') :
      s.main_v56_4 (ix2 a b) = s.main_v56_4 (ix2 a' b') := by rw [h, h']
  exact e _ _ _ _ (Fin.ext ((congrArg (· + (b : ℕ)) e0).trans (Nat.zero_add _))) (Fin.ext e1)

theorem overlap_trip (b : Fin 4) (l : Fin 768) : b39 j s (ix2 b l) = s.main_v56_1 (ix3 b ⟨j, hj⟩ l) := by
  unfold b39 b38
  rw [wrapped' j hj]
  pointwise
  have e0 := Host.clampedStart_of_le (s := S4x768x768) (t := S4x1x768) rfl
    (fun k => BitVec.toInt (![b24 j s, constantI S_ 32 (BitVec.ofNat 32 j), b37 j s] k (Shape.Idx.first h_S_))) 0 0 rfl
    (by show 0 + 4 ≤ 4; omega)
  have e1 := Host.clampedStart_of_le (s := S4x768x768) (t := S4x1x768) rfl
    (fun k => BitVec.toInt (![b24 j s, constantI S_ 32 (BitVec.ofNat 32 j), b37 j s] k (Shape.Idx.first h_S_))) 1 j
    (toInt_ofNat j hj) (by show j + 1 ≤ 768; omega)
  have e2 := Host.clampedStart_of_le (s := S4x768x768) (t := S4x1x768) rfl
    (fun k => BitVec.toInt (![b24 j s, constantI S_ 32 (BitVec.ofNat 32 j), b37 j s] k (Shape.Idx.first h_S_))) 2 0 rfl
    (by show 0 + 768 ≤ 768; omega)
  have e (a a' : Fin 4) (b b' c c' : Fin 768) (h : a = a') (h' : b = b') (h'' : c = c') :
      s.main_v56_1 (ix3 a b c) = s.main_v56_1 (ix3 a' b' c') := by rw [h, h', h'']
  exact e _ _ _ _ _ _ (Fin.ext ((congrArg (· + (b : ℕ)) e0).trans (Nat.zero_add _))) (Fin.ext e1)
    (Fin.ext ((congrArg (· + (l : ℕ)) e2).trans (Nat.zero_add _)))

/-- A trip takes out what the element at hand suppresses. -/
theorem step_apply (x : Vec Ideal S4x4x8x128 .f32) (hk : s.main_v56_4 = aliveAt x j) (ho : s.main_v56_1 = A_main_v53 x) :
    b52 j s = aliveAt x (j + 1) := by
  classical
  funext y
  idx_vars y
  unfold b52 b51 b50 b49 b48 b47 b46 b45 b44 b43 b42 b41 b40 K_main_v54
  rw [trip_number j hj]
  pointwise
  rw [overlap_trip j hj, kept_trip j hj, hk, ho, overlap_apply, sgt_eq _ _ (by omega) (by omega)]
  have eo : decide (Ideal.ofBits .f32 0x3F333333#32 < iou (co (boxes x y0)) j y1) = decide (over (boxes x y0) j y1) :=
    decide_eq_decide.mpr Iff.rfl
  have es : decide (alive (over (boxes x y0)) 768 (j + 1) (y1 : ℕ))
      = decide (alive (over (boxes x y0)) 768 j (y1 : ℕ)
        ∧ ¬ (over (boxes x y0) j (y1 : ℕ) ∧ j < (y1 : ℕ) ∧ alive (over (boxes x y0)) 768 j j)) :=
    decide_eq_decide.mpr (alive_succ (over (boxes x y0)) 768 j (y1 : ℕ))
  rw [eo, aliveAt_apply, aliveAt_apply, aliveAt_apply, es]
  by_cases h1 : alive (over (boxes x y0)) 768 j (y1 : ℕ) <;> by_cases h2 : over (boxes x y0) j y1 <;>
    by_cases h3 : alive (over (boxes x y0)) 768 j j <;> by_cases h4 : j < (y1 : ℕ) <;>
    simp [h1, h2, h3, h4, IntOp.andi]
end

/-! ## The whole run -/

/-- The state after `j` trips. -/
def after (x : Vec Ideal S4x4x8x128 .f32) (j : ℕ) : State Ideal :=
  { main_v56_4 := aliveAt x j, main_v56_1 := A_main_v53 x }

theorem after_zero (x : Vec Ideal S4x4x8x128 .f32) : after x 0 = init x := by
  have e : aliveAt x 0 = K_main_v55 (F := Ideal) := by
    classical
    funext y
    idx_vars y
    unfold K_main_v55 K_main_c
    pointwise
    rw [aliveAt_apply, decide_eq_true ((alive_zero _ _ _).mpr y1.isLt)]
    rfl
  unfold after init
  rw [e]

/-- The trips from the first state, whatever is done past the last element. -/
def trips (x : Vec Ideal S4x4x8x128 .f32) : ℕ → State Ideal
  | 0 => init x
  | j + 1 => step j (trips x j)

theorem trips_eq (x : Vec Ideal S4x4x8x128 .f32) (j : ℕ) (hj : j ≤ 768) : trips x j = after x j := by
  induction j with
  | zero => exact (after_zero x).symm
  | succ j ih =>
    show step j (trips x j) = _
    rw [ih (by omega)]
    unfold step
    rw [step_apply j (by omega) (after x j) x rfl rfl]
    rfl

theorem result_apply (x : Vec Ideal S4x4x8x128 .f32) (k : Vec Ideal S4x8x128 .f32) (b : Fin 4) (r : Fin 8) (l : Fin 128) :
    open Classical in
    R_main_v61 (after x 768) k (ix3 b r l)
      = if kept (over (boxes x b)) 768 (128 * (r : ℕ) + (l : ℕ)) then k (ix3 b r l)
        else Ideal.ofBits .f32 0xBF800000#32 := by
  classical
  unfold R_main_v61 after
  pointwise
  have hm : (r : ℕ) * 128 + (l : ℕ) = 128 * (r : ℕ) + (l : ℕ) := by omega
  by_cases h : (r : ℕ) * 128 + (l : ℕ) < 768
  · rw [dif_pos h, aliveAt_apply]
    have e : alive (over (boxes x b)) 768 768 ((r : ℕ) * 128 + (l : ℕ))
        ↔ kept (over (boxes x b)) 768 (128 * (r : ℕ) + (l : ℕ)) := by
      rw [← hm]; exact alive_of_le _ _ (by omega)
    rw [show decide (alive (over (boxes x b)) 768 768 ((r : ℕ) * 128 + (l : ℕ))) = _ from decide_eq_decide.mpr e]
    by_cases hk : kept (over (boxes x b)) 768 (128 * (r : ℕ) + (l : ℕ))
    · rw [if_pos hk, decide_eq_true hk]; rfl
    · rw [if_neg hk, decide_eq_false hk]; rfl
  · have hk : ¬ kept (over (boxes x b)) 768 (128 * (r : ℕ) + (l : ℕ)) := fun hk =>
      h (by rw [hm]; exact ((alive_of_le (over (boxes x b)) 768 le_rfl).mpr hk).1)
    rw [dif_neg h, if_neg hk]
    rfl

variable (m : (ℓ : Loc nD τ sig) → Buf (Elt Ideal) ℓ) (ρ : Dev nD → PrngReg)

/-- The reference ends with its result as `R_main_v61` of the state after all trips, and its arguments unchanged. -/
theorem value : θ_run defs (onTc (τ := τ) (main (F := Ideal))) ⟨m, fun _ => 0, ρ⟩ (fun r => ∀ c : Dev nD,
      r.2.mem ((c.tc : Thread nD τ).loc main_v61)
          = R_main_v61 (after (m ((c.tc : Thread nD τ).loc main_arg1)) 768) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h := Cert.Reference2Ideal.StepRun.run_iter (F := Ideal) m ρ
    (fun c => trips (m ((c.tc : Thread nD τ).loc main_arg1))) (fun _ => rfl) (fun _ _ => rfl)
  simp only [trips_eq _ 768 le_rfl] at h
  exact h

end Cert.Reference2Ideal.Meaning

end
-- ==== Proof.Boxes.Spec.lean ====
/- Decoding of one box from its offsets and its anchor, clipping to the image, and the score of a logit. -/
module

public import Idealize.ShloMosaic.Lib.Pointwise
public import Idealize.ShloMosaic.Lib.Writes
public import Idealize.ShloMosaic.PureOps.Ideal.Laws

@[expose] public section

noncomputable section

namespace Cert.Boxes

open Idealize.ShloMosaic Idealize.ShloMosaic.TcCoe Idealize.ShloMosaic.Tactic

/-- One half, as the programs round it. -/
def half : EReal := Ideal.ofBits .f32 0x3F000000#32

/-- The largest logarithm of a scale that is let through. -/
def cap : EReal := Ideal.ofBits .f32 0x40845349#32

/-- The centre on one axis: the anchor's centre moved by `d` anchor lengths. -/
def centre (d lo hi : EReal) : EReal := d * (hi - lo) + (lo + half * (hi - lo))

/-- The length on one axis: the anchor's length scaled by the exponential of `e`. -/
def extent (e lo hi : EReal) : EReal := Ideal.exp (min e cap) * (hi - lo)

/-- A coordinate moved into the image. -/
def clip (v m : EReal) : EReal := min m (max 0 v)

/-- Coordinate `k` of the box with offsets `b` and anchor `a` in an image of height `h` and width `w`. -/
def box (b a : Fin 4 → EReal) (h w : EReal) (k : Fin 4) : EReal :=
  match k with
  | 0 => clip (centre (b 0) (a 0) (a 2) - half * extent (b 2) (a 0) (a 2)) h
  | 1 => clip (centre (b 1) (a 1) (a 3) - half * extent (b 3) (a 1) (a 3)) w
  | 2 => clip (centre (b 0) (a 0) (a 2) + half * extent (b 2) (a 0) (a 2)) h
  | 3 => clip (centre (b 1) (a 1) (a 3) + half * extent (b 3) (a 1) (a 3)) w

/-- What holds of the four coordinates one by one holds of every coordinate. -/
theorem coordinates {P : Fin 4 → Prop} (h0 : P 0) (h1 : P 1) (h2 : P 2) (h3 : P 3) : ∀ k, P k
  | 0 => h0
  | 1 => h1
  | 2 => h2
  | 3 => h3

/-- The scores of a level of `4 * n * 128` logits. -/
def scores {n : ℕ} (s : Vec Ideal ⟨3, ![4, n, 128]⟩ .f32) : Vec Ideal ⟨3, ![4, n, 128]⟩ .f32 :=
  fun y => Ideal.logistic (s y)

/-- The boxes of a level. -/
def boxes {n : ℕ} (b a : Vec Ideal ⟨4, ![4, 4, n, 128]⟩ .f32) (img : Vec Ideal ⟨2, ![4, 2]⟩ .f32) :
    Vec Ideal ⟨4, ![4, 4, n, 128]⟩ .f32 := fun y =>
  box (fun k => b (ix4 (y 0) k (y 2) (y 3))) (fun k => a (ix4 (y 0) k (y 2) (y 3)))
    (img (ix2 (y 0) 0)) (img (ix2 (y 0) 1)) (y 1)

end Cert.Boxes

end
-- ==== Proof.Ideal3.Body.lean ====
/- What one grid point of the decoding leaves in each of its output blocks, as a function of its input blocks. -/
module

public import proofs.«01_k».proof.Proof.Boxes.Spec
public import proofs.«01_k».proof.Proof.Gen.Kernel3Ideal.Value
public import Idealize.ShloMosaic.Lib.Pipeline.ValueKit

@[expose] public section

set_option maxRecDepth 16384

noncomputable section

namespace Cert.Kernel3Ideal.Body

open Cert.Kernel3Ideal Cert.Kernel3Ideal.Gen Cert.Boxes
open Idealize.ShloMosaic Idealize.ShloMosaic.TcCoe Idealize.ShloMosaic.Tactic Idealize.SL.Sem

variable (m : (ℓ : Loc nD τ sig) → Buf (Elt Ideal) ℓ)

/-- The places of the height and the width that a grid point reads. -/
theorem corners : ∀ t : Fin cfg0.N, k0_off1 (grid0.coords t) 0 = t ∧ k0_off1 (grid0.coords t) 1 = 0
    ∧ k0_off2 (grid0.coords t) 0 = t ∧ k0_off2 (grid0.coords t) 1 = 1 := by
  decide +kernel

/-- The boxes of one image's block. -/
def block {n : ℕ} (b a : Vec Ideal ⟨4, ![1, 4, n, 128]⟩ .f32) (h w : EReal) : Vec Ideal ⟨4, ![1, 4, n, 128]⟩ .f32 :=
  fun y => box (fun k => b (ix4 0 k (y 2) (y 3))) (fun k => a (ix4 0 k (y 2) (y 3))) h w (y 1)

/-- Where a coordinate plane's places lie in the block. -/
theorem emb_plane {n : ℕ} (q : ℕ) (inb : ∀ a, (![0, q, 0, 0] : Fin 4 → ℕ) a + (![1, 1, n, 128] : Fin 4 → ℕ) a
      ≤ (⟨4, ![1, 4, n, 128]⟩ : Shape).size a) (x0 x1 : Fin 1) (x2 : Fin n) (x3 : Fin 128) :
    (Rect.unit (s := ⟨4, ![1, 4, n, 128]⟩) ![0, q, 0, 0] ![1, 1, n, 128] inb).emb (ix4 x0 x1 x2 x3)
      = ix4 0 ⟨q, inb 1⟩ x2 x3 := by
  funext a
  refine Fin.ext ?_
  match a with
  | 0 => show 0 + 1 * (x0 : ℕ) = 0; omega
  | 1 => show q + 1 * (x1 : ℕ) = q; omega
  | 2 => show 0 + 1 * (x2 : ℕ) = x2; omega
  | 3 => show 0 + 1 * (x3 : ℕ) = x3; omega

/-- The scores that a grid point leaves. -/
theorem scores_left (c : Dev nD) (t : Fin cfg0.N) :
    (∀ (r : Fin 128) (l : Fin 128), (outsAt0 m c t).1 (ix3 0 r l) = Ideal.logistic (iblk m c 0 t (ix3 0 r l)))
    ∧ (∀ (r : Fin 32) (l : Fin 128), (outsAt0 m c t).2.2.1 (ix3 0 r l) = Ideal.logistic (iblk m c 3 t (ix3 0 r l)))
    ∧ (∀ (r : Fin 8) (l : Fin 128), (outsAt0 m c t).2.2.2.2.1 (ix3 0 r l) = Ideal.logistic (iblk m c 6 t (ix3 0 r l))) := by
  unfold outsAt0
  refine ⟨fun r l => ?_, fun r l => ?_, fun r l => ?_⟩
  all_goals
    frame_out
    pointwise [k0_pay1, k0_pay6, k0_pay25, k0_pay30, k0_pay44, k0_pay49]

/-- The boxes that a grid point leaves. -/
theorem boxes_left (c : Dev nD) (t : Fin cfg0.N) :
    (outsAt0 m c t).2.1 = block (iblk m c 1 t) (iblk m c 2 t) (iblk m c 9 t (ix2 ⟨t, t.isLt⟩ 0)) (iblk m c 9 t (ix2 ⟨t, t.isLt⟩ 1))
    ∧ (outsAt0 m c t).2.2.2.1 = block (iblk m c 4 t) (iblk m c 5 t) (iblk m c 9 t (ix2 ⟨t, t.isLt⟩ 0)) (iblk m c 9 t (ix2 ⟨t, t.isLt⟩ 1))
    ∧ (outsAt0 m c t).2.2.2.2.2 = block (iblk m c 7 t) (iblk m c 8 t) (iblk m c 9 t (ix2 ⟨t, t.isLt⟩ 0)) (iblk m c 9 t (ix2 ⟨t, t.isLt⟩ 1)) := by
  unfold outsAt0
  refine ⟨funext fun y => ?_, funext fun y => ?_, funext fun y => ?_⟩
  all_goals
    frame_out
    refine View.canon_apply_of_pieces (block _ _ (iblk m c 9 t (ix2 ⟨t, t.isLt⟩ 0)) (iblk m c 9 t (ix2 ⟨t, t.isLt⟩ 1)))
      _ ?_ y ?_
    rotate_left
    · first
      | exact View.cover_of_tiledL (s := S1x4x128x128) _ S1x1x128x128.size (by sl_kernel_rfl) y
      | exact View.cover_of_tiledL (s := S1x4x32x128) _ S1x1x32x128.size (by sl_kernel_rfl) y
      | exact View.cover_of_tiledL (s := S1x4x8x128) _ S1x1x8x128.size (by sl_kernel_rfl) y
    simp only [List.forall_mem_cons]
    refine ⟨fun x => ?_, fun x => ?_, fun x => ?_, fun x => ?_, fun p hp => absurd hp List.not_mem_nil⟩
    all_goals
      idx_vars x
      pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65]
      rw [emb_plane]
      simp only [(corners t).1, (corners t).2.1, (corners t).2.2.1, (corners t).2.2.2]
      rfl

end Cert.Kernel3Ideal.Body
-- ==== Proof.Ideal3.Value.lean ====
/- The result arrays of the decoding as functions of the argument arrays: each grid point writes back one image's blocks. -/
module

public import proofs.«01_k».proof.Proof.Ideal3.Body

@[expose] public section

set_option maxRecDepth 16384

noncomputable section

namespace Cert.Kernel3Ideal.Body

open Cert.Kernel3Ideal Cert.Kernel3Ideal.Gen Cert.Kernel3Ideal.Value Cert.Boxes
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- Where the places of the blocks of logits and of scores lie in their arrays. -/
theorem place3 (t : Fin cfg0.N) (l : Fin 128) :
    (∀ (f : Vec Ideal S4x128x128 .f32) (r : Fin 128),
      ((cfg0.win 0).blk t).view.read (Elt Ideal) f (ix3 0 r l) = f (ix3 (⟨t, t.isLt⟩ : Fin 4) r l)
      ∧ ((cfg0.win 10).blk t).view.read (Elt Ideal) f (ix3 0 r l) = f (ix3 (⟨t, t.isLt⟩ : Fin 4) r l))
    ∧ (∀ (f : Vec Ideal S4x32x128 .f32) (r : Fin 32),
      ((cfg0.win 3).blk t).view.read (Elt Ideal) f (ix3 0 r l) = f (ix3 (⟨t, t.isLt⟩ : Fin 4) r l)
      ∧ ((cfg0.win 12).blk t).view.read (Elt Ideal) f (ix3 0 r l) = f (ix3 (⟨t, t.isLt⟩ : Fin 4) r l))
    ∧ ∀ (f : Vec Ideal S4x8x128 .f32) (r : Fin 8),
      ((cfg0.win 6).blk t).view.read (Elt Ideal) f (ix3 0 r l) = f (ix3 (⟨t, t.isLt⟩ : Fin 4) r l)
      ∧ ((cfg0.win 14).blk t).view.read (Elt Ideal) f (ix3 0 r l) = f (ix3 (⟨t, t.isLt⟩ : Fin 4) r l) := by
  refine ⟨fun f r => ⟨?_, ?_⟩, fun f r => ⟨?_, ?_⟩, fun f r => ⟨?_, ?_⟩⟩
  all_goals
    refine congrArg f (funext fun a => Fin.ext ?_)
    rcases fin_N0 t with rfl | rfl | rfl | rfl
    all_goals
      match a with
      | 0 => rfl
      | 1 => show 0 + 1 * (r : ℕ) = r; omega
      | 2 => show 0 + 1 * (l : ℕ) = l; omega

/-- Where the places of the blocks of offsets, of anchors and of boxes lie in their arrays. -/
theorem place4 (t : Fin cfg0.N) (l : Fin 128) :
    (∀ (f : Vec Ideal S4x4x128x128 .f32) (k : Fin 4) (r : Fin 128),
      ((cfg0.win 1).blk t).view.read (Elt Ideal) f (ix4 0 k r l) = f (ix4 (⟨t, t.isLt⟩ : Fin 4) k r l)
      ∧ ((cfg0.win 2).blk t).view.read (Elt Ideal) f (ix4 0 k r l) = f (ix4 (⟨t, t.isLt⟩ : Fin 4) k r l)
      ∧ ((cfg0.win 11).blk t).view.read (Elt Ideal) f (ix4 0 k r l) = f (ix4 (⟨t, t.isLt⟩ : Fin 4) k r l))
    ∧ (∀ (f : Vec Ideal S4x4x32x128 .f32) (k : Fin 4) (r : Fin 32),
      ((cfg0.win 4).blk t).view.read (Elt Ideal) f (ix4 0 k r l) = f (ix4 (⟨t, t.isLt⟩ : Fin 4) k r l)
      ∧ ((cfg0.win 5).blk t).view.read (Elt Ideal) f (ix4 0 k r l) = f (ix4 (⟨t, t.isLt⟩ : Fin 4) k r l)
      ∧ ((cfg0.win 13).blk t).view.read (Elt Ideal) f (ix4 0 k r l) = f (ix4 (⟨t, t.isLt⟩ : Fin 4) k r l))
    ∧ (∀ (f : Vec Ideal S4x4x8x128 .f32) (k : Fin 4) (r : Fin 8),
      ((cfg0.win 7).blk t).view.read (Elt Ideal) f (ix4 0 k r l) = f (ix4 (⟨t, t.isLt⟩ : Fin 4) k r l)
      ∧ ((cfg0.win 8).blk t).view.read (Elt Ideal) f (ix4 0 k r l) = f (ix4 (⟨t, t.isLt⟩ : Fin 4) k r l)
      ∧ ((cfg0.win 15).blk t).view.read (Elt Ideal) f (ix4 0 k r l) = f (ix4 (⟨t, t.isLt⟩ : Fin 4) k r l)) := by
  refine ⟨fun f k r => ⟨?_, ?_, ?_⟩, fun f k r => ⟨?_, ?_, ?_⟩, fun f k r => ⟨?_, ?_, ?_⟩⟩
  all_goals
    refine congrArg f (funext fun a => Fin.ext ?_)
    rcases fin_N0 t with rfl | rfl | rfl | rfl
    all_goals
      match a with
      | 0 => rfl
      | 1 => show 0 + 1 * (k : ℕ) = k; omega
      | 2 => show 0 + 1 * (r : ℕ) = r; omega
      | 3 => show 0 + 1 * (l : ℕ) = l; omega

/-- Every grid point reads the whole of the image sizes. -/
theorem place9 (t : Fin cfg0.N) (f : Vec Ideal S4x2 .f32) : ((cfg0.win 9).blk t).view.read (Elt Ideal) f = f := by
  funext y
  refine congrArg f (funext fun a => Fin.ext ?_)
  rcases fin_N0 t with rfl | rfl | rfl | rfl
  all_goals
    match a with
    | 0 => show 0 + 1 * ((y 0 : Fin 4) : ℕ) = (y 0 : Fin 4); omega
    | 1 => show 0 + 1 * ((y 1 : Fin 2) : ℕ) = (y 1 : Fin 2); omega

/-- A block of boxes, computed from blocks of the offsets and of the anchors, is the block of the boxes. -/
theorem block_apply {n : ℕ} (b a : Vec Ideal ⟨4, ![4, 4, n, 128]⟩ .f32) (img : Vec Ideal S4x2 .f32)
    (b' a' : Vec Ideal ⟨4, ![1, 4, n, 128]⟩ .f32) (h w : EReal) (t : Fin 4) (k : Fin 4) (r : Fin n) (l : Fin 128)
    (hb : ∀ k, b' (ix4 0 k r l) = b (ix4 t k r l)) (ha : ∀ k, a' (ix4 0 k r l) = a (ix4 t k r l))
    (hh : h = img (ix2 t 0)) (hw : w = img (ix2 t 1)) :
    block b' a' h w (ix4 0 k r l) = boxes b a img (ix4 t k r l) := by
  show box (fun k => b' (ix4 0 k r l)) (fun k => a' (ix4 0 k r l)) h w k
    = box (fun k => b (ix4 t k r l)) (fun k => a (ix4 t k r l)) (img (ix2 t 0)) (img (ix2 t 1)) k
  rw [funext hb, funext ha, hh, hw]

theorem size_read (c : Dev nD) (t : Fin cfg0.N) (y : S4x2.Idx) :
    iblk m c 9 t y = m ((c : Thread nD τ).loc main_arg9) y :=
  (congrFun (place9 t _) y).trans (congrFun (V_main_arg9 m c) y)

theorem arr10 (c : Dev nD) : (dats m 0 c).arrAt 10 cfg0.N = scores (m ((c : Thread nD τ).loc main_arg0)) := by
  funext y
  idx_vars y
  obtain ⟨t, rfl⟩ : ∃ t : Fin cfg0.N, y0 = ⟨t, t.isLt⟩ := ⟨⟨y0, y0.isLt⟩, rfl⟩
  refine (((place3 t y2).1 _ y1).2.symm.trans (congrFun ((blocks10 m c t (flush0_10 t)).trans (flushed10 m c t)) (ix3 0 y1 y2))).trans ?_
  refine ((scores_left m c t).1 y1 y2).trans (congrArg Ideal.logistic ?_)
  exact ((place3 t y2).1 _ y1).1.trans (congrFun (V_main_arg0 m c) _)

theorem arr11 (c : Dev nD) : (dats m 0 c).arrAt 11 cfg0.N
    = boxes (m ((c : Thread nD τ).loc main_arg1)) (m ((c : Thread nD τ).loc main_arg2)) (m ((c : Thread nD τ).loc main_arg9)) := by
  funext y
  idx_vars y
  obtain ⟨t, rfl⟩ : ∃ t : Fin cfg0.N, y0 = ⟨t, t.isLt⟩ := ⟨⟨y0, y0.isLt⟩, rfl⟩
  refine (((place4 t y3).1 _ y1 y2).2.2.symm.trans (congrFun ((blocks11 m c t (flush0_11 t)).trans (flushed11 m c t)) (ix4 0 y1 y2 y3))).trans ?_
  refine (congrFun (boxes_left m c t).1 (ix4 0 y1 y2 y3)).trans ?_
  exact block_apply _ _ _ _ _ _ _ _ y1 y2 y3
    (fun k => ((place4 t y3).1 _ k y2).1.trans (congrFun (V_main_arg1 m c) _))
    (fun k => ((place4 t y3).1 _ k y2).2.1.trans (congrFun (V_main_arg2 m c) _)) (size_read m c t _) (size_read m c t _)

theorem arr12 (c : Dev nD) : (dats m 0 c).arrAt 12 cfg0.N = scores (m ((c : Thread nD τ).loc main_arg3)) := by
  funext y
  idx_vars y
  obtain ⟨t, rfl⟩ : ∃ t : Fin cfg0.N, y0 = ⟨t, t.isLt⟩ := ⟨⟨y0, y0.isLt⟩, rfl⟩
  refine (((place3 t y2).2.1 _ y1).2.symm.trans (congrFun ((blocks12 m c t (flush0_12 t)).trans (flushed12 m c t)) (ix3 0 y1 y2))).trans ?_
  refine ((scores_left m c t).2.1 y1 y2).trans (congrArg Ideal.logistic ?_)
  exact ((place3 t y2).2.1 _ y1).1.trans (congrFun (V_main_arg3 m c) _)

theorem arr13 (c : Dev nD) : (dats m 0 c).arrAt 13 cfg0.N
    = boxes (m ((c : Thread nD τ).loc main_arg4)) (m ((c : Thread nD τ).loc main_arg5)) (m ((c : Thread nD τ).loc main_arg9)) := by
  funext y
  idx_vars y
  obtain ⟨t, rfl⟩ : ∃ t : Fin cfg0.N, y0 = ⟨t, t.isLt⟩ := ⟨⟨y0, y0.isLt⟩, rfl⟩
  refine (((place4 t y3).2.1 _ y1 y2).2.2.symm.trans (congrFun ((blocks13 m c t (flush0_13 t)).trans (flushed13 m c t)) (ix4 0 y1 y2 y3))).trans ?_
  refine (congrFun (boxes_left m c t).2.1 (ix4 0 y1 y2 y3)).trans ?_
  exact block_apply _ _ _ _ _ _ _ _ y1 y2 y3
    (fun k => ((place4 t y3).2.1 _ k y2).1.trans (congrFun (V_main_arg4 m c) _))
    (fun k => ((place4 t y3).2.1 _ k y2).2.1.trans (congrFun (V_main_arg5 m c) _)) (size_read m c t _) (size_read m c t _)

theorem arr14 (c : Dev nD) : (dats m 0 c).arrAt 14 cfg0.N = scores (m ((c : Thread nD τ).loc main_arg6)) := by
  funext y
  idx_vars y
  obtain ⟨t, rfl⟩ : ∃ t : Fin cfg0.N, y0 = ⟨t, t.isLt⟩ := ⟨⟨y0, y0.isLt⟩, rfl⟩
  refine (((place3 t y2).2.2 _ y1).2.symm.trans (congrFun ((blocks14 m c t (flush0_14 t)).trans (flushed14 m c t)) (ix3 0 y1 y2))).trans ?_
  refine ((scores_left m c t).2.2 y1 y2).trans (congrArg Ideal.logistic ?_)
  exact ((place3 t y2).2.2 _ y1).1.trans (congrFun (V_main_arg6 m c) _)

theorem arr15 (c : Dev nD) : (dats m 0 c).arrAt 15 cfg0.N
    = boxes (m ((c : Thread nD τ).loc main_arg7)) (m ((c : Thread nD τ).loc main_arg8)) (m ((c : Thread nD τ).loc main_arg9)) := by
  funext y
  idx_vars y
  obtain ⟨t, rfl⟩ : ∃ t : Fin cfg0.N, y0 = ⟨t, t.isLt⟩ := ⟨⟨y0, y0.isLt⟩, rfl⟩
  refine (((place4 t y3).2.2 _ y1 y2).2.2.symm.trans (congrFun ((blocks15 m c t (flush0_15 t)).trans (flushed15 m c t)) (ix4 0 y1 y2 y3))).trans ?_
  refine (congrFun (boxes_left m c t).2.2 (ix4 0 y1 y2 y3)).trans ?_
  exact block_apply _ _ _ _ _ _ _ _ y1 y2 y3
    (fun k => ((place4 t y3).2.2 _ k y2).1.trans (congrFun (V_main_arg7 m c) _))
    (fun k => ((place4 t y3).2.2 _ k y2).2.1.trans (congrFun (V_main_arg8 m c) _)) (size_read m c t _) (size_read m c t _)

/-- The launch ends with the scores and the boxes of the arguments, and the arguments unchanged. -/
theorem value : θ_run defs (onTc (τ := τ) (main (F := Ideal))) ⟨m, fun _ => 0, ρ⟩ (fun r => ∀ c : Dev nD,
      r.2.mem ((c.tc : Thread nD τ).loc main_v0_0)
          = scores (m ((c.tc : Thread nD τ).loc main_arg0))
      ∧ r.2.mem ((c.tc : Thread nD τ).loc main_v0_1)
          = boxes (m ((c.tc : Thread nD τ).loc main_arg1)) (m ((c.tc : Thread nD τ).loc main_arg2)) (m ((c.tc : Thread nD τ).loc main_arg9))
      ∧ r.2.mem ((c.tc : Thread nD τ).loc main_v0_2)
          = scores (m ((c.tc : Thread nD τ).loc main_arg3))
      ∧ r.2.mem ((c.tc : Thread nD τ).loc main_v0_3)
          = boxes (m ((c.tc : Thread nD τ).loc main_arg4)) (m ((c.tc : Thread nD τ).loc main_arg5)) (m ((c.tc : Thread nD τ).loc main_arg9))
      ∧ r.2.mem ((c.tc : Thread nD τ).loc main_v0_4)
          = scores (m ((c.tc : Thread nD τ).loc main_arg6))
      ∧ r.2.mem ((c.tc : Thread nD τ).loc main_v0_5)
          = boxes (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => by
    obtain ⟨h0, h1, h2, h3, h4, h5, hrest⟩ := h c
    exact ⟨h0.trans (arr10 m c), h1.trans (arr11 m c), h2.trans (arr12 m c), h3.trans (arr13 m c), h4.trans (arr14 m c),
      h5.trans (arr15 m c), hrest⟩) (run_blocks m ρ)

end Cert.Kernel3Ideal.Body

end
-- ==== Proof.Ref3.Apply.lean ====
/- What the reference of the decoding leaves in each of its results, as a function of the arguments. -/
module

public import proofs.«01_k».proof.Proof.Boxes.Spec
public import proofs.«01_k».proof.Proof.Gen.Reference3Ideal.Run

@[expose] public section

set_option maxRecDepth 16384

noncomputable section

namespace Cert.Reference3Ideal.Body

open Cert.Reference3Ideal Cert.Reference3Ideal.Value Cert.Boxes Idealize.ShloMosaic.StableHlo
open Idealize.ShloMosaic Idealize.ShloMosaic.TcCoe Idealize.ShloMosaic.Tactic Idealize.SL.Sem

variable (V : Valuation τ sig (Elt Ideal))

/-- The scores of the three levels. -/
theorem scores_eq : val4 V (Proc.devRef .tc main_v65) = scores (V (Proc.devRef .tc main_arg0))
    ∧ val4 V (Proc.devRef .tc main_v131) = scores (V (Proc.devRef .tc main_arg3))
    ∧ val4 V (Proc.devRef .tc main_v197) = scores (V (Proc.devRef .tc main_arg6)) := by
  rw [val4_main_v65, val4_main_v131, val4_main_v197]
  refine ⟨?_, ?_, ?_⟩
  all_goals
    funext y
    idx_vars y
    pointwise
    rfl

/-- The boxes of the three levels. -/
theorem boxes_eq : val4 V (Proc.devRef .tc main_v66)
      = boxes (V (Proc.devRef .tc main_arg1)) (V (Proc.devRef .tc main_arg2)) (V (Proc.devRef .tc main_arg9))
    ∧ val4 V (Proc.devRef .tc main_v132)
      = boxes (V (Proc.devRef .tc main_arg4)) (V (Proc.devRef .tc main_arg5)) (V (Proc.devRef .tc main_arg9))
    ∧ val4 V (Proc.devRef .tc main_v198)
      = boxes (V (Proc.devRef .tc main_arg7)) (V (Proc.devRef .tc main_arg8)) (V (Proc.devRef .tc main_arg9)) := by
  rw [val4_main_v66, val4_main_v132, val4_main_v198]
  refine ⟨?_, ?_, ?_⟩
  all_goals
    funext y
    idx_vars y
    simp only [id_eq]
    pointwise [res_main_v0,
      res_main_v56, res_main_v57, res_main_v32, res_main_v34, res_main_v36, res_main_v38, res_main_v11, res_main_v12, res_main_v4, res_main_v6, res_main_v1, res_main_v2,
      res_main_v122, res_main_v123, res_main_v98, res_main_v100, res_main_v102, res_main_v104, res_main_v77, res_main_v78, res_main_v70, res_main_v72, res_main_v67, res_main_v68,
      res_main_v188, res_main_v189, res_main_v164, res_main_v166, res_main_v168, res_main_v170, res_main_v143, res_main_v144, res_main_v136, res_main_v138, res_main_v133, res_main_v134]
    revert y1
    refine coordinates ?_ ?_ ?_ ?_ <;> rfl

variable (m : (ℓ : Loc nD τ sig) → Buf (Elt Ideal) ℓ) (ρ : Dev nD → PrngReg)

/-- The reference ends with the scores and the boxes of the arguments, and the arguments unchanged. -/
theorem value : θ_run defs (onTc (τ := τ) (main (F := Ideal))) ⟨m, fun _ => 0, ρ⟩ (fun r => ∀ c : Dev nD,
      r.2.mem ((c.tc : Thread nD τ).loc main_v65)
          = scores (m ((c.tc : Thread nD τ).loc main_arg0))
      ∧ r.2.mem ((c.tc : Thread nD τ).loc main_v66)
          = boxes (m ((c.tc : Thread nD τ).loc main_arg1)) (m ((c.tc : Thread nD τ).loc main_arg2)) (m ((c.tc : Thread nD τ).loc main_arg9))
      ∧ r.2.mem ((c.tc : Thread nD τ).loc main_v131)
          = scores (m ((c.tc : Thread nD τ).loc main_arg3))
      ∧ r.2.mem ((c.tc : Thread nD τ).loc main_v132)
          = boxes (m ((c.tc : Thread nD τ).loc main_arg4)) (m ((c.tc : Thread nD τ).loc main_arg5)) (m ((c.tc : Thread nD τ).loc main_arg9))
      ∧ r.2.mem ((c.tc : Thread nD τ).loc main_v197)
          = scores (m ((c.tc : Thread nD τ).loc main_arg6))
      ∧ r.2.mem ((c.tc : Thread nD τ).loc main_v198)
          = boxes (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => by
    obtain ⟨h0, h1, h2, h3, h4, h5, hrest⟩ := h c
    exact ⟨h0.trans ((val4_main_v65 (launchContents m c)).symm.trans (scores_eq _).1),
      h1.trans ((val4_main_v66 (launchContents m c)).symm.trans (boxes_eq _).1),
      h2.trans ((val4_main_v131 (launchContents m c)).symm.trans (scores_eq _).2.1),
      h3.trans ((val4_main_v132 (launchContents m c)).symm.trans (boxes_eq _).2.1),
      h4.trans ((val4_main_v197 (launchContents m c)).symm.trans (scores_eq _).2.2),
      h5.trans ((val4_main_v198 (launchContents m c)).symm.trans (boxes_eq _).2.2), hrest⟩)
    (run (F := Ideal) m ρ)

end Cert.Reference3Ideal.Body

end
-- ==== Proof.Bits4.Body.lean ====
module

public import proofs.«01_k».proof.Proof.Gen.Kernel4.Frame
-- ==== Proof.Sorting.Spec.lean ====
/- Sorting the 1024 places of an image by key, the greater first and equal keys in the order of their places: the entries that are
   sorted, and the place that each entry of the sorted list comes from. -/
module

public import Idealize.ShloMosaic.Lib.SortNet.Printed
public import Idealize.ShloMosaic.Lib.SortNet.Positions
public import Idealize.ShloMosaic.Lib.SortNet.Sorts
public import Idealize.ShloMosaic.Lib.Pipeline.ValueKit
public import Mathlib.Data.EReal.Basic
public import Mathlib.Data.Prod.Lex

@[expose] public section

noncomputable section

namespace Cert.Sorting

open Idealize.ShloMosaic Idealize.ShloMosaic.SortNet

/-- A key with its place. The greater key is the greater entry; among equal keys it is the earlier place. -/
abbrev Item : Type := EReal ×ₗ (Fin (2 ^ 10))ᵒᵈ

/-- The row of a place. -/
def row (i : Fin (2 ^ 10)) : Fin 8 := ⟨i.val / 128, by have := i.isLt; omega⟩

/-- The lane of a place. -/
def lane (i : Fin (2 ^ 10)) : Fin 128 := ⟨i.val % 128, by omega⟩

/-- The place at a row and a lane. -/
def place (r : Fin 8) (l : Fin 128) : Fin (2 ^ 10) := ⟨r.val * 128 + l.val, by have := r.isLt; have := l.isLt; omega⟩

theorem row_place (r : Fin 8) (l : Fin 128) : row (place r l) = r :=
  Fin.ext (by show (r.val * 128 + l.val) / 128 = r.val; have := l.isLt; omega)

theorem lane_place (r : Fin 8) (l : Fin 128) : lane (place r l) = l :=
  Fin.ext (by show (r.val * 128 + l.val) % 128 = l.val; have := l.isLt; omega)

/-- The key of an entry. -/
def itemKey (e : Item) : EReal := (ofLex e).1

/-- The place that an entry comes from. -/
def itemPlace (e : Item) : Fin (2 ^ 10) := OrderDual.ofDual (ofLex e).2

/-- The entries of the keys at all places. -/
def entries (k : Fin (2 ^ 10) → EReal) (i : Fin (2 ^ 10)) : Item := toLex (k i, OrderDual.toDual i)

/-- The entries after the sorting network. -/
def sortedItems (k : Fin (2 ^ 10) → EReal) : Fin (2 ^ 10) → Item := Network.apply (sortNet 10 true) (entries k)

theorem lt_iff (e e' : Item) : e < e' ↔ itemKey e < itemKey e' ∨ itemKey e = itemKey e' ∧ itemPlace e' < itemPlace e := by
  rw [Prod.Lex.lt_iff]
  rfl

theorem itemKey_entries (k : Fin (2 ^ 10) → EReal) (i : Fin (2 ^ 10)) : itemKey (entries k i) = k i := rfl

theorem itemPlace_entries (k : Fin (2 ^ 10) → EReal) (i : Fin (2 ^ 10)) : itemPlace (entries k i) = i := rfl

theorem entries_injective (k : Fin (2 ^ 10) → EReal) : Function.Injective (entries k) := fun i j h => by
  have := congrArg itemPlace h
  exact this

/-- Every entry after the sorting network is the entry of the place it comes from. -/
theorem sortedItems_eq (k : Fin (2 ^ 10) → EReal) (i : Fin (2 ^ 10)) : sortedItems k i = entries k (itemPlace (sortedItems k i)) := by
  obtain ⟨σ, h⟩ := Network.exists_perm (sortNet 10 true) (entries k)
  have e : sortedItems k i = entries k (σ i) := congrFun h i
  rw [e]
  rfl

theorem itemKey_sorted (k : Fin (2 ^ 10) → EReal) (i : Fin (2 ^ 10)) : itemKey (sortedItems k i) = k (itemPlace (sortedItems k i)) :=
  congrArg itemKey (sortedItems_eq k i)

/-- The network's list of places is the sort of the places by their entries. -/
theorem itemPlace_sorted (k : Fin (2 ^ 10) → EReal) :
    List.ofFn (fun i => itemPlace (sortedItems k i)) = stableSort (greaterFirst (entries k)) (List.finRange (2 ^ 10)) := by
  have hB := strictTotalBefore_greaterFirst (entries k) (entries_injective k)
  refine hB.eq_stableSort_of_sorted ?_ ?_
  · obtain ⟨σ, h⟩ := Network.exists_perm (sortNet 10 true) (entries k)
    have e : (fun i => itemPlace (sortedItems k i)) = σ := funext fun i => congrArg itemPlace (congrFun h i)
    rw [e, List.ofFn_eq_map]
    exact Equiv.Perm.map_finRange_perm σ
  · rw [List.pairwise_ofFn]
    intro i j hij
    have ha := sortNet_apply_antitone 10 (entries k) (le_of_lt hij)
    have ha' : sortedItems k j ≤ sortedItems k i := ha
    rw [sortedItems_eq k i, sortedItems_eq k j] at ha'
    exact decide_eq_false (not_lt.mpr ha')

/-- The keys of one image. -/
def imageKeys (x : Vec Ideal ⟨3, ![4, 8, 128]⟩ .f32) (t : Fin 4) (i : Fin (2 ^ 10)) : EReal := x (ix3 t (row i) (lane i))

/-- The place that a place of an image's sorted list comes from. -/
def source (x : Vec Ideal ⟨3, ![4, 8, 128]⟩ .f32) (t : Fin 4) (i : Fin (2 ^ 10)) : Fin (2 ^ 10) :=
  itemPlace (sortedItems (imageKeys x t) i)

/-- The keys of all images, the greater first. -/
def sortedKeys (x : Vec Ideal ⟨3, ![4, 8, 128]⟩ .f32) : Vec Ideal ⟨3, ![4, 8, 128]⟩ .f32 := fun y =>
  imageKeys x (y 0) (source x (y 0) (place (y 1) (y 2)))

/-- The boxes of all images, in the order of their keys. -/
def sortedBoxes (x : Vec Ideal ⟨3, ![4, 8, 128]⟩ .f32) (b : Vec Ideal ⟨4, ![4, 4, 8, 128]⟩ .f32) :
    Vec Ideal ⟨4, ![4, 4, 8, 128]⟩ .f32 := fun y =>
  b (ix4 (y 0) (y 1) (row (source x (y 0) (place (y 2) (y 3)))) (lane (source x (y 0) (place (y 2) (y 3)))))

end Cert.Sorting

end
-- ==== Proof.Ideal4.Stage.lean ====
/- One stage of the sorting network on the kernel's vectors: each vector holds, at every place, a value of the entry there. -/
module

public import proofs.«01_k».proof.Proof.Sorting.Spec
public import proofs.«01_k».proof.Proof.Gen.Kernel4Ideal.Value

@[expose] public section

set_option maxRecDepth 16384

noncomputable section

namespace Cert.Kernel4Ideal.Body

open Cert.Kernel4Ideal Cert.Kernel4Ideal.Gen Cert.Sorting
open Idealize.ShloMosaic Idealize.ShloMosaic.TcCoe Idealize.ShloMosaic.Tactic Idealize.SL.Sem
open Idealize.ShloMosaic.SortNet

/-- The place of an element of a vector. -/
def at_ (y : S8x128.Idx) : Fin (2 ^ 10) := place (y 0) (y 1)

/-- A value of every entry, laid out as a vector. -/
def reals (f : Item → EReal) (E : Fin (2 ^ 10) → Item) : FVec Ideal S8x128 .f32 := fun y => f (E (at_ y))

/-- The place every entry comes from, laid out as a vector of words. -/
def words (E : Fin (2 ^ 10) → Item) : IVec S8x128 32 := fun y => BitVec.ofNat 32 (itemPlace (E (at_ y))).val

/-- Where bit `t` of the place is clear. -/
def clear (t : ℕ) : IVec S8x128 1 := fun y => BitVec.ofBool (decide ((at_ y).val &&& 2 ^ t = 0))

/-- Where bit `t` of the lane is clear. -/
def laneClear (t : ℕ) : IVec S1x128 1 := fun y => BitVec.ofBool (decide ((y 1 : Fin 128).val &&& 2 ^ t = 0))

/-- Where bit `t - 7` of the row is clear. -/
def rowClear (t : ℕ) : IVec S8x1 1 := fun y => BitVec.ofBool (decide ((y 0 : Fin 8).val &&& 2 ^ (t - 7) = 0))

theorem at_eq (y : S8x128.Idx) : at_ y = chunkPos (P := 10) (p := 7) (by decide) (y 0) (y 1) := rfl

/-- The lanes of one row. -/
def lanes (r : Fin 8) : Column S8x128 1 7 where
  col i := ix2 r i
  size_eq := rfl
  coord _ := rfl
  other i i' b hb := by
    match b with
    | 0 => rfl
    | 1 => exact absurd rfl hb

/-- The rows of one lane. -/
def rows (l : Fin 128) : Column S8x128 0 3 where
  col i := ix2 i l
  size_eq := rfl
  coord _ := rfl
  other i i' b hb := by
    match b with
    | 0 => exact absurd rfl hb
    | 1 => rfl

theorem ix2_self (y : S8x128.Idx) : ix2 (y 0) (y 1) = y := by
  funext a
  match a with
  | 0 => rfl
  | 1 => rfl

/-! ## The masks -/

theorem lane_mask (t : ℕ) (d : BitVec 32) (hd : d.toNat = 2 ^ t) :
    cmpi .eq (andi (iota .tc S1x128 32 [1] iota_S1x128_d1_w32) (broadcast S1x128 d)) (broadcast S1x128 0#32) = laneClear t := by
  funext y
  show BitVec.ofBool (IntOp.andi (BitVec.ofNat 32 (0 * 128 + (y 1 : Fin 128).val)) d == 0#32) = _
  unfold laneClear
  congr 1
  rw [Bool.eq_iff_iff, beq_iff_eq, decide_eq_true_eq, Nat.zero_mul, Nat.zero_add,
    and_distance_eq_zero_iff (lt_trans (y 1 : Fin 128).isLt (by decide)) d hd]

theorem row_mask (t : ℕ) (d : BitVec 32) (hd : d.toNat = 2 ^ (t - 7)) :
    cmpi .eq (andi (iota .tc S8x1 32 [0] iota_S8x1_d0_w32) (broadcast S8x1 d)) (broadcast S8x1 0#32) = rowClear t := by
  funext y
  show BitVec.ofBool (IntOp.andi (BitVec.ofNat 32 (0 * 8 + (y 0 : Fin 8).val)) d == 0#32) = _
  unfold rowClear
  congr 1
  rw [Bool.eq_iff_iff, beq_iff_eq, decide_eq_true_eq, Nat.zero_mul, Nat.zero_add,
    and_distance_eq_zero_iff (lt_trans (y 0 : Fin 8).isLt (by decide)) d hd]

theorem lane_spread (t : ℕ) (h : S1x128.Broadcasts S8x128) (ht : t < 7) : broadcastTo S8x128 (laneClear t) h = clear t := by
  funext y
  show BitVec.ofBool (decide ((y 1 : Fin 128).val &&& 2 ^ t = 0)) = BitVec.ofBool (decide ((at_ y).val &&& 2 ^ t = 0))
  exact congrArg (fun n => BitVec.ofBool (decide (n = 0))) (chunkPos_and (P := 10) (p := 7) (by decide) ht (y 0) (y 1)).symm

theorem row_spread (t : ℕ) (h : S8x1.Broadcasts S8x128) (ht : 7 ≤ t) : broadcastTo S8x128 (rowClear t) h = clear t := by
  funext y
  show BitVec.ofBool (decide ((y 0 : Fin 8).val &&& 2 ^ (t - 7) = 0)) = BitVec.ofBool (decide ((at_ y).val &&& 2 ^ t = 0))
  congr 1
  rw [decide_eq_decide, at_eq]
  exact (chunkPos_high_clear_iff (P := 10) (p := 7) (by decide) ht (y 0) (y 1)).symm

theorem spread_xori {s : Shape} (a b : IVec s 1) (h : s.Broadcasts S8x128) :
    broadcastTo S8x128 (xori a b) h = xori (broadcastTo S8x128 a h) (broadcastTo S8x128 b h) := rfl

theorem spread_ones {s : Shape} (h : s.Broadcasts S8x128) :
    broadcastTo S8x128 (constantI s 1 1#1) h = constantI S8x128 1 1#1 := rfl

theorem spread_self {α : Type} (x : S8x128.Idx → α) (h : S8x128.Broadcasts S8x128) : broadcastTo S8x128 x h = x := by
  funext y
  refine congrArg x (funext fun a => ?_)
  match a with
  | 0 => rfl
  | 1 => rfl

/-! ## The partner's values -/

/-- The two turns along the lanes and the choice between them fetch the partner's value. -/
theorem fetch_lane {α : Type} (v : Fin (2 ^ 10) → α) (t : ℕ) (ht : t < 7) (nd d : BitVec 32) (hnd : nd.toNat = 2 ^ 7 - 2 ^ t)
    (hd : d.toNat = 2 ^ t) (h : S8x128.Rotates 1 none) :
    select (clear t) (dynamicRotate 1 nd none (fun y => v (at_ y)) h) (dynamicRotate 1 d none (fun y => v (at_ y)) h)
      = fun y => v (partner 10 t (at_ y)) := by
  funext y
  have hb : (at_ y).val &&& 2 ^ t = (y 1 : Fin 128).val &&& 2 ^ t :=
    chunkPos_and (P := 10) (p := 7) (by decide) ht (y 0) (y 1)
  have hp : partner 10 t (at_ y) = at_ ((lanes (y 0)).col (partner 7 t (y 1))) :=
    partner_chunkPos (P := 10) (p := 7) (by decide) ht (y 0) (y 1)
  have hy : (lanes (y 0)).col (y 1) = y := ix2_self y
  show Scalar.select (BitVec.ofBool (decide ((at_ y).val &&& 2 ^ t = 0))) _ _ = _
  rw [select_ofBool, hb, hp]
  by_cases hc : (y 1 : Fin 128).val &&& 2 ^ t = 0
  · rw [decide_eq_true hc, if_pos rfl]
    conv_lhs => rw [← hy]
    exact (lanes (y 0)).rotate_of_clear ht nd hnd (fun y => v (at_ y)) h (y 1) hc
  · rw [decide_eq_false hc, if_neg Bool.false_ne_true]
    conv_lhs => rw [← hy]
    exact (lanes (y 0)).rotate_of_set ht d hd (fun y => v (at_ y)) h (y 1) hc

/-- The two turns along the rows and the choice between them fetch the partner's value. -/
theorem fetch_row {α : Type} (v : Fin (2 ^ 10) → α) (t : ℕ) (ht : 7 ≤ t) (ht' : t < 10) (nd d : BitVec 32)
    (hnd : nd.toNat = 2 ^ 3 - 2 ^ (t - 7)) (hd : d.toNat = 2 ^ (t - 7)) (h : S8x128.Rotates 0 none) :
    select (clear t) (dynamicRotate 0 nd none (fun y => v (at_ y)) h) (dynamicRotate 0 d none (fun y => v (at_ y)) h)
      = fun y => v (partner 10 t (at_ y)) := by
  funext y
  have ht3 : t - 7 < 3 := by omega
  have hb : (at_ y).val &&& 2 ^ t = 0 ↔ (y 0 : Fin 8).val &&& 2 ^ (t - 7) = 0 := by
    rw [at_eq]
    exact chunkPos_high_clear_iff (P := 10) (p := 7) (by decide) ht (y 0) (y 1)
  have hp : partner 10 t (at_ y) = at_ ((rows (y 1)).col (partner 3 (t - 7) (y 0))) :=
    partner_chunkPos_high (P := 10) (p := 7) (by decide) ht ht' (y 0) (y 1)
  have hy : (rows (y 1)).col (y 0) = y := ix2_self y
  show Scalar.select (BitVec.ofBool (decide ((at_ y).val &&& 2 ^ t = 0))) _ _ = _
  rw [select_ofBool, decide_eq_decide.mpr hb, hp]
  by_cases hc : (y 0 : Fin 8).val &&& 2 ^ (t - 7) = 0
  · rw [decide_eq_true hc, if_pos rfl]
    conv_lhs => rw [← hy]
    exact (rows (y 1)).rotate_of_clear ht3 nd hnd (fun y => v (at_ y)) h (y 0) hc
  · rw [decide_eq_false hc, if_neg Bool.false_ne_true]
    conv_lhs => rw [← hy]
    exact (rows (y 1)).rotate_of_set ht3 d hd (fun y => v (at_ y)) h (y 0) hc

/-- The entries of the partners at distance `2 ^ t`. -/
def mate (t : ℕ) (E : Fin (2 ^ 10) → Item) : Fin (2 ^ 10) → Item := fun i => E (partner 10 t i)

theorem reals_lane (t : ℕ) (ht : t < 7) (nd d : BitVec 32) (hnd : nd.toNat = 2 ^ 7 - 2 ^ t) (hd : d.toNat = 2 ^ t)
    (f : Item → EReal) (E : Fin (2 ^ 10) → Item) (h : S8x128.Rotates 1 none) :
    select (clear t) (dynamicRotate 1 nd none (reals f E) h) (dynamicRotate 1 d none (reals f E) h) = reals f (mate t E) :=
  fetch_lane (fun i => f (E i)) t ht nd d hnd hd h

theorem words_lane (t : ℕ) (ht : t < 7) (nd d : BitVec 32) (hnd : nd.toNat = 2 ^ 7 - 2 ^ t) (hd : d.toNat = 2 ^ t)
    (E : Fin (2 ^ 10) → Item) (h : S8x128.Rotates 1 none) :
    select (clear t) (dynamicRotate 1 nd none (words E) h) (dynamicRotate 1 d none (words E) h) = words (mate t E) :=
  fetch_lane (fun i => BitVec.ofNat 32 (itemPlace (E i)).val) t ht nd d hnd hd h

theorem reals_row (t : ℕ) (ht : 7 ≤ t) (ht' : t < 10) (nd d : BitVec 32)
    (hnd : nd.toNat = 2 ^ 3 - 2 ^ (t - 7)) (hd : d.toNat = 2 ^ (t - 7)) (f : Item → EReal) (E : Fin (2 ^ 10) → Item)
    (h : S8x128.Rotates 0 none) :
    select (clear t) (dynamicRotate 0 nd none (reals f E) h) (dynamicRotate 0 d none (reals f E) h) = reals f (mate t E) :=
  fetch_row (fun i => f (E i)) t ht ht' nd d hnd hd h

theorem words_row (t : ℕ) (ht : 7 ≤ t) (ht' : t < 10) (nd d : BitVec 32)
    (hnd : nd.toNat = 2 ^ 3 - 2 ^ (t - 7)) (hd : d.toNat = 2 ^ (t - 7)) (E : Fin (2 ^ 10) → Item)
    (h : S8x128.Rotates 0 none) :
    select (clear t) (dynamicRotate 0 nd none (words E) h) (dynamicRotate 0 d none (words E) h) = words (mate t E) :=
  fetch_row (fun i => BitVec.ofNat 32 (itemPlace (E i)).val) t ht ht' nd d hnd hd h

/-! ## The choice between one's own value and the partner's -/

/-- The entries after the stage at distance `2 ^ t` of the level whose blocks have `2 ^ d` places. -/
def after (t d : ℕ) (E : Fin (2 ^ 10) → Item) : Fin (2 ^ 10) → Item :=
  Network.apply (stage 10 t fun i => decide (i.val &&& 2 ^ d = 0) == true) E

/-- Where the kernel takes the partner's value. -/
def takes (t d : ℕ) (E : Fin (2 ^ 10) → Item) : IVec S8x128 1 := fun y =>
  BitVec.ofBool (if upperXor t (fun i => decide (i.val &&& 2 ^ d = 0) == true) (at_ y) then decide (E (at_ y) < mate t E (at_ y))
    else decide (mate t E (at_ y) < E (at_ y)))

theorem slt_places (i j : Fin (2 ^ 10)) : (BitVec.ofNat 32 i.val).slt (BitVec.ofNat 32 j.val) = decide (i < j) := by
  have hi := i.isLt
  have hj := j.isLt
  have e : ∀ n, n < 2 ^ 10 → (BitVec.ofNat 32 n).toInt = (n : ℤ) := fun n hn => by
    rw [BitVec.toInt_eq_toNat_of_lt (by rw [BitVec.toNat_ofNat]; omega), BitVec.toNat_ofNat, Nat.mod_eq_of_lt (by omega)]
  rw [BitVec.slt_eq_decide, decide_eq_decide, e _ hi, e _ hj, Fin.lt_def]
  exact Int.ofNat_lt

theorem takes_word (ct cd g e s l s' : Bool) :
    IntOp.ori
      (IntOp.andi (IntOp.xori (IntOp.xori (BitVec.ofBool ct) (BitVec.ofBool cd)) 1#1)
        (IntOp.ori (BitVec.ofBool g) (IntOp.andi (BitVec.ofBool e) (BitVec.ofBool s))))
      (IntOp.andi (IntOp.xori (IntOp.xori (IntOp.xori (BitVec.ofBool ct) (BitVec.ofBool cd)) 1#1) 1#1)
        (IntOp.ori (BitVec.ofBool l) (IntOp.andi (BitVec.ofBool e) (BitVec.ofBool s'))))
      = BitVec.ofBool (if (!ct) ^^ (cd == true) then g || (e && s) else l || (e && s')) := by
  cases ct <;> cases cd <;> cases g <;> cases e <;> cases s <;> cases l <;> cases s' <;> rfl

/-- The comparisons and masks of a stage, together. -/
theorem takes_eq (E : Fin (2 ^ 10) → Item) (t d : ℕ) :
    ori
      (andi (xori (xori (clear t) (clear d)) (constantI S8x128 1 1#1))
        (ori (cmpf .ogt (reals itemKey (mate t E)) (reals itemKey E))
          (andi (cmpf .oeq (reals itemKey (mate t E)) (reals itemKey E)) (cmpi .slt (words (mate t E)) (words E)))))
      (andi (xori (xori (xori (clear t) (clear d)) (constantI S8x128 1 1#1)) (constantI S8x128 1 1#1))
        (ori (cmpf .olt (reals itemKey (mate t E)) (reals itemKey E))
          (andi (cmpf .oeq (reals itemKey (mate t E)) (reals itemKey E)) (cmpi .sgt (words (mate t E)) (words E)))))
      = takes t d E := by
  funext y
  refine (takes_word (decide ((at_ y).val &&& 2 ^ t = 0)) (decide ((at_ y).val &&& 2 ^ d = 0))
    (decide (itemKey (E (at_ y)) < itemKey (mate t E (at_ y)))) (decide (itemKey (mate t E (at_ y)) = itemKey (E (at_ y))))
    ((BitVec.ofNat 32 (itemPlace (mate t E (at_ y))).val).slt (BitVec.ofNat 32 (itemPlace (E (at_ y))).val))
    (decide (itemKey (mate t E (at_ y)) < itemKey (E (at_ y))))
    ((BitVec.ofNat 32 (itemPlace (E (at_ y))).val).slt (BitVec.ofNat 32 (itemPlace (mate t E (at_ y))).val))).trans ?_
  unfold takes upperXor
  rw [slt_places, slt_places, decide_not, ← Bool.decide_and, ← Bool.decide_and, ← Bool.decide_or, ← Bool.decide_or]
  congr 2
  · rw [decide_eq_decide, lt_iff, eq_comm (a := itemKey (mate t E (at_ y)))]
  · rw [decide_eq_decide, lt_iff]

/-- A stage leaves, of the own and the partner's entry, the one that the network leaves. -/
theorem takes_after (E : Fin (2 ^ 10) → Item) (t d : ℕ) (ht : t < 10) (htd : t < d) (y : S8x128.Idx) :
    after t d E (at_ y)
      = if upperXor t (fun i => decide (i.val &&& 2 ^ d = 0) == true) (at_ y) then
          if decide (E (at_ y) < mate t E (at_ y)) then mate t E (at_ y) else E (at_ y)
        else if decide (mate t E (at_ y) < E (at_ y)) then mate t E (at_ y) else E (at_ y) := by
  obtain ⟨l, rfl⟩ : ∃ l, d = l + 1 := ⟨d - 1, by omega⟩
  unfold after
  rw [← stage_upperXor, apply_stage_select ht _ (fun j => upperXor_partner ht _ j (sizeClear_partner ht (by omega) true j))]
  show (if decide (mate t E (at_ y) < E (at_ y)) = _ then E (at_ y) else mate t E (at_ y)) = _
  generalize upperXor t _ (at_ y) = k
  rcases lt_trichotomy (mate t E (at_ y)) (E (at_ y)) with h | h | h
  · cases k <;> simp [h, not_lt_of_gt h]
  · cases k <;> simp [h]
  · cases k <;> simp [h, not_lt_of_gt h]

theorem reals_after (f : Item → EReal) (E : Fin (2 ^ 10) → Item) (t d : ℕ) (ht : t < 10) (htd : t < d) :
    select (takes t d E) (reals f (mate t E)) (reals f E) = reals f (after t d E) := by
  funext y
  show Scalar.select (BitVec.ofBool _) (f (mate t E (at_ y))) (f (E (at_ y))) = f (after t d E (at_ y))
  rw [select_ofBool, takes_after E t d ht htd y]
  split_ifs <;> rfl

theorem words_after (E : Fin (2 ^ 10) → Item) (t d : ℕ) (ht : t < 10) (htd : t < d) :
    select (takes t d E) (words (mate t E)) (words E) = words (after t d E) := by
  funext y
  show Scalar.select (BitVec.ofBool _) (BitVec.ofNat 32 (itemPlace (mate t E (at_ y))).val) (BitVec.ofNat 32 (itemPlace (E (at_ y))).val)
    = BitVec.ofNat 32 (itemPlace (after t d E (at_ y))).val
  rw [select_ofBool, takes_after E t d ht htd y]
  split_ifs <;> rfl

end Cert.Kernel4Ideal.Body

end
-- ==== Proof.Ideal4.Body.lean ====
/- What one grid point of the sort leaves in each of its output blocks, as a function of its input blocks. -/
module

public import proofs.«01_k».proof.Proof.Ideal4.Stage

@[expose] public section

set_option maxRecDepth 65536

noncomputable section

namespace Cert.Kernel4Ideal.Body

open Cert.Kernel4Ideal Cert.Kernel4Ideal.Gen Cert.Sorting
open Idealize.ShloMosaic Idealize.ShloMosaic.TcCoe Idealize.ShloMosaic.Tactic Idealize.SL.Sem
open Idealize.ShloMosaic.SortNet

/-- The stages of the sorting network, in order: the distance of each and the size of its level's blocks, as powers of two. -/
def stages (p : ℕ) : List (ℕ × ℕ) := (List.range p).flatMap fun l => (List.range (l + 1)).reverse.map fun s => (s, l + 1)

theorem sortNet_stages (p : ℕ) : sortNet p true
    = (stages p).flatMap fun q => stage p q.1 fun i => decide (i.val &&& 2 ^ q.2 = 0) == true := by
  unfold sortNet stages
  rw [List.flatMap_assoc]
  simp only [List.flatMap_map]

theorem apply_flatMap {n : ℕ} {β : Type} (L : List β) (f : β → Network n) (v : Fin n → Item) :
    Network.apply (L.flatMap f) v = L.foldl (fun v b => Network.apply (f b) v) v := by
  induction L generalizing v with
  | nil => rfl
  | cons b L ih => rw [List.flatMap_cons, Network.apply_append, ih, List.foldl_cons]

/-- The network's stages, one after another, are the sorting network. -/
theorem stages_eq (k : Fin (2 ^ 10) → EReal) :
    sortedItems k = (stages 10).foldl (fun E (q : ℕ × ℕ) => after q.1 q.2 E) (entries k) := by
  unfold sortedItems
  rw [sortNet_stages, apply_flatMap]
  rfl

theorem stages_ten : stages 10 =
    [(0, 1), (1, 2), (0, 2), (2, 3), (1, 3), (0, 3), (3, 4), (2, 4), (1, 4), (0, 4), (4, 5), (3, 5), (2, 5), (1, 5), (0, 5),
      (5, 6), (4, 6), (3, 6), (2, 6), (1, 6), (0, 6), (6, 7), (5, 7), (4, 7), (3, 7), (2, 7), (1, 7), (0, 7),
      (7, 8), (6, 8), (5, 8), (4, 8), (3, 8), (2, 8), (1, 8), (0, 8),
      (8, 9), (7, 9), (6, 9), (5, 9), (4, 9), (3, 9), (2, 9), (1, 9), (0, 9),
      (9, 10), (8, 10), (7, 10), (6, 10), (5, 10), (4, 10), (3, 10), (2, 10), (1, 10), (0, 10)] := by
  decide

variable (m : (ℓ : Loc nD τ sig) → Buf (Elt Ideal) ℓ)

/-- The keys of one image's block. -/
def keys (x : Vec Ideal S1x8x128 .f32) (i : Fin (2 ^ 10)) : EReal := x (ix3 0 (row i) (lane i))

/-- A coordinate of the place that an item comes from, of one image's block. -/
def coord (x : Vec Ideal S1x4x8x128 .f32) (q : Fin 4) (e : Item) : EReal := x (ix4 0 q (row (itemPlace e)) (lane (itemPlace e)))

theorem first_keys (x : Vec Ideal S1x8x128 .f32) (h : S1x8x128.ShapeCasts S8x128) :
    (shapeCast S8x128 x h : FVec Ideal S8x128 .f32) = reals itemKey (entries (keys x)) := by
  funext y
  idx_vars y
  show _ = x (ix3 0 (row (place y0 y1)) (lane (place y0 y1)))
  rw [row_place, lane_place]
  pointwise

theorem first_words : addi (muli (iota .tc S8x128 32 [0] iota_S8x128_d0_w32) (broadcast S8x128 128#32))
      (iota .tc S8x128 32 [1] iota_S8x128_d1_w32) = fun y => BitVec.ofNat 32 (at_ y).val := by
  funext y
  idx_vars y
  show BitVec.ofNat 32 (0 * 8 + y0.val) * 128#32 + BitVec.ofNat 32 (0 * 128 + y1.val) = BitVec.ofNat 32 (y0.val * 128 + y1.val)
  simp only [Nat.zero_mul, Nat.zero_add, BitVec.ofNat_add, BitVec.ofNat_mul]

theorem first_places (k : Fin (2 ^ 10) → EReal) :
    addi (muli (iota .tc S8x128 32 [0] iota_S8x128_d0_w32) (broadcast S8x128 128#32))
      (iota .tc S8x128 32 [1] iota_S8x128_d1_w32) = words (entries k) := by
  rw [first_words]
  funext y
  unfold words
  rw [itemPlace_entries]

theorem cast_plane (v : Vec Ideal S1x1x8x128 .f32) (h : S1x1x8x128.ShapeCasts S8x128) (r : Fin 8) (l : Fin 128) :
    (shapeCast S8x128 v h : FVec Ideal S8x128 .f32) (ix2 r l) = v (ix4 0 0 r l) := by
  pointwise

theorem first_coords (k : Fin (2 ^ 10) → EReal) (x : Vec Ideal S1x4x8x128 .f32) (q : ℕ) (hq : q < 4)
    (inb : ∀ a, (![0, q, 0, 0] : Fin 4 → ℕ) a + (![1, 1, 8, 128] : Fin 4 → ℕ) a ≤ S1x4x8x128.size a)
    (h : S1x1x8x128.ShapeCasts S8x128) :
    (shapeCast S8x128 (View.ld x (Rect.unit (s := S1x4x8x128) ![0, q, 0, 0] ![1, 1, 8, 128] inb)) h : FVec Ideal S8x128 .f32)
      = reals (coord x ⟨q, hq⟩) (entries k) := by
  funext y
  idx_vars y
  have e : reals (coord x ⟨q, hq⟩) (entries k) (ix2 y0 y1) = x (ix4 0 ⟨q, hq⟩ y0 y1) := by
    show coord x ⟨q, hq⟩ (entries k (place y0 y1)) = _
    unfold coord
    rw [itemPlace_entries, row_place, lane_place]
  rw [e, cast_plane]
  refine congrArg x (funext fun a => Fin.ext ?_)
  match a with
  | 0 => rfl
  | 1 => rfl
  | 2 => show 0 + 1 * (y0 : ℕ) = y0; omega
  | 3 => show 0 + 1 * (y1 : ℕ) = y1; omega

set_option maxHeartbeats 4000000 in
/-- What a grid point leaves in its block of keys, and the pieces it leaves of its block of boxes. -/
theorem pieces_left (c : Dev nD) (t : Fin cfg0.N) :
    (outsAt0 m c t).1 = shapeCast S1x8x128 (reals itemKey (sortedItems (keys (iblk m c 0 t)))) shapeCasts_S8x128_S1x8x128
    ∧ (outsAt0 m c t).2 = View.canon (Val := Elt Ideal) (s := S1x4x8x128) (e := .f32)
      [⟨Rect.unit ![0, 3, 0, 0] ![1, 1, 8, 128] inb_S1x4x8x128_S1x1x8x128_0_3_0_0,
          (shapeCast S1x1x8x128 (reals (coord (iblk m c 1 t) ⟨3, by decide⟩) (sortedItems (keys (iblk m c 0 t)))) shapeCasts_S8x128_S1x1x8x128 : FVec Ideal S1x1x8x128 .f32)⟩,
        ⟨Rect.unit ![0, 2, 0, 0] ![1, 1, 8, 128] inb_S1x4x8x128_S1x1x8x128_0_2_0_0,
          (shapeCast S1x1x8x128 (reals (coord (iblk m c 1 t) ⟨2, by decide⟩) (sortedItems (keys (iblk m c 0 t)))) shapeCasts_S8x128_S1x1x8x128 : FVec Ideal S1x1x8x128 .f32)⟩,
        ⟨Rect.unit ![0, 1, 0, 0] ![1, 1, 8, 128] inb_S1x4x8x128_S1x1x8x128_0_1_0_0,
          (shapeCast S1x1x8x128 (reals (coord (iblk m c 1 t) ⟨1, by decide⟩) (sortedItems (keys (iblk m c 0 t)))) shapeCasts_S8x128_S1x1x8x128 : FVec Ideal S1x1x8x128 .f32)⟩,
        ⟨Rect.unit ![0, 0, 0, 0] ![1, 1, 8, 128] inb_S1x4x8x128_S1x1x8x128_0_0_0_0,
          (shapeCast S1x1x8x128 (reals (coord (iblk m c 1 t) ⟨0, by decide⟩) (sortedItems (keys (iblk m c 0 t)))) shapeCasts_S8x128_S1x1x8x128 : FVec Ideal S1x1x8x128 .f32)⟩] := by
  unfold outsAt0
  refine ⟨?_, ?_⟩
  all_goals
    frame_out
    simp (maxSteps := 10000000) (decide := true) only [stages_eq, stages_ten, List.foldl_cons,
        List.foldl_nil, first_keys, first_places (keys (iblk m c 0 t)),
        first_coords (keys (iblk m c 0 t)), shapeCast_self,
        lane_mask 0 1#32 rfl, lane_mask 1 2#32 rfl, lane_mask 2 4#32 rfl, lane_mask 3 8#32 rfl, lane_mask 4 16#32 rfl,
        lane_mask 5 32#32 rfl, lane_mask 6 64#32 rfl, row_mask 7 1#32 rfl, row_mask 8 2#32 rfl, row_mask 9 4#32 rfl,
        row_mask 10 8#32 rfl, lane_spread, row_spread, spread_xori, spread_ones, spread_self,
        reals_lane 0 (by decide) 127#32 1#32 rfl rfl, reals_lane 1 (by decide) 126#32 2#32 rfl rfl,
        reals_lane 2 (by decide) 124#32 4#32 rfl rfl, reals_lane 3 (by decide) 120#32 8#32 rfl rfl,
        reals_lane 4 (by decide) 112#32 16#32 rfl rfl, reals_lane 5 (by decide) 96#32 32#32 rfl rfl,
        reals_lane 6 (by decide) 64#32 64#32 rfl rfl, reals_row 7 (by decide) (by decide) 7#32 1#32 rfl rfl,
        reals_row 8 (by decide) (by decide) 6#32 2#32 rfl rfl, reals_row 9 (by decide) (by decide) 4#32 4#32 rfl rfl,
        words_lane 0 (by decide) 127#32 1#32 rfl rfl, words_lane 1 (by decide) 126#32 2#32 rfl rfl,
        words_lane 2 (by decide) 124#32 4#32 rfl rfl, words_lane 3 (by decide) 120#32 8#32 rfl rfl,
        words_lane 4 (by decide) 112#32 16#32 rfl rfl, words_lane 5 (by decide) 96#32 32#32 rfl rfl,
        words_lane 6 (by decide) 64#32 64#32 rfl rfl, words_row 7 (by decide) (by decide) 7#32 1#32 rfl rfl,
        words_row 8 (by decide) (by decide) 6#32 2#32 rfl rfl, words_row 9 (by decide) (by decide) 4#32 4#32 rfl rfl,
        takes_eq, reals_after, words_after,
        k0_pay1, k0_pay2, k0_pay3, k0_pay4, k0_pay5, k0_pay6, k0_pay7, k0_pay8, k0_pay9, k0_pay10, k0_pay11, k0_pay12, k0_pay13,
        k0_pay14, k0_pay15, k0_pay16, k0_pay17, k0_pay18, k0_pay19, k0_pay20, k0_pay21, k0_pay22, k0_pay23, k0_pay24, k0_pay25,
        k0_pay26, k0_pay27, k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47, k0_pay48, k0_pay49,
        k0_pay50, k0_pay51, k0_pay52, k0_pay53, k0_pay54, k0_pay55, k0_pay56, k0_pay57, k0_pay58, k0_pay59, k0_pay60, k0_pay61,
        k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85,
        k0_pay86, k0_pay87, k0_pay88, k0_pay89, k0_pay90, k0_pay91, k0_pay92, k0_pay93, k0_pay94, k0_pay95, k0_pay96, k0_pay97,
        k0_pay98, k0_pay99, k0_pay100, k0_pay101, k0_pay102, k0_pay103, k0_pay104, k0_pay105, k0_pay106, k0_pay107, k0_pay108,
        k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130,
        k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152,
        k0_pay153, k0_pay154, k0_pay155, k0_pay156, k0_pay157, k0_pay158, k0_pay159, k0_pay160, k0_pay161, k0_pay162, k0_pay163,
        k0_pay164, k0_pay165, k0_pay166, k0_pay167, k0_pay168, k0_pay169, k0_pay170, k0_pay171, k0_pay172, k0_pay173, k0_pay174,
        k0_pay175, k0_pay176, k0_pay177, k0_pay178, k0_pay179, k0_pay180, k0_pay181, k0_pay182, k0_pay183, k0_pay184, k0_pay185,
        k0_pay186, k0_pay187, k0_pay188, k0_pay189, k0_pay190, k0_pay191, k0_pay192, k0_pay193, k0_pay194, k0_pay195, k0_pay196,
        k0_pay197, k0_pay198, k0_pay199, k0_pay200, k0_pay201, k0_pay202, k0_pay203, k0_pay204, k0_pay205, k0_pay206, k0_pay207,
        k0_pay208, k0_pay209, k0_pay210, k0_pay211, k0_pay212, k0_pay213, k0_pay214, k0_pay215, k0_pay216, k0_pay217, k0_pay218,
        k0_pay219, k0_pay220, k0_pay221, k0_pay222, k0_pay223, k0_pay224, k0_pay225, k0_pay226, k0_pay227, k0_pay228, k0_pay229,
        k0_pay230, k0_pay231, k0_pay232, k0_pay233, k0_pay234, k0_pay235, k0_pay236, k0_pay237, k0_pay238, k0_pay239, k0_pay240,
        k0_pay241, k0_pay242, k0_pay243, k0_pay244, k0_pay245, k0_pay246, k0_pay247, k0_pay248, k0_pay249, k0_pay250, k0_pay251,
        k0_pay252, k0_pay253, k0_pay254, k0_pay255, k0_pay256, k0_pay257, k0_pay258, k0_pay259, k0_pay260, k0_pay261, k0_pay262,
        k0_pay263, k0_pay264, k0_pay265, k0_pay266, k0_pay267, k0_pay268, k0_pay269, k0_pay270, k0_pay271, k0_pay272, k0_pay273,
        k0_pay274, k0_pay275, k0_pay276, k0_pay277, k0_pay278, k0_pay279, k0_pay280, k0_pay281, k0_pay282, k0_pay283, k0_pay284,
        k0_pay285, k0_pay286, k0_pay287, k0_pay288, k0_pay289, k0_pay290, k0_pay291, k0_pay292, k0_pay293, k0_pay294, k0_pay295,
        k0_pay296, k0_pay297, k0_pay298, k0_pay299, k0_pay300, k0_pay301, k0_pay302, k0_pay303, k0_pay304, k0_pay305, k0_pay306,
        k0_pay307, k0_pay308, k0_pay309, k0_pay310, k0_pay311, k0_pay312, k0_pay313, k0_pay314, k0_pay315, k0_pay316, k0_pay317,
        k0_pay318, k0_pay319, k0_pay320, k0_pay321, k0_pay322, k0_pay323, k0_pay324, k0_pay325, k0_pay326, k0_pay327, k0_pay328,
        k0_pay329, k0_pay330, k0_pay331, k0_pay332, k0_pay333, k0_pay334, k0_pay335, k0_pay336, k0_pay337, k0_pay338, k0_pay339,
        k0_pay340, k0_pay341, k0_pay342, k0_pay343, k0_pay344, k0_pay345, k0_pay346, k0_pay347, k0_pay348, k0_pay349, k0_pay350,
        k0_pay351, k0_pay352, k0_pay353, k0_pay354, k0_pay355, k0_pay356, k0_pay357, k0_pay358, k0_pay359, k0_pay360, k0_pay361,
        k0_pay362, k0_pay363, k0_pay364, k0_pay365, k0_pay366, k0_pay367, k0_pay368, k0_pay369, k0_pay370, k0_pay371, k0_pay372,
        k0_pay373, k0_pay374, k0_pay375, k0_pay376, k0_pay377, k0_pay378, k0_pay379, k0_pay380, k0_pay381, k0_pay382, k0_pay383,
        k0_pay384, k0_pay385, k0_pay386, k0_pay387, k0_pay388, k0_pay389, k0_pay390, k0_pay391, k0_pay392, k0_pay393, k0_pay394,
        k0_pay395, k0_pay396, k0_pay397, k0_pay398, k0_pay399, k0_pay400, k0_pay401, k0_pay402, k0_pay403, k0_pay404, k0_pay405,
        k0_pay406, k0_pay407, k0_pay408, k0_pay409, k0_pay410, k0_pay411, k0_pay412, k0_pay413, k0_pay414, k0_pay415, k0_pay416,
        k0_pay417, k0_pay418, k0_pay419, k0_pay420, k0_pay421, k0_pay422, k0_pay423, k0_pay424, k0_pay425, k0_pay426, k0_pay427,
        k0_pay428, k0_pay429, k0_pay430, k0_pay431, k0_pay432, k0_pay433, k0_pay434, k0_pay435, k0_pay436, k0_pay437, k0_pay438,
        k0_pay439, k0_pay440, k0_pay441, k0_pay442, k0_pay443, k0_pay444, k0_pay445, k0_pay446, k0_pay447, k0_pay448, k0_pay449,
        k0_pay450, k0_pay451, k0_pay452, k0_pay453, k0_pay454, k0_pay455, k0_pay456, k0_pay457, k0_pay458, k0_pay459, k0_pay460,
        k0_pay461, k0_pay462, k0_pay463, k0_pay464, k0_pay465, k0_pay466, k0_pay467, k0_pay468, k0_pay469, k0_pay470, k0_pay471,
        k0_pay472, k0_pay473, k0_pay474, k0_pay475, k0_pay476, k0_pay477, k0_pay478, k0_pay479, k0_pay480, k0_pay481, k0_pay482,
        k0_pay483, k0_pay484, k0_pay485, k0_pay486, k0_pay487, k0_pay488, k0_pay489, k0_pay490, k0_pay491, k0_pay492, k0_pay493,
        k0_pay494, k0_pay495, k0_pay496, k0_pay497, k0_pay498, k0_pay499, k0_pay500, k0_pay501, k0_pay502, k0_pay503, k0_pay504,
        k0_pay505, k0_pay506, k0_pay507, k0_pay508, k0_pay509, k0_pay510, k0_pay511, k0_pay512, k0_pay513, k0_pay514, k0_pay515,
        k0_pay516, k0_pay517, k0_pay518, k0_pay519, k0_pay520, k0_pay521, k0_pay522, k0_pay523, k0_pay524, k0_pay525, k0_pay526,
        k0_pay527, k0_pay528, k0_pay529, k0_pay530, k0_pay531, k0_pay532, k0_pay533, k0_pay534, k0_pay535, k0_pay536, k0_pay537,
        k0_pay538, k0_pay539, k0_pay540, k0_pay541, k0_pay542, k0_pay543, k0_pay544, k0_pay545, k0_pay546, k0_pay547, k0_pay548,
        k0_pay549, k0_pay550, k0_pay551, k0_pay552, k0_pay553, k0_pay554, k0_pay555, k0_pay556, k0_pay557, k0_pay558, k0_pay559,
        k0_pay560, k0_pay561, k0_pay562, k0_pay563, k0_pay564, k0_pay565, k0_pay566, k0_pay567, k0_pay568, k0_pay569, k0_pay570,
        k0_pay571, k0_pay572, k0_pay573, k0_pay574, k0_pay575, k0_pay576, k0_pay577, k0_pay578, k0_pay579, k0_pay580, k0_pay581,
        k0_pay582, k0_pay583, k0_pay584, k0_pay585, k0_pay586, k0_pay587, k0_pay588, k0_pay589, k0_pay590, k0_pay591, k0_pay592,
        k0_pay593, k0_pay594, k0_pay595, k0_pay596, k0_pay597, k0_pay598, k0_pay599, k0_pay600, k0_pay601, k0_pay602, k0_pay603,
        k0_pay604, k0_pay605, k0_pay606, k0_pay607, k0_pay608, k0_pay609, k0_pay610, k0_pay611, k0_pay612, k0_pay613, k0_pay614,
        k0_pay615, k0_pay616, k0_pay617, k0_pay618, k0_pay619, k0_pay620, k0_pay621, k0_pay622, k0_pay623, k0_pay624, k0_pay625,
        k0_pay626, k0_pay627, k0_pay628, k0_pay629, k0_pay630, k0_pay631, k0_pay632, k0_pay633, k0_pay634, k0_pay635, k0_pay636,
        k0_pay637, k0_pay638, k0_pay639, k0_pay640, k0_pay641, k0_pay642, k0_pay643, k0_pay644, k0_pay645, k0_pay646, k0_pay647,
        k0_pay648, k0_pay649, k0_pay650, k0_pay651, k0_pay652, k0_pay653, k0_pay654, k0_pay655, k0_pay656, k0_pay657, k0_pay658,
        k0_pay659, k0_pay660, k0_pay661, k0_pay662, k0_pay663, k0_pay664, k0_pay665, k0_pay666, k0_pay667, k0_pay668, k0_pay669,
        k0_pay670, k0_pay671, k0_pay672, k0_pay673, k0_pay674, k0_pay675, k0_pay676, k0_pay677, k0_pay678, k0_pay679, k0_pay680,
        k0_pay681, k0_pay682, k0_pay683, k0_pay684, k0_pay685, k0_pay686, k0_pay687, k0_pay688, k0_pay689, k0_pay690, k0_pay691,
        k0_pay692, k0_pay693, k0_pay694, k0_pay695, k0_pay696, k0_pay697, k0_pay698, k0_pay699, k0_pay700, k0_pay701, k0_pay702,
        k0_pay703, k0_pay704, k0_pay705, k0_pay706, k0_pay707, k0_pay708, k0_pay709, k0_pay710, k0_pay711, k0_pay712, k0_pay713,
        k0_pay714, k0_pay715, k0_pay716, k0_pay717, k0_pay718, k0_pay719, k0_pay720, k0_pay721, k0_pay722, k0_pay723, k0_pay724,
        k0_pay725, k0_pay726, k0_pay727, k0_pay728, k0_pay729, k0_pay730, k0_pay731, k0_pay732, k0_pay733, k0_pay734, k0_pay735,
        k0_pay736, k0_pay737, k0_pay738, k0_pay739, k0_pay740, k0_pay741, k0_pay742, k0_pay743, k0_pay744, k0_pay745, k0_pay746,
        k0_pay747, k0_pay748, k0_pay749, k0_pay750, k0_pay751, k0_pay752, k0_pay753, k0_pay754, k0_pay755, k0_pay756, k0_pay757,
        k0_pay758, k0_pay759, k0_pay760, k0_pay761, k0_pay762, k0_pay763, k0_pay764, k0_pay765, k0_pay766, k0_pay767, k0_pay768,
        k0_pay769, k0_pay770, k0_pay771, k0_pay772, k0_pay773, k0_pay774, k0_pay775, k0_pay776, k0_pay777, k0_pay778, k0_pay779,
        k0_pay780, k0_pay781, k0_pay782, k0_pay783, k0_pay784, k0_pay785, k0_pay786, k0_pay787, k0_pay788, k0_pay789, k0_pay790,
        k0_pay791, k0_pay792, k0_pay793, k0_pay794, k0_pay795, k0_pay796, k0_pay797, k0_pay798, k0_pay799, k0_pay800, k0_pay801,
        k0_pay802, k0_pay803, k0_pay804, k0_pay805, k0_pay806, k0_pay807, k0_pay808, k0_pay809, k0_pay810, k0_pay811, k0_pay812,
        k0_pay813, k0_pay814, k0_pay815, k0_pay816, k0_pay817, k0_pay818, k0_pay819, k0_pay820, k0_pay821, k0_pay822, k0_pay823,
        k0_pay824, k0_pay825, k0_pay826, k0_pay827, k0_pay828, k0_pay829, k0_pay830, k0_pay831, k0_pay832, k0_pay833, k0_pay834,
        k0_pay835, k0_pay836, k0_pay837]

/-- Where a coordinate plane's places lie in the block. -/
theorem emb_plane (q : ℕ) (inb : ∀ a, (![0, q, 0, 0] : Fin 4 → ℕ) a + (![1, 1, 8, 128] : Fin 4 → ℕ) a ≤ S1x4x8x128.size a)
    (x0 x1 : Fin 1) (x2 : Fin 8) (x3 : Fin 128) :
    (Rect.unit (s := S1x4x8x128) ![0, q, 0, 0] ![1, 1, 8, 128] inb).emb (ix4 x0 x1 x2 x3) = ix4 0 ⟨q, inb 1⟩ x2 x3 := by
  funext a
  refine Fin.ext ?_
  match a with
  | 0 => show 0 + 1 * (x0 : ℕ) = 0; omega
  | 1 => show q + 1 * (x1 : ℕ) = q; omega
  | 2 => show 0 + 1 * (x2 : ℕ) = x2; omega
  | 3 => show 0 + 1 * (x3 : ℕ) = x3; omega

theorem cast_back (v : FVec Ideal S8x128 .f32) (h : S8x128.ShapeCasts S1x8x128) (r : Fin 8) (l : Fin 128) :
    (shapeCast S1x8x128 v h : FVec Ideal S1x8x128 .f32) (ix3 0 r l) = v (ix2 r l) := by
  pointwise

theorem cast_back_plane (v : FVec Ideal S8x128 .f32) (h : S8x128.ShapeCasts S1x1x8x128) (x0 x1 : Fin 1) (r : Fin 8) (l : Fin 128) :
    (shapeCast S1x1x8x128 v h : FVec Ideal S1x1x8x128 .f32) (ix4 x0 x1 r l) = v (ix2 r l) := by
  pointwise

/-- A coordinate of the boxes of one image's block, in the order of the keys. -/
def boxBlock (x : Vec Ideal S1x8x128 .f32) (b : Vec Ideal S1x4x8x128 .f32) : Vec Ideal S1x4x8x128 .f32 := fun y =>
  coord b (y 1) (sortedItems (keys x) (place (y 2) (y 3)))

/-- The sorted keys that a grid point leaves. -/
theorem keys_left (c : Dev nD) (t : Fin cfg0.N) (r : Fin 8) (l : Fin 128) :
    (outsAt0 m c t).1 (ix3 0 r l) = itemKey (sortedItems (keys (iblk m c 0 t)) (place r l)) := by
  rw [(pieces_left m c t).1]
  exact cast_back _ _ r l

/-- The boxes that a grid point leaves. -/
theorem boxes_left (c : Dev nD) (t : Fin cfg0.N) : (outsAt0 m c t).2 = boxBlock (iblk m c 0 t) (iblk m c 1 t) := by
  rw [(pieces_left m c t).2]
  funext y
  refine View.canon_apply_of_pieces (boxBlock (iblk m c 0 t) (iblk m c 1 t)) _ ?_ y ?_
  rotate_left
  · exact View.cover_of_tiledL (s := S1x4x8x128) _ S1x1x8x128.size (by sl_kernel_rfl) y
  simp only [List.forall_mem_cons]
  refine ⟨fun x => ?_, fun x => ?_, fun x => ?_, fun x => ?_, fun p hp => absurd hp List.not_mem_nil⟩
  all_goals
    idx_vars x
    rw [emb_plane]
    exact cast_back_plane _ _ _ _ _ _

end Cert.Kernel4Ideal.Body

end
-- ==== Proof.Ideal4.Value.lean ====
/- The result arrays of the sort as functions of the argument arrays: each grid point writes back one image's blocks. -/
module

public import proofs.«01_k».proof.Proof.Ideal4.Body

@[expose] public section

set_option maxRecDepth 16384

noncomputable section

namespace Cert.Kernel4Ideal.Body

open Cert.Kernel4Ideal Cert.Kernel4Ideal.Gen Cert.Kernel4Ideal.Value Cert.Sorting
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- Where the places of a block of keys lie in the array. -/
theorem place3 (t : Fin cfg0.N) (f : Vec Ideal S4x8x128 .f32) (r : Fin 8) (l : Fin 128) :
    ((cfg0.win 0).blk t).view.read (Elt Ideal) f (ix3 0 r l) = f (ix3 (⟨t, t.isLt⟩ : Fin 4) r l)
    ∧ ((cfg0.win 2).blk t).view.read (Elt Ideal) f (ix3 0 r l) = f (ix3 (⟨t, t.isLt⟩ : Fin 4) r l) := by
  refine ⟨?_, ?_⟩
  all_goals
    refine congrArg f (funext fun a => Fin.ext ?_)
    rcases fin_N0 t with rfl | rfl | rfl | rfl
    all_goals
      match a with
      | 0 => rfl
      | 1 => show 0 + 1 * (r : ℕ) = r; omega
      | 2 => show 0 + 1 * (l : ℕ) = l; omega

/-- Where the places of a block of boxes lie in the array. -/
theorem place4 (t : Fin cfg0.N) (f : Vec Ideal S4x4x8x128 .f32) (k : Fin 4) (r : Fin 8) (l : Fin 128) :
    ((cfg0.win 1).blk t).view.read (Elt Ideal) f (ix4 0 k r l) = f (ix4 (⟨t, t.isLt⟩ : Fin 4) k r l)
    ∧ ((cfg0.win 3).blk t).view.read (Elt Ideal) f (ix4 0 k r l) = f (ix4 (⟨t, t.isLt⟩ : Fin 4) k r l) := by
  refine ⟨?_, ?_⟩
  all_goals
    refine congrArg f (funext fun a => Fin.ext ?_)
    rcases fin_N0 t with rfl | rfl | rfl | rfl
    all_goals
      match a with
      | 0 => rfl
      | 1 => show 0 + 1 * (k : ℕ) = k; omega
      | 2 => show 0 + 1 * (r : ℕ) = r; omega
      | 3 => show 0 + 1 * (l : ℕ) = l; omega

/-- A block's keys are the image's. -/
theorem keys_block (c : Dev nD) (t : Fin cfg0.N) :
    keys (iblk m c 0 t) = imageKeys (m ((c : Thread nD τ).loc main_arg0)) ⟨t, t.isLt⟩ :=
  funext fun i => (place3 t _ (row i) (lane i)).1.trans (congrFun (V_main_arg0 m c) _)

theorem arr2 (c : Dev nD) : (dats m 0 c).arrAt 2 cfg0.N = sortedKeys (m ((c : Thread nD τ).loc main_arg0)) := by
  funext y
  idx_vars y
  obtain ⟨t, rfl⟩ : ∃ t : Fin cfg0.N, y0 = ⟨t, t.isLt⟩ := ⟨⟨y0, y0.isLt⟩, rfl⟩
  refine ((place3 t _ y1 y2).2.symm.trans (congrFun ((blocks2 m c t (flush0_2 t)).trans (flushed2 m c t)) (ix3 0 y1 y2))).trans ?_
  refine (keys_left m c t y1 y2).trans ?_
  rw [itemKey_sorted, keys_block]
  rfl

theorem arr3 (c : Dev nD) : (dats m 0 c).arrAt 3 cfg0.N
    = sortedBoxes (m ((c : Thread nD τ).loc main_arg0)) (m ((c : Thread nD τ).loc main_arg1)) := by
  funext y
  idx_vars y
  obtain ⟨t, rfl⟩ : ∃ t : Fin cfg0.N, y0 = ⟨t, t.isLt⟩ := ⟨⟨y0, y0.isLt⟩, rfl⟩
  refine ((place4 t _ y1 y2 y3).2.symm.trans (congrFun ((blocks3 m c t (flush0_3 t)).trans (flushed3 m c t)) (ix4 0 y1 y2 y3))).trans ?_
  refine (congrFun (boxes_left m c t) (ix4 0 y1 y2 y3)).trans ?_
  show coord (iblk m c 1 t) y1 (sortedItems (keys (iblk m c 0 t)) (place y2 y3)) = _
  rw [keys_block]
  exact (place4 t _ y1 _ _).1.trans (congrFun (V_main_arg1 m c) _)

/-- The launch ends with the sorted keys and the boxes in their order, and the arguments unchanged. -/
theorem value : θ_run defs (onTc (τ := τ) (main (F := Ideal))) ⟨m, fun _ => 0, ρ⟩ (fun r => ∀ c : Dev nD,
      r.2.mem ((c.tc : Thread nD τ).loc main_v0_0) = sortedKeys (m ((c.tc : Thread nD τ).loc main_arg0))
      ∧ r.2.mem ((c.tc : Thread nD τ).loc main_v0_1)
          = sortedBoxes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    obtain ⟨h0, h1, hrest⟩ := h c
    exact ⟨h0.trans (arr2 m c), h1.trans (arr3 m c), hrest⟩) (run_blocks m ρ)

end Cert.Kernel4Ideal.Body

end
-- ==== Proof.Sorting.Stable.lean ====
/- The stable sort of an image's places by their keys alone is the sorting network's order: equal keys stay in the order of their
   places. -/
module

public import proofs.«01_k».proof.Proof.Sorting.Spec
public import Idealize.ShloMosaic.Lib.SortFacts

@[expose] public section

namespace Cert.Sorting

open Idealize.ShloMosaic Idealize.ShloMosaic.SortNet

/-- Over places in increasing order the stable sort by keys alone is the sort by keys and places. -/
theorem stableSort_keys (k : Fin (2 ^ 10) → EReal) (l : List (Fin (2 ^ 10))) (hl : l.Pairwise (· < ·)) :
    stableSort (fun a b => decide (k b < k a)) l = stableSort (greaterFirst (entries k)) l := by
  induction l with
  | nil => rfl
  | cons a l ih =>
    obtain ⟨ha, hl'⟩ := List.pairwise_cons.mp hl
    unfold stableSort
    rw [ih hl']
    refine insertBefore_congr _ _ a _ fun b hb => ?_
    have hab : a < b := ha b ((perm_stableSort _ l).mem_iff.mp hb)
    refine decide_eq_decide.mpr ?_
    rw [lt_iff]
    refine ⟨fun h => Or.inl h, fun h => h.elim id fun h' => absurd h'.2 (not_lt.mpr hab.le)⟩

/-- A sort's place at a position, from its list of places. -/
theorem sortedFrom_ofFn {n : Nat} (B : Fin n → Fin n → Bool) (g : Fin n → Fin n) (h : sortPositions n B = List.ofFn g) (i : Fin n) :
    sortedFrom B i = g i := by
  unfold sortedFrom
  simp only [h, List.get_eq_getElem, List.getElem_ofFn]
  rfl

/-- The place that the stable sort by keys puts at a place is the one that the network puts there. -/
theorem sortedFrom_keys (k : Fin (2 ^ 10) → EReal) (i : Fin (2 ^ 10)) :
    sortedFrom (fun a b => decide (k b < k a)) i = itemPlace (sortedItems k i) := by
  refine sortedFrom_ofFn _ (fun i => itemPlace (sortedItems k i)) ?_ i
  rw [itemPlace_sorted]
  exact stableSort_keys k _ (List.pairwise_lt_finRange _)

end Cert.Sorting
-- ==== Proof.Ref4.Apply.lean ====
/- What the reference of the sort leaves in each of its results, as a function of the arguments. -/
module

public import proofs.«01_k».proof.Proof.Sorting.Stable
public import Idealize.ShloMosaic.Lib.ReduceAll
public import proofs.«01_k».proof.Proof.Gen.Reference4Ideal.Run

@[expose] public section

set_option maxRecDepth 16384

noncomputable section

namespace Cert.Reference4Ideal.Body

open Cert.Reference4Ideal Cert.Reference4Ideal.Facts₀ Cert.Reference4Ideal.Value Cert.Sorting Idealize.ShloMosaic.StableHlo
open Idealize.ShloMosaic Idealize.ShloMosaic.TcCoe Idealize.ShloMosaic.Tactic Idealize.SL.Sem

/-- The keys of one image as a list of places. -/
theorem keys_apply (x : Vec Ideal S4x8x128 .f32) (t : Fin 4) (i : Fin (2 ^ 10)) :
    (shapeCast S4x1024 x shapeCasts_S4x8x128_S4x1024) (ix2 t i) = imageKeys x t i := by
  unfold imageKeys row lane
  pointwise

/-- An index of the second axis, by its coordinate. -/
theorem along_one {m n : Nat} (t : Fin m) (i k : Fin n) : (ix2 t i).along 1 k = ix2 t k := by
  funext a
  match a with
  | ⟨0, _⟩ => rfl
  | ⟨1, _⟩ => rfl

/-- The comparison of two keys asks whether the first is the greater. -/
theorem before_eq (k : Fin (2 ^ 10) → EReal) :
    (fun a b => (FloatOps.cmpfTotal (F := Ideal) (φ := .f32) .gt (k a) (k b)) == 1#1) = fun a b => decide (k b < k a) := by
  funext a b
  show (BitVec.ofBool (decide (k b < k a)) == 1#1) = _
  cases decide (k b < k a) <;> rfl

/-- The sort of the rows of a table by their first components, read at a row and a column. -/
theorem sort_read {m n : Nat} {α β : Type} (gt : α → α → BitVec 1) (k : (⟨2, ![m, n]⟩ : Shape).Idx → α)
    (y : (⟨2, ![m, n]⟩ : Shape).Idx → β) (t : Fin m) (i : Fin n) :
    (Host.sort2 ⟨2, ![m, n]⟩ 1 (fun l r => gt l.1 r.1) k y).1 (ix2 t i)
      = k (ix2 t (sortedFrom (fun a b => gt (k (ix2 t a)) (k (ix2 t b)) == 1#1) i))
    ∧ (Host.sort2 ⟨2, ![m, n]⟩ 1 (fun l r => gt l.1 r.1) k y).2 (ix2 t i)
      = y (ix2 t (sortedFrom (fun a b => gt (k (ix2 t a)) (k (ix2 t b)) == 1#1) i)) := by
  have e : (fun a b : Fin n => gt (k ((ix2 t i).along 1 a)) (k ((ix2 t i).along 1 b)) == 1#1)
      = fun a b => gt (k (ix2 t a)) (k (ix2 t b)) == 1#1 := by
    funext a b
    rw [along_one, along_one]
  rw [← e]
  refine ⟨(congrArg k (along_one t i _)), (congrArg y (along_one t i _))⟩

/-- The greatest of each row of a table in order, all of them, read at a row and a column. -/
theorem topK_read {m n : Nat} {α : Type} (gt : α → α → BitVec 1) (k : (⟨2, ![m, n]⟩ : Shape).Idx → α)
    (h : (⟨2, ![m, n]⟩ : Shape).Slices (fun _ => 0) ⟨2, ![m, n]⟩) (t : Fin m) (i : Fin n) :
    (Host.topK ⟨2, ![m, n]⟩ 1 gt k h).1 (ix2 t i) = k (ix2 t (sortedFrom (fun a b => gt (k (ix2 t a)) (k (ix2 t b)) == 1#1) i))
    ∧ (Host.topK ⟨2, ![m, n]⟩ 1 gt k h).2 (ix2 t i)
      = BitVec.ofNat 32 (sortedFrom (fun a b => gt (k (ix2 t a)) (k (ix2 t b)) == 1#1) i).val := by
  have hz : (fun a : Fin 2 => (⟨0 + (ix2 t i a).val, by rw [Nat.zero_add]; exact (ix2 t i a).isLt⟩ :
      Fin ((⟨2, ![m, n]⟩ : Shape).size a))) = ix2 t i := funext fun a => Fin.ext (Nat.zero_add _)
  have hs := sort_read gt k (fun j => iotaInDim ⟨2, ![m, n]⟩ 32 1 j) t i
  rw [← hz] at hs
  exact hs

theorem topK_sorted (k : FVec Ideal S4x1024 .f32) (t : Fin 4) (i : Fin (2 ^ 10)) :
    (Host.topK S4x1024 1 (FloatOps.cmpfTotal .gt) k sliceFits_S4x1024_S4x1024).1 (ix2 t i)
      = k (ix2 t (itemPlace (sortedItems (fun i => k (ix2 t i)) i)))
    ∧ (Host.topK S4x1024 1 (FloatOps.cmpfTotal .gt) k sliceFits_S4x1024_S4x1024).2 (ix2 t i)
      = BitVec.ofNat 32 (itemPlace (sortedItems (fun i => k (ix2 t i)) i)).val := by
  have hp := sortedFrom_keys (fun i => k (ix2 t i)) i
  rw [← before_eq (fun i => k (ix2 t i))] at hp
  rw [← hp]
  exact topK_read (FloatOps.cmpfTotal .gt) k sliceFits_S4x1024_S4x1024 t i

/-- The greatest keys of an image in order, with the places they come from. -/
theorem topK_apply (k : FVec Ideal S4x1024 .f32) (t : Fin 4) (K : Fin (2 ^ 10) → EReal) (hk : ∀ i, k (ix2 t i) = K i)
    (i : Fin (2 ^ 10)) :
    (Host.topK S4x1024 1 (FloatOps.cmpfTotal .gt) k sliceFits_S4x1024_S4x1024).1 (ix2 t i) = K (itemPlace (sortedItems K i))
    ∧ (Host.topK S4x1024 1 (FloatOps.cmpfTotal .gt) k sliceFits_S4x1024_S4x1024).2 (ix2 t i)
      = BitVec.ofNat 32 (itemPlace (sortedItems K i)).val := by
  obtain rfl : (fun i => k (ix2 t i)) = K := funext hk
  exact topK_sorted k t i

/-- A place's word read as a signed number. -/
theorem place_toInt (p : Fin 1024) : (BitVec.ofNat 32 p.val).toInt = p.val := by
  have hp := p.isLt
  have e : (BitVec.ofNat 32 p.val).toNat = p.val := by rw [BitVec.toNat_ofNat]; omega
  rw [BitVec.toInt_eq_toNat_of_lt (by rw [e]; omega), e]

/-- A place's word is not negative. -/
theorem place_slt (p : Fin 1024) : IntOp.cmpi .slt (BitVec.ofNat 32 p.val) 0#32 = 0#1 := by
  show BitVec.ofBool (BitVec.slt _ _) = _
  rw [BitVec.slt, place_toInt]
  have : ¬ ((p.val : Int) < (0#32 : BitVec 32).toInt) := by
    rw [show (0#32 : BitVec 32).toInt = 0 from rfl]
    omega
  rw [decide_eq_false this]
  rfl

theorem place_sge (p : Fin 1024) : IntOp.cmpi .sge (BitVec.ofNat 32 p.val) 0#32 = 1#1 := by
  show BitVec.ofBool (BitVec.sle _ _) = _
  rw [BitVec.sle, place_toInt]
  have : (0#32 : BitVec 32).toInt ≤ (p.val : Int) := by
    rw [show (0#32 : BitVec 32).toInt = 0 from rfl]
    omega
  rw [decide_eq_true this]
  rfl

/-- A place's word is at most the last place's. -/
theorem place_sle (p : Fin 1024) : IntOp.cmpi .sle (BitVec.ofNat 32 p.val) 1023#32 = 1#1 := by
  show BitVec.ofBool (BitVec.sle _ _) = _
  rw [BitVec.sle, place_toInt]
  have : (p.val : Int) ≤ (1023#32 : BitVec 32).toInt := by
    rw [show (1023#32 : BitVec 32).toInt = 1023 from rfl]
    have := p.isLt
    omega
  rw [decide_eq_true this]
  rfl

theorem two_not_one : (2 : Fin 3) ∉ [(1 : Fin 3)] := by decide

theorem two_not_zero : (2 : Fin 3) ∉ [(0 : Fin 3)] := by decide

/-- A start index in range reads the operand at that place of the same image. -/
theorem gather_apply (b : FVec Ideal S4x1024x4 .f32) (idx : IVec S4x1024x1 32) (t : Fin 4) (i : Fin 1024) (c : Fin 4) (p : Fin 1024)
    (h : idx (ix3 t i 0) = BitVec.ofNat 32 p.val) :
    Host.gather gather_S4x1024x4_S4x1024x1_S4x1024x4_2_1_0_0_1_2_114 b idx (ix3 t i c) = b (ix3 t p c) := by
  unfold Host.gather
  have hi : (idx (ix3 t i 0)).toInt.toNat = p.val := by rw [h, place_toInt, Int.toNat_natCast]
  refine congrArg b (funext fun a => Fin.ext ?_)
  match a with
  | ⟨0, _⟩ =>
    show GatherDims.start _ _ _ 0 + GatherDims.batchCoord _ _ 0 + GatherDims.offCoord _ _ 0 = t.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S4x1024x4_S4x1024x1_S4x1024x4_2_1_0_0_1_2_114.operandBatchingDims from List.mem_singleton.mpr rfl)]
    rfl
  | ⟨1, _⟩ =>
    show GatherDims.start _ _ _ 1 + GatherDims.batchCoord _ _ 1 + GatherDims.offCoord _ _ 1 = p.val
    rw [GatherDims.batchCoord_eq_zero _ _ _ (show (1 : Fin 3) ∉ [(0 : Fin 3)] by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S4x1024x4_S4x1024x1_S4x1024x4_2_1_0_0_1_2_114.startIndexMap from List.mem_singleton.mpr rfl)]
    have hsi : GatherDims.siIdx gather_S4x1024x4_S4x1024x1_S4x1024x4_2_1_0_0_1_2_114 (ix3 t i c)
        ⟨List.idxOf (1 : Fin 3) [1], List.idxOf_lt_length_iff.2 (List.mem_singleton.mpr rfl)⟩ = ix3 t i 0 := by
      funext b; refine Fin.ext ?_
      match b with
      | ⟨0, _⟩ => rfl
      | ⟨1, _⟩ => rfl
      | ⟨2, _⟩ => rfl
    have e := congrArg (fun j => min (idx j).toInt.toNat 1023) hsi
    refine e.trans ?_
    show min (idx (ix3 t i 0)).toInt.toNat 1023 = p.val
    rw [hi]
    have := p.isLt
    omega
  | ⟨2, _⟩ =>
    show GatherDims.start _ _ _ 2 + GatherDims.batchCoord _ _ 2 + GatherDims.offCoord _ _ 2 = c.val
    rw [GatherDims.batchCoord_eq_zero _ _ _ (two_not_zero)]
    unfold GatherDims.start
    rw [dif_neg (show (2 : Fin 3) ∉ gather_S4x1024x4_S4x1024x1_S4x1024x4_2_1_0_0_1_2_114.startIndexMap from two_not_one)]
    simp only [Nat.zero_add, Nat.add_zero]
    unfold GatherDims.offCoord
    rw [dif_pos ((gather_S4x1024x4_S4x1024x1_S4x1024x4_2_1_0_0_1_2_114.mem_sKept 2).mpr ⟨two_not_one, two_not_zero⟩)]
    rfl

variable (N : IVec S4x1024 32) (p : Fin 4 → Fin 1024 → Fin 1024) (hN : ∀ t i, N (ix2 t i) = BitVec.ofNat 32 (p t i).val)

/-- The places as start indices: a negative one would count from the end. -/
def starts : IVec S4x1024x1 32 :=
  select (cmpi .slt (broadcastInDim S4x1024x1 ![0, 1] bcast_S4x1024_S4x1024x1_0_1 N)
      (broadcastInDim S4x1024x1 ![] bcast_S_S4x1024x1 (constantI S_ 32 0#32)))
    (addi (broadcastInDim S4x1024x1 ![0, 1] bcast_S4x1024_S4x1024x1_0_1 N)
      (broadcastInDim S4x1024x1 ![] bcast_S_S4x1024x1 (constantI S_ 32 1024#32)))
    (broadcastInDim S4x1024x1 ![0, 1] bcast_S4x1024_S4x1024x1_0_1 N)

include hN

/-- A start index is the place. -/
theorem starts_apply (t : Fin 4) (i : Fin 1024) : starts N (ix3 t i 0) = BitVec.ofNat 32 (p t i).val := by
  unfold starts
  pointwise
  rw [hN, place_slt]
  rfl

/-- Every start index is in range. -/
theorem in_range (j : S4x1024.Idx) :
    Host.reduce IntOp.andi (andi (cmpi .sge (starts N) (broadcastInDim S4x1024x1 ![] bcast_S_S4x1024x1 (constantI S_ 32 0#32)))
      (cmpi .sle (starts N) (broadcastInDim S4x1024x1 ![0, 1, 2] bcast_S1x1x1_S4x1024x1_0_1_2
        (broadcastInDim S1x1x1 ![2] bcast_S1_S1x1x1_2 (constantI S1 32 1023#32)))))
      (constantI S_ 1 1#1) reducesTo_S4x1024x1_S4x1024_d2 h_S_ j = 1#1 := by
  refine Host.reduce_andi_one _ _ _ _ j rfl fun y => ?_
  obtain ⟨t, i, rfl⟩ : ∃ (t : Fin 4) (i : Fin 1024), y = ix3 t i 0 := ⟨y 0, y 1, funext fun a => by
    match a with
    | ⟨0, _⟩ => rfl
    | ⟨1, _⟩ => rfl
    | ⟨2, _⟩ => exact Fin.ext (by have := (y 2).isLt; show (y 2).val = 0; change (y 2).val < 1 at this; omega)⟩
  show IntOp.andi (IntOp.cmpi .sge (starts N (ix3 t i 0)) 0#32) (IntOp.cmpi .sle (starts N (ix3 t i 0)) 1023#32) = 1#1
  rw [starts_apply N p hN, place_sge, place_sle]
  rfl

omit hN in
/-- The boxes by image, place and coordinate. -/
theorem boxes_apply (b : FVec Ideal S4x4x8x128 .f32) (t : Fin 4) (i : Fin 1024) (c : Fin 4) :
    transpose S4x1024x4 [0, 2, 1] (shapeCast S4x4x1024 b shapeCasts_S4x4x8x128_S4x4x1024) transposes_S4x4x1024_S4x1024x4_0_2_1 (ix3 t i c)
      = b (ix4 t c (row i) (lane i)) := by
  unfold row lane
  pointwise

/-- The boxes taken at the places, by image, coordinate, row and lane. -/
theorem taken_apply (b : FVec Ideal S4x4x8x128 .f32) (t : Fin 4) (c : Fin 4) (r : Fin 8) (l : Fin 128) :
    shapeCast S4x4x8x128 (transpose S4x4x1024 [0, 2, 1] (select (broadcastInDim S4x1024x4 ![0, 1] bcast_S4x1024_S4x1024x4_0_1
        (Host.reduce IntOp.andi (andi (cmpi .sge (starts N) (broadcastInDim S4x1024x1 ![] bcast_S_S4x1024x1 (constantI S_ 32 0#32)))
          (cmpi .sle (starts N) (broadcastInDim S4x1024x1 ![0, 1, 2] bcast_S1x1x1_S4x1024x1_0_1_2
            (broadcastInDim S1x1x1 ![2] bcast_S1_S1x1x1_2 (constantI S1 32 1023#32)))))
          (constantI S_ 1 1#1) reducesTo_S4x1024x1_S4x1024_d2 h_S_))
        (Host.gather gather_S4x1024x4_S4x1024x1_S4x1024x4_2_1_0_0_1_2_114
          (transpose S4x1024x4 [0, 2, 1] (shapeCast S4x4x1024 b shapeCasts_S4x4x8x128_S4x4x1024) transposes_S4x4x1024_S4x1024x4_0_2_1)
          (starts N))
        (broadcastInDim S4x1024x4 ![] bcast_S_S4x1024x4 (constant S_ .f32 0x7FC00000#32)))
      transposes_S4x1024x4_S4x4x1024_0_2_1) shapeCasts_S4x4x1024_S4x4x8x128 (ix4 t c r l)
      = b (ix4 t c (row (p t (place r l))) (lane (p t (place r l)))) := by
  rw [funext (in_range N p hN)]
  generalize hg : Host.gather gather_S4x1024x4_S4x1024x1_S4x1024x4_2_1_0_0_1_2_114 _ (starts N) = g
  have hr : g (ix3 t (place r l) c) = b (ix4 t c (row (p t (place r l))) (lane (p t (place r l)))) := by
    rw [← hg, gather_apply _ _ t (place r l) c (p t (place r l)) (starts_apply N p hN t (place r l)), boxes_apply]
  rw [← hr]
  unfold place
  pointwise

omit hN in
/-- The sorted keys. -/
theorem keys_sorted (x : FVec Ideal S4x8x128 .f32) :
    (shapeCast S4x8x128 ((Host.topK S4x1024 1 (FloatOps.cmpfTotal .gt) (shapeCast S4x1024 x shapeCasts_S4x8x128_S4x1024)
      sliceFits_S4x1024_S4x1024).1) shapeCasts_S4x1024_S4x8x128 : FVec Ideal S4x8x128 .f32) = sortedKeys x := by
  generalize hg : (Host.topK S4x1024 1 (FloatOps.cmpfTotal .gt) (shapeCast S4x1024 x shapeCasts_S4x8x128_S4x1024)
    sliceFits_S4x1024_S4x1024).1 = g
  have hr : ∀ (t : Fin 4) (i : Fin (2 ^ 10)), g (ix2 t i) = imageKeys x t (source x t i) := fun t i => by
    rw [← hg]
    exact (topK_apply _ t (imageKeys x t) (keys_apply x t) i).1
  funext y
  idx_vars y
  refine Eq.trans ?_ (hr _ _)
  unfold place
  pointwise

omit hN in
/-- The places of the sorted keys. -/
theorem places_sorted (x : FVec Ideal S4x8x128 .f32) (t : Fin 4) (i : Fin (2 ^ 10)) :
    (Host.topK S4x1024 1 (FloatOps.cmpfTotal .gt) (shapeCast S4x1024 x shapeCasts_S4x8x128_S4x1024)
      sliceFits_S4x1024_S4x1024).2 (ix2 t i) = BitVec.ofNat 32 (source x t i).val :=
  (topK_apply _ t (imageKeys x t) (keys_apply x t) i).2

omit hN in
/-- What the reference leaves in its results. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = sortedKeys (m ((c.tc : Thread nD τ).loc main_arg0))
      ∧ r.2.mem ((c.tc : Thread nD τ).loc main_v7)
        = sortedBoxes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h0, h1, h2, h3⟩ := h c
    refine ⟨h0.trans (keys_sorted _), h1.trans ?_, h2, h3⟩
    funext y
    obtain ⟨t, k, p, l, rfl⟩ : ∃ (t : Fin 4) (k : Fin 4) (p : Fin 8) (l : Fin 128), y = ix4 t k p l := ⟨y 0, y 1, y 2, y 3, funext fun a => by
      match a with
      | ⟨0, _⟩ => rfl
      | ⟨1, _⟩ => rfl
      | ⟨2, _⟩ => rfl
      | ⟨3, _⟩ => rfl⟩
    exact taken_apply _ _ (places_sorted (m ((c.tc : Thread nD τ).loc main_arg0))) (m ((c.tc : Thread nD τ).loc main_arg1)) t k p l)
    (Cert.Reference4Ideal.Value.run m ρ)

end Cert.Reference4Ideal.Body

end
-- ==== Proof.lean ====
/- The proof of the certificate's claim. -/
module

public import proofs.«01_k».proof.Defs
public import proofs.«01_k».proof.Proof.Bits.Frame
public import proofs.«01_k».proof.Proof.Ideal.Value
public import proofs.«01_k».proof.Proof.Ref.Trip
public import proofs.«01_k».proof.Proof.Bits2.Frame
public import proofs.«01_k».proof.Proof.Ideal2.Value
public import proofs.«01_k».proof.Proof.Ref2.Trip
public import proofs.«01_k».proof.Proof.Gen.Kernel3.Frame
public import proofs.«01_k».proof.Proof.Ideal3.Value
public import proofs.«01_k».proof.Proof.Ref3.Apply
public import proofs.«01_k».proof.Proof.Bits4.Body
public import proofs.«01_k».proof.Proof.Ideal4.Value
public import proofs.«01_k».proof.Proof.Ref4.Apply
public import Idealize.ShloMosaic.Lib.Quiescent

@[expose] public section

noncomputable section

namespace Cert.Proof

open Idealize.ShloMosaic Idealize.ShloMosaic.TcCoe Idealize.ShloMosaic.Tactic Idealize.SL.Sem

/-! ## A level of 1000 boxes -/

/-- The reference's result is the kernel's. -/
theorem results_agree (k : Vec Ideal Cert.KernelIdeal.S4x8x128 .f32) (x : Vec Ideal Cert.KernelIdeal.S4x4x8x128 .f32) :
    Cert.ReferenceIdeal.Step.R_main_v61 (Cert.ReferenceIdeal.Meaning.after x 1000) k = Cert.Nms.result 1000 k x := by
  funext y
  idx_vars y
  exact Cert.ReferenceIdeal.Meaning.result_apply x k y0 y1 y2

theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m ρ m' ρ' _ hargs =>
  ⟨fun c => Cert.Nms.result 1000
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Body.value m ρ,
    (θ_run Cert.ReferenceIdeal.defs _ _).mono (fun r h c => by
      refine ⟨(h c).1.trans ?_, (h c).2⟩
      rw [(hargs c).1, (hargs c).2]
      exact results_agree _ _) (Cert.ReferenceIdeal.Meaning.value m' ρ')⟩

/-! ## A level of 768 boxes -/

theorem results_agree2 (k : Vec Ideal Cert.Kernel2Ideal.S4x8x128 .f32)
    (x : Vec Ideal Cert.Kernel2Ideal.S4x4x8x128 .f32) :
    Cert.Reference2Ideal.Step.R_main_v61 (Cert.Reference2Ideal.Meaning.after x 768) k = Cert.Nms.result 768 k x := by
  funext y
  idx_vars y
  exact Cert.Reference2Ideal.Meaning.result_apply x k y0 y1 y2

theorem reference_frame2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := fun m ρ m' ρ' _ hargs =>
  ⟨fun c => Cert.Nms.result 768
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)),
    Cert.Kernel2Ideal.Body.value m ρ,
    (θ_run Cert.Reference2Ideal.defs _ _).mono (fun r h c => by
      refine ⟨(h c).1.trans ?_, (h c).2⟩
      rw [(hargs c).1, (hargs c).2]
      exact results_agree2 _ _) (Cert.Reference2Ideal.Meaning.value m' ρ')⟩

/-! ## The decoding of the boxes -/

theorem reference_frame3 : Cert.quiescent_Reference3Ideal := fun m ρ _ =>
  (θ_run Cert.Reference3Ideal.defs _ _).mono
    (fun r h => ⟨fun c => (h c).2.2.2.2.2.2, sem_eq_zero_of_no_sems (by decide) r.2⟩)
    (Cert.Reference3Ideal.Body.value m ρ)

theorem algebraic3 : Cert.algebraic_Kernel3Ideal_Reference3Ideal := fun m ρ m' ρ' _ hargs =>
  ⟨_, _, _, _, _, _, Cert.Kernel3Ideal.Body.value m ρ,
    (θ_run Cert.Reference3Ideal.defs _ _).mono (fun r h c => by
      obtain ⟨h0, h1, h2, h3, h4, h5, hrest⟩ := h c
      obtain ⟨e0, e1, e2, e3, e4, e5, e6, e7, e8, e9⟩ := hargs c
      rw [e0] at h0
      rw [e1, e2, e9] at h1
      rw [e3] at h2
      rw [e4, e5, e9] at h3
      rw [e6] at h4
      rw [e7, e8, e9] at h5
      exact ⟨h0, h1, h2, h3, h4, h5, hrest⟩) (Cert.Reference3Ideal.Body.value m' ρ')⟩

/-! ## The sort of 1024 keys with their boxes -/

theorem reference_frame4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Body.value m ρ)

theorem algebraic4 : Cert.algebraic_Kernel4Ideal_Reference4Ideal := fun m ρ m' ρ' _ hargs =>
  ⟨_, _, Cert.Kernel4Ideal.Body.value m ρ,
    (θ_run Cert.Reference4Ideal.defs _ _).mono (fun r h c => by
      obtain ⟨h0, h1, hrest⟩ := h c
      obtain ⟨e0, e1⟩ := hargs c
      rw [e0] at h0
      rw [e0, e1] at h1
      exact ⟨h0, h1, hrest⟩) (Cert.Reference4Ideal.Body.value m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Body.frame m ρ,
  fun m ρ _ => Cert.KernelIdeal.Body.frame (Cert.Nms.out 1000) m ρ Cert.KernelIdeal.Body.leaves,
  reference_frame,
  fun m ρ _ => Cert.Kernel2.Body.frame m ρ,
  fun m ρ _ => Cert.Kernel2Ideal.Body.frame (Cert.Nms.out 768) m ρ Cert.Kernel2Ideal.Body.leaves,
  reference_frame2,
  fun m ρ _ => Cert.Kernel3.Gen.frame m ρ,
  fun m ρ _ => Cert.Kernel3Ideal.Gen.frame m ρ,
  reference_frame3,
  fun m ρ _ => Cert.Kernel4.Gen.frame m ρ,
  fun m ρ _ => Cert.Kernel4Ideal.Gen.frame m ρ,
  reference_frame4, trivial, algebraic, trivial, algebraic2, trivial, algebraic3, trivial, algebraic4⟩

end Cert.Proof

end
